-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69_3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v19)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v19) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v24)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v24) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v65_2)) (v1 : (c : Dev Cert.Kernel9Ideal.nD) → Buf (Elt Ideal) ((c.tc : Thread Cert.Kernel9Ideal.nD Cert.Kernel9Ideal.τ).loc Cert.Kernel9Ideal.main_v65_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v65_2) = v0 c
          ∧ r.2.mem ((c.tc : Thread Cert.Kernel9Ideal.nD Cert.Kernel9Ideal.τ).loc Cert.Kernel9Ideal.main_v65_3) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v56) = v0 c
          ∧ r.2.mem ((c.tc : Thread Cert.Reference9Ideal.nD Cert.Reference9Ideal.τ).loc Cert.Reference9Ideal.main_v57) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4x4096x2048 : Shape := ⟨3, ![4, 4096, 2048]⟩
abbrev S4x4096x3072 : Shape := ⟨3, ![4, 4096, 3072]⟩
abbrev S4x4096x32 : Shape := ⟨3, ![4, 4096, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S16384x2048 : Shape := ⟨2, ![16384, 2048]⟩
abbrev S_ : Shape := ⟨0, ![]⟩
abbrev S4x4096x1024 : Shape := ⟨3, ![4, 4096, 1024]⟩
abbrev S16384x1024 : Shape := ⟨2, ![16384, 1024]⟩
abbrev S16384x7168 : Shape := ⟨2, ![16384, 7168]⟩
abbrev S16384x2632 : Shape := ⟨2, ![16384, 2632]⟩
abbrev S16384x32 : Shape := ⟨2, ![16384, 32]⟩
abbrev S16384x408 : Shape := ⟨2, ![16384, 408]⟩
abbrev S16384x3072 : Shape := ⟨2, ![16384, 3072]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128 : Shape := ⟨1, ![128]⟩
abbrev S128x1 : Shape := ⟨2, ![128, 1]⟩
abbrev S128x2048 : Shape := ⟨2, ![128, 2048]⟩
abbrev S1x128 : Shape := ⟨2, ![1, 128]⟩
abbrev S32x64 : Shape := ⟨2, ![32, 64]⟩
abbrev S1x1x3x3072 : Shape := ⟨4, ![1, 1, 3, 3072]⟩
abbrev S1x1x2x64x128 : Shape := ⟨5, ![1, 1, 2, 64, 128]⟩
abbrev S4x32x64x128 : Shape := ⟨4, ![4, 32, 64, 128]⟩
abbrev S128x512 : Shape := ⟨2, ![128, 512]⟩
abbrev S128x128 : Shape := ⟨2, ![128, 128]⟩
abbrev S1x32x64x128 : Shape := ⟨4, ![1, 32, 64, 128]⟩
abbrev S136x3072 : Shape := ⟨2, ![136, 3072]⟩
abbrev S8x3072 : Shape := ⟨2, ![8, 3072]⟩
abbrev S128x3072 : Shape := ⟨2, ![128, 3072]⟩
abbrev S8x128 : Shape := ⟨2, ![8, 128]⟩
abbrev S8x2048 : Shape := ⟨2, ![8, 2048]⟩
abbrev S1x512 : Shape := ⟨2, ![1, 512]⟩
abbrev S128x256 : Shape := ⟨2, ![128, 256]⟩
abbrev S256x128 : Shape := ⟨2, ![256, 128]⟩
abbrev S64x128 : Shape := ⟨2, ![64, 128]⟩
abbrev S1x1x64x128 : Shape := ⟨4, ![1, 1, 64, 128]⟩

abbrev nBuf : Space → Nat
  | .hbm => 85
  | .vmem => 26
  | .smem => 0
  | _ => 0

abbrev bufTy : (tb : Table) → Fin (tcTables nBuf tb) → BufTy
  | .hbm, ⟨0, _⟩ => ⟨S4x4096x2048, .f32⟩
  | .hbm, ⟨1, _⟩ => ⟨S4x4096x3072, .f32⟩
  | .hbm, ⟨2, _⟩ => ⟨S4x4096x32, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S4x4096x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S4x4096x1024, .f32⟩
  | .hbm, ⟨15, _⟩ => ⟨S16384x1024, .f32⟩
  | .hbm, ⟨16, _⟩ => ⟨S16384x7168, .f32⟩
  | .hbm, ⟨17, _⟩ => ⟨S_, .f32⟩
  | .hbm, ⟨18, _⟩ => ⟨S16384x2632, .f32⟩
  | .hbm, ⟨19, _⟩ => ⟨S16384x32, .f32⟩
  | .hbm, ⟨20, _⟩ => ⟨S_, .f32⟩
  | .hbm, ⟨21, _⟩ => ⟨S16384x408, .f32⟩
  | .hbm, ⟨22, _⟩ => ⟨S16384x3072, .f32⟩
  | .hbm, ⟨23, _⟩ => ⟨S1x4x3072, .f32⟩
  | .hbm, ⟨24, _⟩ => ⟨S1x3072, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S1x2048, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S128, .i32⟩
  | .hbm, ⟨52, _⟩ => ⟨S128x1, .i32⟩
  | .hbm, ⟨53, _⟩ => ⟨S1x2048, .i32⟩
  | .hbm, ⟨54, _⟩ => ⟨S_, .i32⟩
  | .hbm, ⟨55, _⟩ => ⟨S1x2048, .i32⟩
  | .hbm, ⟨56, _⟩ => ⟨S1x2048, .i32⟩
  | .hbm, ⟨57, _⟩ => ⟨S128x2048, .i32⟩
  | .hbm, ⟨58, _⟩ => ⟨S128x2048, .i32⟩
  | .hbm, ⟨59, _⟩ => ⟨S128x2048, .i1⟩
  | .hbm, ⟨60, _⟩ => ⟨S128x2048, .bf16⟩
  | .hbm, ⟨61, _⟩ => ⟨S4x3072, .f32⟩
  | .hbm, ⟨62, _⟩ => ⟨S3072, .f32⟩
  | .hbm, ⟨63, _⟩ => ⟨S1x3072, .f32⟩
  | .hbm, ⟨64, _⟩ => ⟨S32, .f32⟩
  | .hbm, ⟨65, _⟩ => ⟨S_, .i32⟩
  | .hbm, ⟨66, _⟩ => ⟨S_, .f32⟩
  | .hbm, ⟨67, _⟩ => ⟨S128, .f32⟩
  | .hbm, ⟨68, _⟩ => ⟨S1x128, .f32⟩
  | .hbm, ⟨69, _⟩ => ⟨S_, .i32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S32, .f32⟩
  | .hbm, ⟨74, _⟩ => ⟨S32x64, .f32⟩
  | .hbm, ⟨75, _⟩ => ⟨S2048, .f32⟩
  | .hbm, ⟨76, _⟩ => ⟨S1x2048, .f32⟩
  | .hbm, ⟨77, _⟩ => ⟨S2048, .f32⟩
  | .hbm, ⟨78, _⟩ => ⟨S1x2048, .f32⟩
  | .hbm, ⟨79, _⟩ => ⟨S_, .f32⟩
  | .hbm, ⟨80, _⟩ => ⟨S1x1x3x3072, .f32⟩
  | .hbm, ⟨81, _⟩ => ⟨S_, .f32⟩
  | .hbm, ⟨82, _⟩ => ⟨S1x1x2x64x128, .f32⟩
  | .hbm, ⟨83, _⟩ => ⟨S16384x2048, .bf16⟩
  | .hbm, ⟨84, _⟩ => ⟨S4x32x64x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S1x1x3x3072, .f32⟩
  | .local _ .vmem, ⟨11, _⟩ => ⟨S1x1x2x64x128, .f32⟩
  | .local _ .vmem, ⟨12, _⟩ => ⟨S4x3072, .f32⟩
  | .local _ .vmem, ⟨13, _⟩ => ⟨S1x3072, .f32⟩
  | .local _ .vmem, ⟨14, _⟩ => ⟨S1x128, .f32⟩
  | .local _ .vmem, ⟨15, _⟩ => ⟨S1x128, .f32⟩
  | .local _ .vmem, ⟨16, _⟩ => ⟨S1x2048, .f32⟩
  | .local _ .vmem, ⟨17, _⟩ => ⟨S1x2048, .f32⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S1x32x64x128, .f32⟩
  | .local _ .vmem, ⟨22, _⟩ => ⟨S1x32x64x128, .f32⟩
  | .local _ .vmem, ⟨23, _⟩ => ⟨S136x3072, .f32⟩
  | .local _ .vmem, ⟨24, _⟩ => ⟨S128x128, .f32⟩
  | .local _ .vmem, ⟨25, _⟩ => ⟨S128x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_3 : Ref sig .tc := ⟨.hbm, 65, rfl⟩
abbrev main_call1_v0 : Ref sig .tc := ⟨.hbm, 66, rfl⟩
abbrev main_v35 : Ref sig .tc := ⟨.hbm, 67, rfl⟩
abbrev main_v36 : Ref sig .tc := ⟨.hbm, 68, rfl⟩
abbrev main_c_4 : Ref sig .tc := ⟨.hbm, 69, rfl⟩
abbrev main_call2_v0 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_5 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_v47_0 : Ref sig .tc := ⟨.hbm, 83, rfl⟩
abbrev main_v47_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![4, 32], ![false, false]⟩

def k0_cond3 (i : grid0.Coords) : BitVec 1 :=
  let arg1 : BitVec 32 := BitVec.ofNat 32 (i 1).val
  let c31_i32 : BitVec 32 := 31#32
  let v891 : BitVec 1 := Scalar.cmpi .eq arg1 c31_i32
  let v892 : BitVec 32 := Scalar.extui v891
  let c0_i32_183 : BitVec 32 := 0#32
  let v893 : BitVec 1 := Scalar.cmpi .ne v892 c0_i32_183
  v893

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c12_i32 : BitVec 32 := 12#32
  let c0_i32 : BitVec 32 := 0#32
  ![v1.toNat, c12_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c13_i32 : BitVec 32 := 13#32
  let c0_i32 : BitVec 32 := 0#32
  ![v1.toNat, c13_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c20_i32 : BitVec 32 := 20#32
  let c0_i32 : BitVec 32 := 0#32
  ![v1.toNat, c20_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x3x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S4x4096x2048 : Shape := ⟨3, ![4, 4096, 2048]⟩
abbrev S4x4096x3072 : Shape := ⟨3, ![4, 4096, 3072]⟩
abbrev S4x4096x32 : Shape := ⟨3, ![4, 4096, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S4x3x3072 : Shape := ⟨3, ![4, 3, 3072]⟩
abbrev S4x4099x3072 : Shape := ⟨3, ![4, 4099, 3072]⟩
abbrev S1x3072 : Shape := ⟨2, ![1, 3072]⟩
abbrev S1x1x3072 : Shape := ⟨3, ![1, 1, 3072]⟩
abbrev S4x4096x512 : Shape := ⟨3, ![4, 4096, 512]⟩
abbrev S4x4096x32x64 : Shape := ⟨4, ![4, 4096, 32, 64]⟩
abbrev S4x4096x4x128 : Shape := ⟨4, ![4, 4096, 4, 128]⟩
abbrev S4x4096x4x8x128 : Shape := ⟨5, ![4, 4096, 4, 8, 128]⟩
abbrev S4x4096x32x128 : Shape := ⟨4, ![4, 4096, 32, 128]⟩
abbrev S1x1x32 : Shape := ⟨3, ![1, 1, 32]⟩
abbrev S4x32x64x128 : Shape := ⟨4, ![4, 32, 64, 128]⟩
abbrev S4x32x128x32x64 : Shape := ⟨5, ![4, 32, 128, 32, 64]⟩
abbrev S4x32x128x32 : Shape := ⟨4, ![4, 32, 128, 32]⟩
abbrev S4x32x128x32x128 : Shape := ⟨5, ![4, 32, 128, 32, 128]⟩
abbrev S1x1x1x32 : Shape := ⟨4, ![1, 1, 1, 32]⟩
abbrev S4x32x1x32 : Shape := ⟨4, ![4, 32, 1, 32]⟩
abbrev S4x32x128x32x1 : Shape := ⟨5, ![4, 32, 128, 32, 1]⟩
abbrev S4x32x32x64x128 : Shape := ⟨5, ![4, 32, 32, 64, 128]⟩
abbrev S4x32x32 : Shape := ⟨3, ![4, 32, 32]⟩
abbrev S32x4x32x64x128 : Shape := ⟨5, ![32, 4, 32, 64, 128]⟩
abbrev S32x4x32 : Shape := ⟨3, ![32, 4, 32]⟩
abbrev S1x4x32x64x128 : Shape := ⟨5, ![1, 4, 32, 64, 128]⟩
abbrev S1x4x32 : Shape := ⟨3, ![1, 4, 32]⟩
abbrev S4x32 : Shape := ⟨2, ![4, 32]⟩
abbrev S4x32x1x1 : Shape := ⟨4, ![4, 32, 1, 1]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x3072, .f32⟩
  | .hbm, ⟨2, _⟩ => ⟨S4x4096x32, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S_, .f32⟩
  | .hbm, ⟨10, _⟩ => ⟨S4x3x3072, .f32⟩
  | .hbm, ⟨11, _⟩ => ⟨S4x4099x3072, .f32⟩
  | .hbm, ⟨12, _⟩ => ⟨S4x4096x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S4x4096x3072, .f32⟩
  | .hbm, ⟨17, _⟩ => ⟨S4x4096x3072, .f32⟩
  | .hbm, ⟨18, _⟩ => ⟨S_, .f32⟩
  | .hbm, ⟨19, _⟩ => ⟨S4x4096x3072, .f32⟩
  | .hbm, ⟨20, _⟩ => ⟨S4x4096x3072, .f32⟩
  | .hbm, ⟨21, _⟩ => ⟨S4x4096x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S4x4096x3072, .f32⟩
  | .hbm, ⟨26, _⟩ => ⟨S4x4096x3072, .f32⟩
  | .hbm, ⟨27, _⟩ => ⟨S4x4096x3072, .f32⟩
  | .hbm, ⟨28, _⟩ => ⟨S4x4096x3072, .f32⟩
  | .hbm, ⟨29, _⟩ => ⟨S1x3072, .f32⟩
  | .hbm, ⟨30, _⟩ => ⟨S3072, .f32⟩
  | .hbm, ⟨31, _⟩ => ⟨S1x1x3072, .f32⟩
  | .hbm, ⟨32, _⟩ => ⟨S4x4096x3072, .f32⟩
  | .hbm, ⟨33, _⟩ => ⟨S4x4096x3072, .f32⟩
  | .hbm, ⟨34, _⟩ => ⟨S4x4096x3072, .f32⟩
  | .hbm, ⟨35, _⟩ => ⟨S4x4096x3072, .f32⟩
  | .hbm, ⟨36, _⟩ => ⟨S1x3072, .f32⟩
  | .hbm, ⟨37, _⟩ => ⟨S3072, .f32⟩
  | .hbm, ⟨38, _⟩ => ⟨S1x1x3072, .f32⟩
  | .hbm, ⟨39, _⟩ => ⟨S4x4096x3072, .f32⟩
  | .hbm, ⟨40, _⟩ => ⟨S4x4096x3072, .f32⟩
  | .hbm, ⟨41, _⟩ => ⟨S4x4096x3072, .f32⟩
  | .hbm, ⟨42, _⟩ => ⟨S1x1x3072, .f32⟩
  | .hbm, ⟨43, _⟩ => ⟨S4x4096x3072, .f32⟩
  | .hbm, ⟨44, _⟩ => ⟨S4x4096x3072, .f32⟩
  | .hbm, ⟨45, _⟩ => ⟨S4x4096x3072, .f32⟩
  | .hbm, ⟨46, _⟩ => ⟨S4x4096x3072, .f32⟩
  | .hbm, ⟨47, _⟩ => ⟨S_, .f32⟩
  | .hbm, ⟨48, _⟩ => ⟨S4x4096x3072, .f32⟩
  | .hbm, ⟨49, _⟩ => ⟨S4x4096x3072, .f32⟩
  | .hbm, ⟨50, _⟩ => ⟨S_, .f32⟩
  | .hbm, ⟨51, _⟩ => ⟨S4x4096x3072, .f32⟩
  | .hbm, ⟨52, _⟩ => ⟨S4x4096x3072, .f32⟩
  | .hbm, ⟨53, _⟩ => ⟨S4x4096x3072, .f32⟩
  | .hbm, ⟨54, _⟩ => ⟨S4x4096x2048, .f32⟩
  | .hbm, ⟨55, _⟩ => ⟨S4x4096x512, .f32⟩
  | .hbm, ⟨56, _⟩ => ⟨S4x4096x32x64, .f32⟩
  | .hbm, ⟨57, _⟩ => ⟨S4x4096x4x128, .f32⟩
  | .hbm, ⟨58, _⟩ => ⟨S4x4096x4x8x128, .f32⟩
  | .hbm, ⟨59, _⟩ => ⟨S4x4096x32x128, .f32⟩
  | .hbm, ⟨60, _⟩ => ⟨S1x1x32, .f32⟩
  | .hbm, ⟨61, _⟩ => ⟨S4x4096x32, .f32⟩
  | .hbm, ⟨62, _⟩ => ⟨S4x4096x32, .f32⟩
  | .hbm, ⟨63, _⟩ => ⟨S_, .f32⟩
  | .hbm, ⟨64, _⟩ => ⟨S4x4096x32, .f32⟩
  | .hbm, ⟨65, _⟩ => ⟨S4x4096x32, .f32⟩
  | .hbm, ⟨66, _⟩ => ⟨S4x4096x32, .f32⟩
  | .hbm, ⟨67, _⟩ => ⟨S4x4096x32, .f32⟩
  | .hbm, ⟨68, _⟩ => ⟨S4x4096x32, .i1⟩
  | .hbm, ⟨69, _⟩ => ⟨S4x4096x32, .f32⟩
  | .hbm, ⟨70, _⟩ => ⟨S4x4096x32, .f32⟩
  | .hbm, ⟨71, _⟩ => ⟨S4x4096x32, .f32⟩
  | .hbm, ⟨72, _⟩ => ⟨S4x4096x32, .f32⟩
  | .hbm, ⟨73, _⟩ => ⟨S4x4096x32, .f32⟩
  | .hbm, ⟨74, _⟩ => ⟨S4x4096x32, .f32⟩
  | .hbm, ⟨75, _⟩ => ⟨S4x4096x32, .f32⟩
  | .hbm, ⟨76, _⟩ => ⟨S4x4096x32, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S4x32x64x128, .f32⟩
  | .hbm, ⟨81, _⟩ => ⟨S4x32x128x32x64, .f32⟩
  | .hbm, ⟨82, _⟩ => ⟨S4x32x128x32, .f32⟩
  | .hbm, ⟨83, _⟩ => ⟨S4x32x128x32x128, .f32⟩
  | .hbm, ⟨84, _⟩ => ⟨S1x1x1x32, .f32⟩
  | .hbm, ⟨85, _⟩ => ⟨S4x32x128x32, .f32⟩
  | .hbm, ⟨86, _⟩ => ⟨S4x32x128x32, .f32⟩
  | .hbm, ⟨87, _⟩ => ⟨S_, .f32⟩
  | .hbm, ⟨88, _⟩ => ⟨S_, .f32⟩
  | .hbm, ⟨89, _⟩ => ⟨S4x32x128x32, .f32⟩
  | .hbm, ⟨90, _⟩ => ⟨S4x32x1x32, .f32⟩
  | .hbm, ⟨91, _⟩ => ⟨S4x32x128x32, .f32⟩
  | .hbm, ⟨92, _⟩ => ⟨S4x32x128x32, .f32⟩
  | .hbm, ⟨93, _⟩ => ⟨S4x32x128x32, .f32⟩
  | .hbm, ⟨94, _⟩ => ⟨S4x32x128x32, .f32⟩
  | .hbm, ⟨95, _⟩ => ⟨S4x32x128x32x1, .f32⟩
  | .hbm, ⟨96, _⟩ => ⟨S4x32x128x32x64, .f32⟩
  | .hbm, ⟨97, _⟩ => ⟨S4x32x128x32x64, .f32⟩
  | .hbm, ⟨98, _⟩ => ⟨S4x32x32x64x128, .f32⟩
  | .hbm, ⟨99, _⟩ => ⟨S4x32x1x32, .f32⟩
  | .hbm, ⟨100, _⟩ => ⟨S4x32x32, .f32⟩
  | .hbm, ⟨101, _⟩ => ⟨S4x32x32, .f32⟩
  | .hbm, ⟨102, _⟩ => ⟨S32x4x32x64x128, .f32⟩
  | .hbm, ⟨103, _⟩ => ⟨S32x4x32, .f32⟩
  | .hbm, ⟨104, _⟩ => ⟨S_, .i32⟩
  | .hbm, ⟨105, _⟩ => ⟨S32x4x32x64x128, .f32⟩
  | .hbm, ⟨106, _⟩ => ⟨S32x4x32, .f32⟩
  | .hbm, ⟨107, _⟩ => ⟨S_, .i32⟩
  | .hbm, ⟨108, _⟩ => ⟨S4x32x64x128, .f32⟩
  | .hbm, ⟨109, _⟩ => ⟨S_, .i32⟩
  | .hbm, ⟨110, _⟩ => ⟨S_, .i1⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S1x4x32x64x128, .f32⟩
  | .hbm, ⟨116, _⟩ => ⟨S4x32x64x128, .f32⟩
  | .hbm, ⟨117, _⟩ => ⟨S_, .i32⟩
  | .hbm, ⟨118, _⟩ => ⟨S_, .i32⟩
  | .hbm, ⟨119, _⟩ => ⟨S1x4x32, .f32⟩
  | .hbm, ⟨120, _⟩ => ⟨S4x32, .f32⟩
  | .hbm, ⟨121, _⟩ => ⟨S4x32x1x1, .f32⟩
  | .hbm, ⟨122, _⟩ => ⟨S4x32x64x128, .f32⟩
  | .hbm, ⟨123, _⟩ => ⟨S4x32x64x128, .f32⟩
  | .hbm, ⟨124, _⟩ => ⟨S4x32x64x128, .f32⟩
  | .hbm, ⟨125, _⟩ => ⟨S_, .i32⟩
  | .hbm, ⟨126, _⟩ => ⟨S_, .i32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_1 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call2_call0_cst : Ref sig .tc := ⟨.hbm, 87, rfl⟩
abbrev main_call2_call0_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c : Ref sig .tc := ⟨.hbm, 104, rfl⟩
abbrev main_v69_0 : Ref sig .tc := ⟨.hbm, 105, rfl⟩
abbrev main_v69_1 : Ref sig .tc := ⟨.hbm, 106, rfl⟩
abbrev main_v69_2 : Ref sig .tc := ⟨.hbm, 107, rfl⟩
abbrev main_v69_3 : Ref sig .tc := ⟨.hbm, 108, rfl⟩
abbrev main_while0c_c_5 : Ref sig .tc := ⟨.hbm, 109, rfl⟩
abbrev main_while0c_v70 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_call3_c_2 : Ref sig .tc := ⟨.hbm, 114, rfl⟩
abbrev main_while0b_call3_v0 : Ref sig .tc := ⟨.hbm, 115, rfl⟩
abbrev main_while0b_v70 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_v0 : Ref sig .tc := ⟨.hbm, 119, rfl⟩
abbrev main_while0b_v71 : Ref sig .tc := ⟨.hbm, 120, rfl⟩
abbrev main_while0b_v72 : Ref sig .tc := ⟨.hbm, 121, rfl⟩
abbrev main_while0b_v73 : Ref sig .tc := ⟨.hbm, 122, rfl⟩
abbrev main_while0b_v74 : Ref sig .tc := ⟨.hbm, 123, rfl⟩
abbrev main_while0b_v75 : Ref sig .tc := ⟨.hbm, 124, rfl⟩
abbrev main_while0b_c_5 : Ref sig .tc := ⟨.hbm, 125, rfl⟩
abbrev main_while0b_v76 : Ref sig .tc := ⟨.hbm, 126, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x1024 : Shape := ⟨3, ![4, 4096, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 17
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S16384x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1x1024, .f32⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4x4096x1024 : Shape := ⟨3, ![4, 4096, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x1x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x5632, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S_, .f32⟩
  | .hbm, ⟨43, _⟩ => ⟨S4x4096x2816, .f32⟩
  | .hbm, ⟨44, _⟩ => ⟨S4x4096x2816, .f32⟩
  | .hbm, ⟨45, _⟩ => ⟨S_, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S16384x1024 : Shape := ⟨2, ![16384, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 15
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S16384x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024x5632, .bf16⟩
  | .hbm, ⟨13, _⟩ => ⟨S2816x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x1024 : Shape := ⟨3, ![4, 4096, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x5632, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x1024 : Shape := ⟨2, ![4, 1024]⟩
abbrev S1024 : Shape := ⟨1, ![1024]⟩
abbrev S1024x9832 : Shape := ⟨2, ![1024, 9832]⟩
abbrev S1024x2048 : Shape := ⟨2, ![1024, 2048]⟩
abbrev S1024x3072 : Shape := ⟨2, ![1024, 3072]⟩
abbrev S1024x1024 : Shape := ⟨2, ![1024, 1024]⟩
abbrev S1024x512 : Shape := ⟨2, ![1024, 512]⟩
abbrev S1024x7168 : Shape := ⟨2, ![1024, 7168]⟩
abbrev S16384x1024 : Shape := ⟨2, ![16384, 1024]⟩
abbrev S4x1x1024 : Shape := ⟨3, ![4, 1, 1024]⟩
abbrev S1x1024 : Shape := ⟨2, ![1, 1024]⟩
abbrev S16384x7168 : Shape := ⟨2, ![16384, 7168]⟩
abbrev S256x1024 : Shape := ⟨2, ![256, 1024]⟩
abbrev S1x1x1024 : Shape := ⟨3, ![1, 1, 1024]⟩
abbrev S256x7168 : Shape := ⟨2, ![256, 7168]⟩
abbrev S256 : Shape := ⟨1, ![256]⟩
abbrev S256x1 : Shape := ⟨2, ![256, 1]⟩
abbrev S256x512 : Shape := ⟨2, ![256, 512]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x9832, .f32⟩
  | .hbm, ⟨5, _⟩ => ⟨S1024x2048, .f32⟩
  | .hbm, ⟨6, _⟩ => ⟨S1024x3072, .f32⟩
  | .hbm, ⟨7, _⟩ => ⟨S1024x1024, .f32⟩
  | .hbm, ⟨8, _⟩ => ⟨S1024x1024, .f32⟩
  | .hbm, ⟨9, _⟩ => ⟨S1024x2048, .f32⟩
  | .hbm, ⟨10, _⟩ => ⟨S1024x512, .f32⟩
  | .hbm, ⟨11, _⟩ => ⟨S1024x512, .f32⟩
  | .hbm, ⟨12, _⟩ => ⟨S1024x7168, .f32⟩
  | .hbm, ⟨13, _⟩ => ⟨S16384x1024, .f32⟩
  | .hbm, ⟨14, _⟩ => ⟨S4x1x1024, .f32⟩
  | .hbm, ⟨15, _⟩ => ⟨S4x1x1024, .f32⟩
  | .hbm, ⟨16, _⟩ => ⟨S1x1024, .f32⟩
  | .hbm, ⟨17, _⟩ => ⟨S1024x7168, .bf16⟩
  | .hbm, ⟨18, _⟩ => ⟨S16384x7168, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x7168, .bf16⟩
  | .local _ .vmem, ⟨8, _⟩ => ⟨S256x7168, .f32⟩
  | .local _ .vmem, ⟨9, _⟩ => ⟨S256x7168, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x4096x1024 : Shape := ⟨3, ![4, 4096, 1024]⟩
abbrev S4x1024 : Shape := ⟨2, ![4, 1024]⟩
abbrev S1024 : Shape := ⟨1, ![1024]⟩
abbrev S1024x9832 : Shape := ⟨2, ![1024, 9832]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x9832 : Shape := ⟨3, ![4, 4096, 9832]⟩
abbrev S4x4096x2048 : Shape := ⟨3, ![4, 4096, 2048]⟩
abbrev S4x4096x3072 : Shape := ⟨3, ![4, 4096, 3072]⟩
abbrev S4x4096x512 : Shape := ⟨3, ![4, 4096, 512]⟩
abbrev S4x4096x7168 : Shape := ⟨3, ![4, 4096, 7168]⟩
abbrev S16384x7168 : Shape := ⟨2, ![16384, 7168]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x9832, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x4096x9832, .f32⟩
  | .hbm, ⟨31, _⟩ => ⟨S4x4096x2048, .f32⟩
  | .hbm, ⟨32, _⟩ => ⟨S4x4096x3072, .f32⟩
  | .hbm, ⟨33, _⟩ => ⟨S4x4096x1024, .f32⟩
  | .hbm, ⟨34, _⟩ => ⟨S4x4096x1024, .f32⟩
  | .hbm, ⟨35, _⟩ => ⟨S4x4096x2048, .f32⟩
  | .hbm, ⟨36, _⟩ => ⟨S4x4096x512, .f32⟩
  | .hbm, ⟨37, _⟩ => ⟨S4x4096x512, .f32⟩
  | .hbm, ⟨38, _⟩ => ⟨S4x4096x7168, .f32⟩
  | .hbm, ⟨39, _⟩ => ⟨S16384x7168, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x1024 : Shape := ⟨2, ![4, 1024]⟩
abbrev S4x4096x2048 : Shape := ⟨3, ![4, 4096, 2048]⟩
abbrev S1024x1024 : Shape := ⟨2, ![1024, 1024]⟩
abbrev S2048x1024 : Shape := ⟨2, ![2048, 1024]⟩
abbrev S_ : Shape := ⟨0, ![]⟩
abbrev S16384x4096 : Shape := ⟨2, ![16384, 4096]⟩
abbrev S16384x1024 : Shape := ⟨2, ![16384, 1024]⟩
abbrev S16384x7168 : Shape := ⟨2, ![16384, 7168]⟩
abbrev S4x1x1024 : Shape := ⟨3, ![4, 1, 1024]⟩
abbrev S16384x2048 : Shape := ⟨2, ![16384, 2048]⟩
abbrev S256x1024 : Shape := ⟨2, ![256, 1024]⟩
abbrev S1x1x1024 : Shape := ⟨3, ![1, 1, 1024]⟩
abbrev S256x2048 : Shape := ⟨2, ![256, 2048]⟩
abbrev S1x1024 : Shape := ⟨2, ![1, 1024]⟩

abbrev nBuf : Space → Nat
  | .hbm => 26
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x4096x1024, .f32⟩
  | .hbm, ⟨3, _⟩ => ⟨S4x4096x2048, .f32⟩
  | .hbm, ⟨4, _⟩ => ⟨S4x4096x1024, .f32⟩
  | .hbm, ⟨5, _⟩ => ⟨S4x4096x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S_, .f32⟩
  | .hbm, ⟨10, _⟩ => ⟨S16384x4096, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x7168, .f32⟩
  | .hbm, ⟨16, _⟩ => ⟨S16384x1024, .f32⟩
  | .hbm, ⟨17, _⟩ => ⟨S4x1x1024, .f32⟩
  | .hbm, ⟨18, _⟩ => ⟨S16384x1024, .f32⟩
  | .hbm, ⟨19, _⟩ => ⟨S16384x1024, .bf16⟩
  | .hbm, ⟨20, _⟩ => ⟨S16384x2048, .f32⟩
  | .hbm, ⟨21, _⟩ => ⟨S16384x2048, .bf16⟩
  | .hbm, ⟨22, _⟩ => ⟨S1024x1024, .bf16⟩
  | .hbm, ⟨23, _⟩ => ⟨S2048x1024, .bf16⟩
  | .hbm, ⟨24, _⟩ => ⟨S1024x1024, .bf16⟩
  | .hbm, ⟨25, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S2048x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x4096x1024 : Shape := ⟨3, ![4, 4096, 1024]⟩
abbrev S4x1024 : Shape := ⟨2, ![4, 1024]⟩
abbrev S4x4096x2048 : Shape := ⟨3, ![4, 4096, 2048]⟩
abbrev S1024x1024 : Shape := ⟨2, ![1024, 1024]⟩
abbrev S2048x1024 : Shape := ⟨2, ![2048, 1024]⟩
abbrev S_ : Shape := ⟨0, ![]⟩
abbrev S4x1x1024 : Shape := ⟨3, ![4, 1, 1024]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x4096x1024, .f32⟩
  | .hbm, ⟨3, _⟩ => ⟨S4x4096x2048, .f32⟩
  | .hbm, ⟨4, _⟩ => ⟨S4x4096x1024, .f32⟩
  | .hbm, ⟨5, _⟩ => ⟨S4x4096x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel6.lean ====
abbrev S32x4x1024 : Shape := ⟨3, ![32, 4, 1024]⟩
abbrev S32x1024 : Shape := ⟨2, ![32, 1024]⟩
abbrev S1024 : Shape := ⟨1, ![1024]⟩
abbrev S1024x5632 : Shape := ⟨2, ![1024, 5632]⟩
abbrev S2816x1024 : Shape := ⟨2, ![2816, 1024]⟩
abbrev S128x1024 : Shape := ⟨2, ![128, 1024]⟩
abbrev S1x128x1024 : Shape := ⟨3, ![1, 128, 1024]⟩
abbrev S1x1024 : Shape := ⟨2, ![1, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩

abbrev nBuf : Space → Nat
  | .hbm => 23
  | .vmem => 9
  | .smem => 0
  | _ => 0

abbrev bufTy : (tb : Table) → Fin (tcTables nBuf tb) → BufTy
  | .hbm, ⟨0, _⟩ => ⟨S32x4x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S128x1024, .f32⟩
  | .hbm, ⟨9, _⟩ => ⟨S32x4x1024, .f32⟩
  | .hbm, ⟨10, _⟩ => ⟨S128x1024, .f32⟩
  | .hbm, ⟨11, _⟩ => ⟨S1x128x1024, .f32⟩
  | .hbm, ⟨12, _⟩ => ⟨S32x4x1024, .f32⟩
  | .hbm, ⟨13, _⟩ => ⟨S128x1024, .f32⟩
  | .hbm, ⟨14, _⟩ => ⟨S1x128x1024, .f32⟩
  | .hbm, ⟨15, _⟩ => ⟨S32x4x1024, .f32⟩
  | .hbm, ⟨16, _⟩ => ⟨S128x1024, .f32⟩
  | .hbm, ⟨17, _⟩ => ⟨S1x128x1024, .f32⟩
  | .hbm, ⟨18, _⟩ => ⟨S1x1024, .f32⟩
  | .hbm, ⟨19, _⟩ => ⟨S1x1024, .f32⟩
  | .hbm, ⟨20, _⟩ => ⟨S1024x5632, .bf16⟩
  | .hbm, ⟨21, _⟩ => ⟨S2816x1024, .bf16⟩
  | .hbm, ⟨22, _⟩ => ⟨S128x1024, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6Ideal.lean ====
abbrev S32x4x1024 : Shape := ⟨3, ![32, 4, 1024]⟩
abbrev S32x1024 : Shape := ⟨2, ![32, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x5632 : Shape := ⟨3, ![32, 4, 5632]⟩
abbrev S32x4x2816 : Shape := ⟨3, ![32, 4, 2816]⟩
abbrev S128x1024 : Shape := ⟨2, ![128, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S32x4x1024, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S32x4x1, .f32⟩
  | .hbm, ⟨19, _⟩ => ⟨S32x4x1024, .f32⟩
  | .hbm, ⟨20, _⟩ => ⟨S32x4x1024, .f32⟩
  | .hbm, ⟨21, _⟩ => ⟨S1x1x1024, .f32⟩
  | .hbm, ⟨22, _⟩ => ⟨S32x4x1024, .f32⟩
  | .hbm, ⟨23, _⟩ => ⟨S32x4x1024, .f32⟩
  | .hbm, ⟨24, _⟩ => ⟨S32x1x1024, .f32⟩
  | .hbm, ⟨25, _⟩ => ⟨S_, .f32⟩
  | .hbm, ⟨26, _⟩ => ⟨S32x1x1024, .f32⟩
  | .hbm, ⟨27, _⟩ => ⟨S32x1x1024, .f32⟩
  | .hbm, ⟨28, _⟩ => ⟨S32x4x1024, .f32⟩
  | .hbm, ⟨29, _⟩ => ⟨S32x4x1024, .f32⟩
  | .hbm, ⟨30, _⟩ => ⟨S32x1x1024, .f32⟩
  | .hbm, ⟨31, _⟩ => ⟨S32x4x1024, .f32⟩
  | .hbm, ⟨32, _⟩ => ⟨S32x4x1024, .f32⟩
  | .hbm, ⟨33, _⟩ => ⟨S32x1x1024, .f32⟩
  | .hbm, ⟨34, _⟩ => ⟨S_, .f32⟩
  | .hbm, ⟨35, _⟩ => ⟨S32x1x1024, .f32⟩
  | .hbm, ⟨36, _⟩ => ⟨S32x1x1024, .f32⟩
  | .hbm, ⟨37, _⟩ => ⟨S32x4x5632, .f32⟩
  | .hbm, ⟨38, _⟩ => ⟨S32x4x2816, .f32⟩
  | .hbm, ⟨39, _⟩ => ⟨S32x4x2816, .f32⟩
  | .hbm, ⟨40, _⟩ => ⟨S32x4x2816, .f32⟩
  | .hbm, ⟨41, _⟩ => ⟨S32x4x2816, .f32⟩
  | .hbm, ⟨42, _⟩ => ⟨S_, .f32⟩
  | .hbm, ⟨43, _⟩ => ⟨S32x4x2816, .f32⟩
  | .hbm, ⟨44, _⟩ => ⟨S32x4x2816, .f32⟩
  | .hbm, ⟨45, _⟩ => ⟨S_, .f32⟩
  | .hbm, ⟨46, _⟩ => ⟨S32x4x2816, .f32⟩
  | .hbm, ⟨47, _⟩ => ⟨S32x4x2816, .f32⟩
  | .hbm, ⟨48, _⟩ => ⟨S32x4x2816, .f32⟩
  | .hbm, ⟨49, _⟩ => ⟨S32x4x2816, .f32⟩
  | .hbm, ⟨50, _⟩ => ⟨S32x4x1024, .f32⟩
  | .hbm, ⟨51, _⟩ => ⟨S32x4x1024, .f32⟩
  | .hbm, ⟨52, _⟩ => ⟨S32x4x1024, .f32⟩
  | .hbm, ⟨53, _⟩ => ⟨S32x4x1024, .f32⟩
  | .hbm, ⟨54, _⟩ => ⟨S32x4x1024, .f32⟩
  | .hbm, ⟨55, _⟩ => ⟨S_, .f32⟩
  | .hbm, ⟨56, _⟩ => ⟨S32x4, .f32⟩
  | .hbm, ⟨57, _⟩ => ⟨S32x4x1, .f32⟩
  | .hbm, ⟨58, _⟩ => ⟨S_, .f32⟩
  | .hbm, ⟨59, _⟩ => ⟨S32x4x1, .f32⟩
  | .hbm, ⟨60, _⟩ => ⟨S32x4x1, .f32⟩
  | .hbm, ⟨61, _⟩ => ⟨S_, .f32⟩
  | .hbm, ⟨62, _⟩ => ⟨S32x4x1, .f32⟩
  | .hbm, ⟨63, _⟩ => ⟨S32x4x1, .f32⟩
  | .hbm, ⟨64, _⟩ => ⟨S32x4x1, .f32⟩
  | .hbm, ⟨65, _⟩ => ⟨S32x4x1024, .f32⟩
  | .hbm, ⟨66, _⟩ => ⟨S32x4x1024, .f32⟩
  | .hbm, ⟨67, _⟩ => ⟨S1x1x1024, .f32⟩
  | .hbm, ⟨68, _⟩ => ⟨S32x4x1024, .f32⟩
  | .hbm, ⟨69, _⟩ => ⟨S32x4x1024, .f32⟩
  | .hbm, ⟨70, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== Kernel7.lean ====
abbrev S4x4096x1024 : Shape := ⟨3, ![4, 4096, 1024]⟩
abbrev S4x1024 : Shape := ⟨2, ![4, 1024]⟩
abbrev S1024 : Shape := ⟨1, ![1024]⟩
abbrev S1024x9832 : Shape := ⟨2, ![1024, 9832]⟩
abbrev S1024x2048 : Shape := ⟨2, ![1024, 2048]⟩
abbrev S1024x3072 : Shape := ⟨2, ![1024, 3072]⟩
abbrev S1024x1024 : Shape := ⟨2, ![1024, 1024]⟩
abbrev S1024x512 : Shape := ⟨2, ![1024, 512]⟩
abbrev S1024x7168 : Shape := ⟨2, ![1024, 7168]⟩
abbrev S16384x1024 : Shape := ⟨2, ![16384, 1024]⟩
abbrev S4x1x1024 : Shape := ⟨3, ![4, 1, 1024]⟩
abbrev S1x1024 : Shape := ⟨2, ![1, 1024]⟩
abbrev S16384x7168 : Shape := ⟨2, ![16384, 7168]⟩
abbrev S256x1024 : Shape := ⟨2, ![256, 1024]⟩
abbrev S1x1x1024 : Shape := ⟨3, ![1, 1, 1024]⟩
abbrev S256x7168 : Shape := ⟨2, ![256, 7168]⟩
abbrev S256 : Shape := ⟨1, ![256]⟩
abbrev S256x1 : Shape := ⟨2, ![256, 1]⟩
abbrev S256x512 : Shape := ⟨2, ![256, 512]⟩
abbrev S4x4096x7168 : Shape := ⟨3, ![4, 4096, 7168]⟩
abbrev S4x3x7168 : Shape := ⟨3, ![4, 3, 7168]⟩
abbrev S4x3x2048 : Shape := ⟨3, ![4, 3, 2048]⟩
abbrev S4x3x512 : Shape := ⟨3, ![4, 3, 512]⟩
abbrev S4x3x3072 : Shape := ⟨3, ![4, 3, 3072]⟩

abbrev nBuf : Space → Nat
  | .hbm => 25
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x9832, .f32⟩
  | .hbm, ⟨5, _⟩ => ⟨S1024x2048, .f32⟩
  | .hbm, ⟨6, _⟩ => ⟨S1024x3072, .f32⟩
  | .hbm, ⟨7, _⟩ => ⟨S1024x1024, .f32⟩
  | .hbm, ⟨8, _⟩ => ⟨S1024x1024, .f32⟩
  | .hbm, ⟨9, _⟩ => ⟨S1024x2048, .f32⟩
  | .hbm, ⟨10, _⟩ => ⟨S1024x512, .f32⟩
  | .hbm, ⟨11, _⟩ => ⟨S1024x512, .f32⟩
  | .hbm, ⟨12, _⟩ => ⟨S1024x7168, .f32⟩
  | .hbm, ⟨13, _⟩ => ⟨S16384x1024, .f32⟩
  | .hbm, ⟨14, _⟩ => ⟨S4x1x1024, .f32⟩
  | .hbm, ⟨15, _⟩ => ⟨S4x1x1024, .f32⟩
  | .hbm, ⟨16, _⟩ => ⟨S1x1024, .f32⟩
  | .hbm, ⟨17, _⟩ => ⟨S1024x7168, .bf16⟩
  | .hbm, ⟨18, _⟩ => ⟨S16384x7168, .f32⟩
  | .hbm, ⟨19, _⟩ => ⟨S4x4096x7168, .f32⟩
  | .hbm, ⟨20, _⟩ => ⟨S4x3x7168, .f32⟩
  | .hbm, ⟨21, _⟩ => ⟨S4x3x2048, .f32⟩
  | .hbm, ⟨22, _⟩ => ⟨S4x3x512, .f32⟩
  | .hbm, ⟨23, _⟩ => ⟨S4x3x512, .f32⟩
  | .hbm, ⟨24, _⟩ => ⟨S4x3x3072, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x7168, .bf16⟩
  | .local _ .vmem, ⟨8, _⟩ => ⟨S256x7168, .f32⟩
  | .local _ .vmem, ⟨9, _⟩ => ⟨S256x7168, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4x4096x1024 : Shape := ⟨3, ![4, 4096, 1024]⟩
abbrev S4x1024 : Shape := ⟨2, ![4, 1024]⟩
abbrev S1024 : Shape := ⟨1, ![1024]⟩
abbrev S1024x9832 : Shape := ⟨2, ![1024, 9832]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x9832 : Shape := ⟨3, ![4, 4096, 9832]⟩
abbrev S4x4096x3072 : Shape := ⟨3, ![4, 4096, 3072]⟩
abbrev S4x3x3072 : Shape := ⟨3, ![4, 3, 3072]⟩
abbrev S4x4099x3072 : Shape := ⟨3, ![4, 4099, 3072]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x9832, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x4096x9832, .f32⟩
  | .hbm, ⟨31, _⟩ => ⟨S4x4096x3072, .f32⟩
  | .hbm, ⟨32, _⟩ => ⟨S_, .f32⟩
  | .hbm, ⟨33, _⟩ => ⟨S4x3x3072, .f32⟩
  | .hbm, ⟨34, _⟩ => ⟨S4x4099x3072, .f32⟩
  | .hbm, ⟨35, _⟩ => ⟨S4x3x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel8.lean ====
abbrev S32x4x1024 : Shape := ⟨3, ![32, 4, 1024]⟩
abbrev S32x1024 : Shape := ⟨2, ![32, 1024]⟩
abbrev S1024 : Shape := ⟨1, ![1024]⟩
abbrev S1024x9832 : Shape := ⟨2, ![1024, 9832]⟩
abbrev S32x3x3072 : Shape := ⟨3, ![32, 3, 3072]⟩
abbrev S1024x2048 : Shape := ⟨2, ![1024, 2048]⟩
abbrev S1024x3072 : Shape := ⟨2, ![1024, 3072]⟩
abbrev S1024x1024 : Shape := ⟨2, ![1024, 1024]⟩
abbrev S1024x512 : Shape := ⟨2, ![1024, 512]⟩
abbrev S1024x7168 : Shape := ⟨2, ![1024, 7168]⟩
abbrev S128x1024 : Shape := ⟨2, ![128, 1024]⟩
abbrev S1x128x1024 : Shape := ⟨3, ![1, 128, 1024]⟩
abbrev S1x1024 : Shape := ⟨2, ![1, 1024]⟩
abbrev S128x7168 : Shape := ⟨2, ![128, 7168]⟩
abbrev S128 : Shape := ⟨1, ![128]⟩
abbrev S128x1 : Shape := ⟨2, ![128, 1]⟩
abbrev S128x512 : Shape := ⟨2, ![128, 512]⟩
abbrev S32x4x7168 : Shape := ⟨3, ![32, 4, 7168]⟩
abbrev S32x4x2048 : Shape := ⟨3, ![32, 4, 2048]⟩
abbrev S32x4x512 : Shape := ⟨3, ![32, 4, 512]⟩
abbrev S32x4x3072 : Shape := ⟨3, ![32, 4, 3072]⟩
abbrev S32x7x3072 : Shape := ⟨3, ![32, 7, 3072]⟩

abbrev nBuf : Space → Nat
  | .hbm => 31
  | .vmem => 6
  | .smem => 0
  | _ => 0

abbrev bufTy : (tb : Table) → Fin (tcTables nBuf tb) → BufTy
  | .hbm, ⟨0, _⟩ => ⟨S32x4x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x9832, .f32⟩
  | .hbm, ⟨5, _⟩ => ⟨S32x3x3072, .f32⟩
  | .hbm, ⟨6, _⟩ => ⟨S1024x2048, .f32⟩
  | .hbm, ⟨7, _⟩ => ⟨S1024x3072, .f32⟩
  | .hbm, ⟨8, _⟩ => ⟨S1024x1024, .f32⟩
  | .hbm, ⟨9, _⟩ => ⟨S1024x1024, .f32⟩
  | .hbm, ⟨10, _⟩ => ⟨S1024x2048, .f32⟩
  | .hbm, ⟨11, _⟩ => ⟨S1024x512, .f32⟩
  | .hbm, ⟨12, _⟩ => ⟨S1024x512, .f32⟩
  | .hbm, ⟨13, _⟩ => ⟨S1024x7168, .f32⟩
  | .hbm, ⟨14, _⟩ => ⟨S128x1024, .f32⟩
  | .hbm, ⟨15, _⟩ => ⟨S32x4x1024, .f32⟩
  | .hbm, ⟨16, _⟩ => ⟨S128x1024, .f32⟩
  | .hbm, ⟨17, _⟩ => ⟨S1x128x1024, .f32⟩
  | .hbm, ⟨18, _⟩ => ⟨S32x4x1024, .f32⟩
  | .hbm, ⟨19, _⟩ => ⟨S128x1024, .f32⟩
  | .hbm, ⟨20, _⟩ => ⟨S1x128x1024, .f32⟩
  | .hbm, ⟨21, _⟩ => ⟨S1x1024, .f32⟩
  | .hbm, ⟨22, _⟩ => ⟨S1024x7168, .bf16⟩
  | .hbm, ⟨23, _⟩ => ⟨S128x7168, .f32⟩
  | .hbm, ⟨24, _⟩ => ⟨S32x4x7168, .f32⟩
  | .hbm, ⟨25, _⟩ => ⟨S32x4x2048, .f32⟩
  | .hbm, ⟨26, _⟩ => ⟨S32x4x512, .f32⟩
  | .hbm, ⟨27, _⟩ => ⟨S32x4x512, .f32⟩
  | .hbm, ⟨28, _⟩ => ⟨S32x4x3072, .f32⟩
  | .hbm, ⟨29, _⟩ => ⟨S32x7x3072, .f32⟩
  | .hbm, ⟨30, _⟩ => ⟨S32x3x3072, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x7168, .bf16⟩
  | .local _ .vmem, ⟨5, _⟩ => ⟨S128x7168, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference8Ideal.lean ====
abbrev S32x4x1024 : Shape := ⟨3, ![32, 4, 1024]⟩
abbrev S32x1024 : Shape := ⟨2, ![32, 1024]⟩
abbrev S1024 : Shape := ⟨1, ![1024]⟩
abbrev S1024x9832 : Shape := ⟨2, ![1024, 9832]⟩
abbrev S32x3x3072 : Shape := ⟨3, ![32, 3, 3072]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x9832 : Shape := ⟨3, ![32, 4, 9832]⟩
abbrev S32x4x3072 : Shape := ⟨3, ![32, 4, 3072]⟩
abbrev S32x7x3072 : Shape := ⟨3, ![32, 7, 3072]⟩

abbrev nBuf : Space → Nat
  | .hbm => 35
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x9832, .f32⟩
  | .hbm, ⟨5, _⟩ => ⟨S32x3x3072, .f32⟩
  | .hbm, ⟨6, _⟩ => ⟨S32x4x1024, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S32x1x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x4x1024, .f32⟩
  | .hbm, ⟨27, _⟩ => ⟨S32x4x1024, .f32⟩
  | .hbm, ⟨28, _⟩ => ⟨S32x1x1024, .f32⟩
  | .hbm, ⟨29, _⟩ => ⟨S32x4x1024, .f32⟩
  | .hbm, ⟨30, _⟩ => ⟨S32x4x1024, .f32⟩
  | .hbm, ⟨31, _⟩ => ⟨S32x4x9832, .f32⟩
  | .hbm, ⟨32, _⟩ => ⟨S32x4x3072, .f32⟩
  | .hbm, ⟨33, _⟩ => ⟨S32x7x3072, .f32⟩
  | .hbm, ⟨34, _⟩ => ⟨S32x3x3072, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel9.lean ====
abbrev S4x4096x1024 : Shape := ⟨3, ![4, 4096, 1024]⟩
abbrev S4x1024 : Shape := ⟨2, ![4, 1024]⟩
abbrev S1024 : Shape := ⟨1, ![1024]⟩
abbrev S1024x9832 : Shape := ⟨2, ![1024, 9832]⟩
abbrev S1024x1024 : Shape := ⟨2, ![1024, 1024]⟩
abbrev S1024x512 : Shape := ⟨2, ![1024, 512]⟩
abbrev S1024x64 : Shape := ⟨2, ![1024, 64]⟩
abbrev S1024x8 : Shape := ⟨2, ![1024, 8]⟩
abbrev S1024x32 : Shape := ⟨2, ![1024, 32]⟩
abbrev S1024x104 : Shape := ⟨2, ![1024, 104]⟩
abbrev S_ : Shape := ⟨0, ![]⟩
abbrev S1024x3072 : Shape := ⟨2, ![1024, 3072]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S4096x256 : Shape := ⟨2, ![4096, 256]⟩
abbrev S1x4096x256 : Shape := ⟨3, ![1, 4096, 256]⟩
abbrev S2x4096x256 : Shape := ⟨3, ![2, 4096, 256]⟩
abbrev S16 : Shape := ⟨1, ![16]⟩
abbrev S1x16 : Shape := ⟨2, ![1, 16]⟩
abbrev S4096x16 : Shape := ⟨2, ![4096, 16]⟩
abbrev S4096x32 : Shape := ⟨2, ![4096, 32]⟩
abbrev S4096x384 : Shape := ⟨2, ![4096, 384]⟩
abbrev S4096x8 : Shape := ⟨2, ![4096, 8]⟩
abbrev S4096x56 : Shape := ⟨2, ![4096, 56]⟩
abbrev S1x4096x384 : Shape := ⟨3, ![1, 4096, 384]⟩
abbrev S2x4096x384 : Shape := ⟨3, ![2, 4096, 384]⟩
abbrev S16384x1024 : Shape := ⟨2, ![16384, 1024]⟩
abbrev S4x1x1024 : Shape := ⟨3, ![4, 1, 1024]⟩
abbrev S1x1024 : Shape := ⟨2, ![1, 1024]⟩
abbrev S16384x3072 : Shape := ⟨2, ![16384, 3072]⟩
abbrev S65536x128 : Shape := ⟨2, ![65536, 128]⟩
abbrev S512x1024 : Shape := ⟨2, ![512, 1024]⟩
abbrev S1x1x1024 : Shape := ⟨3, ![1, 1, 1024]⟩
abbrev S2x512x256 : Shape := ⟨3, ![2, 512, 256]⟩
abbrev S2x512x384 : Shape := ⟨3, ![2, 512, 384]⟩
abbrev S512x3072 : Shape := ⟨2, ![512, 3072]⟩
abbrev S2048x128 : Shape := ⟨2, ![2048, 128]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x512x128 : Shape := ⟨3, ![1, 512, 128]⟩
abbrev S512x1x128 : Shape := ⟨3, ![512, 1, 128]⟩
abbrev S512x4x128 : Shape := ⟨3, ![512, 4, 128]⟩

abbrev nBuf : Space → Nat
  | .hbm => 87
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x9832, .f32⟩
  | .hbm, ⟨5, _⟩ => ⟨S1024x1024, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x32, .f32⟩
  | .hbm, ⟨12, _⟩ => ⟨S1024x104, .f32⟩
  | .hbm, ⟨13, _⟩ => ⟨S_, .i32⟩
  | .hbm, ⟨14, _⟩ => ⟨S_, .f32⟩
  | .hbm, ⟨15, _⟩ => ⟨S1024x512, .f32⟩
  | .hbm, ⟨16, _⟩ => ⟨S1024x3072, .f32⟩
  | .hbm, ⟨17, _⟩ => ⟨S4096, .i32⟩
  | .hbm, ⟨18, _⟩ => ⟨S4096, .f32⟩
  | .hbm, ⟨19, _⟩ => ⟨S4096x1, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S4096x64, .f32⟩
  | .hbm, ⟨30, _⟩ => ⟨S4096x64, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x256, .f32⟩
  | .hbm, ⟨36, _⟩ => ⟨S_, .f32⟩
  | .hbm, ⟨37, _⟩ => ⟨S4096x256, .f32⟩
  | .hbm, ⟨38, _⟩ => ⟨S4096x256, .f32⟩
  | .hbm, ⟨39, _⟩ => ⟨S1x4096x256, .f32⟩
  | .hbm, ⟨40, _⟩ => ⟨S1x4096x256, .f32⟩
  | .hbm, ⟨41, _⟩ => ⟨S2x4096x256, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S1x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S_, .f32⟩
  | .hbm, ⟨57, _⟩ => ⟨S4096x32, .f32⟩
  | .hbm, ⟨58, _⟩ => ⟨S_, .f32⟩
  | .hbm, ⟨59, _⟩ => ⟨S4096x32, .f32⟩
  | .hbm, ⟨60, _⟩ => ⟨S_, .f32⟩
  | .hbm, ⟨61, _⟩ => ⟨S4096x16, .f32⟩
  | .hbm, ⟨62, _⟩ => ⟨S4096x64, .f32⟩
  | .hbm, ⟨63, _⟩ => ⟨S4096x64, .f32⟩
  | .hbm, ⟨64, _⟩ => ⟨S4096x16, .f32⟩
  | .hbm, ⟨65, _⟩ => ⟨S4096x64, .f32⟩
  | .hbm, ⟨66, _⟩ => ⟨S4096x384, .f32⟩
  | .hbm, ⟨67, _⟩ => ⟨S_, .f32⟩
  | .hbm, ⟨68, _⟩ => ⟨S4096x64, .f32⟩
  | .hbm, ⟨69, _⟩ => ⟨S_, .f32⟩
  | .hbm, ⟨70, _⟩ => ⟨S4096x8, .f32⟩
  | .hbm, ⟨71, _⟩ => ⟨S_, .f32⟩
  | .hbm, ⟨72, _⟩ => ⟨S4096x56, .f32⟩
  | .hbm, ⟨73, _⟩ => ⟨S4096x64, .f32⟩
  | .hbm, ⟨74, _⟩ => ⟨S4096x384, .f32⟩
  | .hbm, ⟨75, _⟩ => ⟨S1x4096x384, .f32⟩
  | .hbm, ⟨76, _⟩ => ⟨S1x4096x384, .f32⟩
  | .hbm, ⟨77, _⟩ => ⟨S2x4096x384, .f32⟩
  | .hbm, ⟨78, _⟩ => ⟨S16384x1024, .f32⟩
  | .hbm, ⟨79, _⟩ => ⟨S4x1x1024, .f32⟩
  | .hbm, ⟨80, _⟩ => ⟨S4x1x1024, .f32⟩
  | .hbm, ⟨81, _⟩ => ⟨S1x1024, .f32⟩
  | .hbm, ⟨82, _⟩ => ⟨S1024x3072, .bf16⟩
  | .hbm, ⟨83, _⟩ => ⟨S16384x3072, .f32⟩
  | .hbm, ⟨84, _⟩ => ⟨S16384x3072, .bf16⟩
  | .hbm, ⟨85, _⟩ => ⟨S65536x128, .f32⟩
  | .hbm, ⟨86, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S2x512x256, .f32⟩
  | .local _ .vmem, ⟨9, _⟩ => ⟨S2x512x256, .f32⟩
  | .local _ .vmem, ⟨10, _⟩ => ⟨S2x512x384, .f32⟩
  | .local _ .vmem, ⟨11, _⟩ => ⟨S2x512x384, .f32⟩
  | .local _ .vmem, ⟨12, _⟩ => ⟨S512x3072, .f32⟩
  | .local _ .vmem, ⟨13, _⟩ => ⟨S512x3072, .f32⟩
  | .local _ .vmem, ⟨14, _⟩ => ⟨S512x3072, .bf16⟩
  | .local _ .vmem, ⟨15, _⟩ => ⟨S512x3072, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65_0 : Ref sig .tc := ⟨.hbm, 83, rfl⟩
abbrev main_v65_1 : Ref sig .tc := ⟨.hbm, 84, rfl⟩
abbrev main_v65_2 : Ref sig .tc := ⟨.hbm, 85, rfl⟩
abbrev main_v65_3 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S4x4096x1024 : Shape := ⟨3, ![4, 4096, 1024]⟩
abbrev S4x1024 : Shape := ⟨2, ![4, 1024]⟩
abbrev S1024 : Shape := ⟨1, ![1024]⟩
abbrev S1024x9832 : Shape := ⟨2, ![1024, 9832]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x9832 : Shape := ⟨3, ![4, 4096, 9832]⟩
abbrev S4x4096x512 : Shape := ⟨3, ![4, 4096, 512]⟩
abbrev S4096 : Shape := ⟨1, ![4096]⟩
abbrev S4x4096x4x128 : Shape := ⟨4, ![4, 4096, 4, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x4x64 : Shape := ⟨4, ![4, 4096, 4, 64]⟩
abbrev S65536x128 : Shape := ⟨2, ![65536, 128]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x9832, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x4096x9832, .f32⟩
  | .hbm, ⟨31, _⟩ => ⟨S4x4096x512, .f32⟩
  | .hbm, ⟨32, _⟩ => ⟨S4x4096x512, .f32⟩
  | .hbm, ⟨33, _⟩ => ⟨S4096, .i32⟩
  | .hbm, ⟨34, _⟩ => ⟨S4x4096x4x128, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S4096, .f32⟩
  | .hbm, ⟨44, _⟩ => ⟨S4096x1, .f32⟩
  | .hbm, ⟨45, _⟩ => ⟨S1x64, .f32⟩
  | .hbm, ⟨46, _⟩ => ⟨S4096x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S1x4096x1x64, .f32⟩
  | .hbm, ⟨51, _⟩ => ⟨S4096x64, .f32⟩
  | .hbm, ⟨52, _⟩ => ⟨S1x4096x1x64, .f32⟩
  | .hbm, ⟨53, _⟩ => ⟨S4x4096x4x64, .f32⟩
  | .hbm, ⟨54, _⟩ => ⟨S4x4096x4x64, .f32⟩
  | .hbm, ⟨55, _⟩ => ⟨S4x4096x4x64, .f32⟩
  | .hbm, ⟨56, _⟩ => ⟨S4x4096x4x64, .f32⟩
  | .hbm, ⟨57, _⟩ => ⟨S4x4096x4x64, .f32⟩
  | .hbm, ⟨58, _⟩ => ⟨S4x4096x4x64, .f32⟩
  | .hbm, ⟨59, _⟩ => ⟨S4x4096x4x64, .f32⟩
  | .hbm, ⟨60, _⟩ => ⟨S4x4096x4x64, .f32⟩
  | .hbm, ⟨61, _⟩ => ⟨S4x4096x4x64, .f32⟩
  | .hbm, ⟨62, _⟩ => ⟨S4x4096x4x64, .f32⟩
  | .hbm, ⟨63, _⟩ => ⟨S4x4096x4x64, .f32⟩
  | .hbm, ⟨64, _⟩ => ⟨S4x4096x4x64, .f32⟩
  | .hbm, ⟨65, _⟩ => ⟨S4x4096x4x128, .f32⟩
  | .hbm, ⟨66, _⟩ => ⟨S4x4096x4x128, .f32⟩
  | .hbm, ⟨67, _⟩ => ⟨S65536x128, .f32⟩
  | .hbm, ⟨68, _⟩ => ⟨S65536x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩

abbrev nD : Nat := 1
abbrev τ : Topo := Topo.v7x

variable {F : FTy → Type} [FloatOps F]
-- ==== Proof.Spec.lean ====
/- The layer's row-wise mathematics in extended reals, shared by the modules that compare a kernel with its reference. -/
module

public import Idealize.ShloMosaic.Lib.Pipeline.ValueKit
public import Idealize.ShloMosaic.Lib.Pointwise

@[expose] public section

noncomputable section

open Idealize.ShloMosaic

namespace Cert.Layer

/-- The reciprocal root mean square of a row of 1024 values. -/
def scaleOf (x : Fin 1024 → EReal) : EReal :=
  Ideal.rsqrt (Ideal.div (∑ k, x k * x k) (Ideal.ofBits FTy.f32 1149239296#32) + Ideal.ofBits FTy.f32 897988541#32)

/-- A row normalised and weighted. -/
def normed (x g : Fin 1024 → EReal) (k : Fin 1024) : EReal := x k * scaleOf x * g k

/-- A row normalised, weighted and modulated by its sequence's scale and shift. -/
def modulated (x g sh sc : Fin 1024 → EReal) (k : Fin 1024) : EReal := normed x g k * (1 + sc k) + sh k

/-- A row times a matrix. -/
def rowMul {n p : ℕ} (h : Fin n → EReal) (w : Fin n → Fin p → EReal) (f : Fin p) : EReal := ∑ k, h k * w k f

/-- The gated hidden unit. -/
def swish (a b : EReal) : EReal := a * Ideal.logistic a * b

/-- The hidden row of the mixer: the two halves of the up projection, the first through the gate. -/
def hidden (h : Fin 1024 → EReal) (w : Fin 1024 → Fin 5632 → EReal) (f : Fin 2816) : EReal :=
  swish (rowMul h w ⟨f.1, by omega⟩) (rowMul h w ⟨2816 + f.1, by omega⟩)

/-- The mixer's residual row. -/
def mixed (x g sh sc gt : Fin 1024 → EReal) (wu : Fin 1024 → Fin 5632 → EReal) (wd : Fin 2816 → Fin 1024 → EReal)
    (k : Fin 1024) : EReal :=
  x k + Ideal.ofBits FTy.f32 1056964608#32 * gt k * rowMul (hidden (modulated x g sh sc) wu) wd k

/-- The last layer's row: the mixer's residual row, normalised and weighted. -/
def closing (x g sh sc gt gf : Fin 1024 → EReal) (wu : Fin 1024 → Fin 5632 → EReal) (wd : Fin 2816 → Fin 1024 → EReal)
    (k : Fin 1024) : EReal :=
  normed (mixed x g sh sc gt wu wd) gf k

end Cert.Layer
end
-- ==== Proof.Mixer.lean ====
/- The channel mixer inside the trunk: what the pipelined call leaves in its result array is the reference's result. -/
module

public import proofs.«01_k».proof.Defs
public import proofs.«01_k».proof.Proof.Spec
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference3Ideal.Mixer
open Cert.Reference3Ideal Cert.Reference3Ideal.Gen

/-- The rows normalised and modulated. -/
def modulated (x : FVec Ideal S4x4096x1024 .f32) (sh sc : FVec Ideal S4x1024 .f32) (g : FVec Ideal S1024 .f32) : FVec Ideal S4x4096x1024 .f32 :=
  (addf (mulf (mulf (mulf (x) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (x) (x)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (g)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (sc))))) (broadcastInDim S4x4096x1024 ![0, 1, 2] bcast_S4x1x1024_S4x4096x1024_0_1_2 (broadcastInDim S4x1x1024 ![0, 2] bcast_S4x1024_S4x1x1024_0_2 (sh))))

/-- The up projection. -/
def up (h : FVec Ideal S4x4096x1024 .f32) (w : FVec Ideal S1024x5632 .f32) : FVec Ideal S4x4096x5632 .f32 :=
  Host.dotGeneral dot_S4x4096x1024_S1024x5632_S4x4096x5632_2_0_01_1_n_n none h w

/-- The gate's product of the two halves. -/
def gated (p : FVec Ideal S4x4096x5632 .f32) : FVec Ideal S4x4096x2816 .f32 :=
  (mulf (mulf (extractStridedSlice S4x4096x2816 ![0, 0, 0] p slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] p slices_S4x4096x5632_S4x4096x2816_0_0_0)))))) (extractStridedSlice S4x4096x2816 ![0, 0, 2816] p slices_S4x4096x5632_S4x4096x2816_0_0_2816))

/-- The residual row with the down projection. -/
def closed (x : FVec Ideal S4x4096x1024 .f32) (gt : FVec Ideal S4x1024 .f32) (u : FVec Ideal S4x4096x2816 .f32) (wd : FVec Ideal S2816x1024 .f32) : FVec Ideal S4x4096x1024 .f32 :=
  (addf (x) (mulf (broadcastInDim S4x4096x1024 ![0, 1, 2] bcast_S4x1x1024_S4x4096x1024_0_1_2 (mulf (broadcastInDim S4x1x1024 ![] bcast_S_S4x1x1024 (constant S_ .f32 0x3F000000#32)) (broadcastInDim S4x1x1024 ![0, 2] bcast_S4x1024_S4x1x1024_0_2 (gt)))) (Host.dotGeneral dot_S4x4096x2816_S2816x1024_S4x4096x1024_2_0_01_1_n_n none u wd)))

variable (x : FVec Ideal S4x4096x1024 .f32) (sh sc gt : FVec Ideal S4x1024 .f32) (g : FVec Ideal S1024 .f32)
  (h : FVec Ideal S4x4096x1024 .f32) (w : FVec Ideal S1024x5632 .f32) (p : FVec Ideal S4x4096x5632 .f32)
  (u : FVec Ideal S4x4096x2816 .f32) (wd : FVec Ideal S2816x1024 .f32)

theorem modulated_at (b : Fin 4) (s : Fin 4096) (k : Fin 1024) : modulated x sh sc g (ix3 b s k) =
    Cert.Layer.modulated (fun k => x (ix3 b s k)) (fun k => g (ix1 k)) (fun k => sh (ix2 b k)) (fun k => sc (ix2 b k)) k := by
  pointwise [modulated]
  rfl

theorem up_at (b : Fin 4) (s : Fin 4096) (f : Fin 5632) : up h w (ix3 b s f) =
    Cert.Layer.rowMul (fun k => h (ix3 b s k)) (fun k f => w (ix2 k f)) f := by
  pointwise [up]
  rfl

theorem gated_at (b : Fin 4) (s : Fin 4096) (f : Fin 2816) : gated p (ix3 b s f) =
    Cert.Layer.swish (p (ix3 b s ⟨f.1, by omega⟩)) (p (ix3 b s ⟨2816 + f.1, by omega⟩)) := by
  pointwise [gated]
  rfl

theorem closed_at (b : Fin 4) (s : Fin 4096) (k : Fin 1024) : closed x gt u wd (ix3 b s k) =
    x (ix3 b s k) + Ideal.ofBits FTy.f32 1056964608#32 * gt (ix2 b k) * Cert.Layer.rowMul (fun k => u (ix3 b s k)) (fun k f => wd (ix2 k f)) k := by
  pointwise [closed]
  rfl

theorem all_at (b : Fin 4) (s : Fin 4096) (k : Fin 1024) : closed x gt (gated (up (modulated x sh sc g) w)) wd (ix3 b s k) =
    Cert.Layer.mixed (fun k => x (ix3 b s k)) (fun k => g (ix1 k)) (fun k => sh (ix2 b k)) (fun k => sc (ix2 b k))
     (fun k => gt (ix2 b k)) (fun k f => w (ix2 k f)) (fun k f => wd (ix2 k f)) k := by
  simp only [closed_at, gated_at, up_at, modulated_at]
  rfl

theorem cast_at (v : FVec Ideal S4x4096x1024 .f32) (r : Fin 16384) (k : Fin 1024) : shapeCast S16384x1024 v shapeCasts_S4x4096x1024_S16384x1024 (ix2 r k) =
   v (ix3 ⟨r.1 / 4096, by omega⟩ ⟨r.1 % 4096, by omega⟩ k) := by
  pointwise

theorem res_eq  (m : (ℓ : Loc Cert.Reference3Ideal.nD Cert.Reference3Ideal.τ Cert.Reference3Ideal.sig) → Buf (Elt Ideal) ℓ) (c : Dev nD) :
   Cert.Reference3Ideal.Value.res_main_v33 m c =
   shapeCast S16384x1024 (closed (m ((c.tc : Thread nD τ).loc main_arg0)) (m ((c.tc : Thread nD τ).loc main_arg3)) (gated (up (modulated (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg5)))) (m ((c.tc : Thread nD τ).loc main_arg6))) shapeCasts_S4x4096x1024_S16384x1024 := rfl
end Cert.Reference3Ideal.Mixer

namespace Cert.Kernel3Ideal.Mixer

open Cert.Kernel3Ideal Cert.Kernel3Ideal.Gen

variable (m : (ℓ : Loc nD τ sig) → Buf (Elt Ideal) ℓ)
variable (m' : (ℓ : Loc Cert.Reference3Ideal.nD Cert.Reference3Ideal.τ Cert.Reference3Ideal.sig) → Buf (Elt Ideal) ℓ)

theorem pay3_at (x : FVec Ideal S512x1024 .f32) (g : FVec Ideal S1x1024 .f32) (sh sc : FVec Ideal S1x1x1024 .f32)
    (wa wb : FVec Ideal S1024x2816 .bf16) (r : Fin 512) (f : Fin 2816) :
    k0_pay3 (F := Ideal) x g sh sc wa wb (ix2 r f) =
      Cert.Layer.swish
        (Cert.Layer.rowMul (Cert.Layer.modulated (fun k => x (ix2 r k)) (fun k => g (ix2 0 k)) (fun k => sh (ix3 0 0 k)) (fun k => sc (ix3 0 0 k)))
          (fun k f => wa (ix2 k f)) f)
        (Cert.Layer.rowMul (Cert.Layer.modulated (fun k => x (ix2 r k)) (fun k => g (ix2 0 k)) (fun k => sh (ix3 0 0 k)) (fun k => sc (ix3 0 0 k)))
          (fun k f => wb (ix2 k f)) f) := by
  pointwise [k0_pay3, k0_pay2]
  rfl

theorem pay1_at (x : FVec Ideal S512x1024 .f32) (u : FVec Ideal S512x2816 .bf16) (wd : FVec Ideal S2816x1024 .bf16) (gt : FVec Ideal S1x1x1024 .f32)
     (r : Fin 512) (k : Fin 1024) :
    k0_pay1 (F := Ideal) x u wd gt (ix2 r k) = x (ix2 r k) + Ideal.ofBits FTy.f32 1056964608#32 * gt (ix3 0 0 k) *
      Cert.Layer.rowMul (fun f => u (ix2 r f)) (fun f k => wd (ix2 f k)) k := by
  pointwise [k0_pay1]
  rfl

theorem pay2_at (x : FVec Ideal S512x1024 .f32) (r : Fin 512) (k : Fin 1024) : k0_pay2 (F := Ideal) x (ix2 r k) = x (ix2 r k) := by
  pointwise [k0_pay2]

/-- The body's stored block, row by row: the mixer's residual row of the staged row. -/
theorem pay_at (x : FVec Ideal S512x1024 .f32) (g : FVec Ideal S1x1024 .f32) (sh sc gt : FVec Ideal S1x1x1024 .f32)
    (wa wb : FVec Ideal S1024x2816 .bf16) (wd : FVec Ideal S2816x1024 .bf16) (wu : Fin 1024 → Fin 5632 → EReal)
    (ha : ∀ k (f : Fin 2816), wa (ix2 k f) = wu k ⟨f.1, by omega⟩)
    (hb : ∀ k (f : Fin 2816), wb (ix2 k f) = wu k ⟨2816 + f.1, by omega⟩) (r : Fin 512) (k : Fin 1024) :
    k0_pay1 (F := Ideal) (k0_pay2 x) (k0_pay3 x g sh sc wa wb) wd gt (ix2 r k) =
      Cert.Layer.mixed (fun k => x (ix2 r k)) (fun k => g (ix2 0 k)) (fun k => sh (ix3 0 0 k)) (fun k => sc (ix3 0 0 k))
        (fun k => gt (ix3 0 0 k)) wu (fun f k => wd (ix2 f k)) k := by
  simp only [pay1_at, pay3_at, pay2_at, ha, hb]
  rfl

/-- Which block each window is on at a grid point: 512 rows of the activations, the modulation of the rows' sequence
    (eight row blocks each), the weights whole. -/
theorem idx : ∀ t : Fin cfg0.N, win0_0.index t = ![t.val, 0] ∧ win0_1.index t = ![t.val / 8, 0, 0]
    ∧ win0_2.index t = ![t.val / 8, 0, 0] ∧ win0_3.index t = ![t.val / 8, 0, 0] ∧ win0_4.index t = ![0, 0]
    ∧ win0_5.index t = ![0, 0] ∧ win0_6.index t = ![0, 0] ∧ win0_7.index t = ![0, 0] ∧ win0_8.index t = ![t.val, 0] :=
  (by decide +kernel : ∀ t : Fin grid0.N, _)

/-- The argument arrays of the two programs agree on device `c`. -/
abbrev Same (c : Dev nD) : Prop :=
  m' ((c.tc : Thread Cert.Reference3Ideal.nD Cert.Reference3Ideal.τ).loc Cert.Reference3Ideal.main_arg0) = m ((c : Thread nD τ).loc main_arg0)
  ∧ m' ((c.tc : Thread Cert.Reference3Ideal.nD Cert.Reference3Ideal.τ).loc Cert.Reference3Ideal.main_arg1) = m ((c : Thread nD τ).loc main_arg1)
  ∧ m' ((c.tc : Thread Cert.Reference3Ideal.nD Cert.Reference3Ideal.τ).loc Cert.Reference3Ideal.main_arg2) = m ((c : Thread nD τ).loc main_arg2)
  ∧ m' ((c.tc : Thread Cert.Reference3Ideal.nD Cert.Reference3Ideal.τ).loc Cert.Reference3Ideal.main_arg3) = m ((c : Thread nD τ).loc main_arg3)
  ∧ m' ((c.tc : Thread Cert.Reference3Ideal.nD Cert.Reference3Ideal.τ).loc Cert.Reference3Ideal.main_arg4) = m ((c : Thread nD τ).loc main_arg4)
  ∧ m' ((c.tc : Thread Cert.Reference3Ideal.nD Cert.Reference3Ideal.τ).loc Cert.Reference3Ideal.main_arg5) = m ((c : Thread nD τ).loc main_arg5)
  ∧ m' ((c.tc : Thread Cert.Reference3Ideal.nD Cert.Reference3Ideal.τ).loc Cert.Reference3Ideal.main_arg6) = m ((c : Thread nD τ).loc main_arg6)

/-- The row of the activations a block's row is. -/
abbrev rowAt (t : Fin cfg0.N) (r : Fin 512) : Fin 16384 := ⟨t.val * 512 + r.val, by have : t.val < 32 := t.isLt; omega⟩

theorem rd0 (c : Dev nD) (t : Fin cfg0.N) (r : Fin 512) (k : Fin 1024) : iblk m c 0 t (ix2 r k) =
    m ((c : Thread nD τ).loc main_arg0) (ix3 (⟨(rowAt t r).val / 4096, by omega⟩ : Fin 4) (⟨(rowAt t r).val % 4096, by omega⟩ : Fin 4096) k) := by
  have ht : t.val < 32 := t.isLt
  blk_simp [iblk, idx t]
  entry_read
  pointwise
  blk_ext [idx t]

theorem rd1 (c : Dev nD) (t : Fin cfg0.N) (r : Fin 512) (k : Fin 1024) : iblk m c 1 t (ix3 0 0 k) =
    m ((c : Thread nD τ).loc main_arg1) (ix2 (⟨(rowAt t r).val / 4096, by omega⟩ : Fin 4) k) := by
  have ht : t.val < 32 := t.isLt
  blk_simp [iblk, idx t]
  entry_read
  pointwise
  blk_ext [idx t]

theorem rd2 (c : Dev nD) (t : Fin cfg0.N) (r : Fin 512) (k : Fin 1024) : iblk m c 2 t (ix3 0 0 k) =
    m ((c : Thread nD τ).loc main_arg2) (ix2 (⟨(rowAt t r).val / 4096, by omega⟩ : Fin 4) k) := by
  have ht : t.val < 32 := t.isLt
  blk_simp [iblk, idx t]
  entry_read
  pointwise
  blk_ext [idx t]

theorem rd3 (c : Dev nD) (t : Fin cfg0.N) (r : Fin 512) (k : Fin 1024) : iblk m c 3 t (ix3 0 0 k) =
    m ((c : Thread nD τ).loc main_arg3) (ix2 (⟨(rowAt t r).val / 4096, by omega⟩ : Fin 4) k) := by
  have ht : t.val < 32 := t.isLt
  blk_simp [iblk, idx t]
  entry_read
  pointwise
  blk_ext [idx t]

theorem rd4 (c : Dev nD) (t : Fin cfg0.N) (k : Fin 1024) : iblk m c 4 t (ix2 0 k) = m ((c : Thread nD τ).loc main_arg4) (ix1 k) := by
  blk_simp [iblk, idx t]
  entry_read
  pointwise
  blk_ext [idx t]

theorem rd6a (c : Dev nD) (t : Fin cfg0.N) (k : Fin 1024) (f : Fin 2816) : View.ld (iblk m c 6 t) r0_3 (ix2 k f) =
    m ((c : Thread nD τ).loc main_arg5) (ix2 k (⟨f.1, by omega⟩ : Fin 5632)) := by
  pointwise
  blk_simp [iblk, idx t]
  entry_read
  pointwise
  blk_ext [idx t]

theorem rd6b (c : Dev nD) (t : Fin cfg0.N) (k : Fin 1024) (f : Fin 2816) : View.ld (iblk m c 6 t) r0_4 (ix2 k f) =
    m ((c : Thread nD τ).loc main_arg5) (ix2 k (⟨2816 + f.1, by omega⟩ : Fin 5632)) := by
  pointwise
  blk_simp [iblk, idx t]
  entry_read
  pointwise
  blk_ext [idx t]

theorem rd7 (c : Dev nD) (t : Fin cfg0.N) (f : Fin 2816) (k : Fin 1024) : iblk m c 7 t (ix2 f k) = m ((c : Thread nD τ).loc main_arg6) (ix2 f k) := by
  blk_simp [iblk, idx t]
  entry_read
  pointwise
  blk_ext [idx t]

/-- The call's result array is the reference's result. -/
theorem final (c : Dev nD) (h : Same m m' c) :
    (dats m 0 c).arrAt 8 (cfgs 0).N = Cert.Reference3Ideal.Value.res_main_v33 m' c := by
  rw [Cert.Reference3Ideal.Mixer.res_eq]
  refine (dats m 0 c).arrAt_eq_of_covers 8 _ (by decide +kernel) fun t _ y => ?_
  obtain ⟨h0, h1, h2, h3, h4, h5, h6⟩ := h
  have ht : t.val < 32 := t.isLt
  blk_simp
  rw [after0_8]; frame_out
  idx_vars y
  have e : ((cfg0.win 8).blk t).view.emb (ix2 y0 y1) = ix2 (rowAt t y0) y1 := by
    blk_ext [idx t]
  refine (pay_at _ _ _ _ _ _ _ _ (fun k f => m ((c : Thread nD τ).loc main_arg5) (ix2 k f)) (rd6a m c t) (rd6b m c t) y0 y1).trans ?_
  refine Eq.trans ?_ (congrArg _ e).symm
  rw [Cert.Reference3Ideal.Mixer.cast_at, Cert.Reference3Ideal.Mixer.all_at]
  simp only [rd0, rd1 m c t y0, rd2 m c t y0, rd3 m c t y0, rd4, rd7, h0, h1, h2, h3, h4, h5, h6]

end Cert.Kernel3Ideal.Mixer

end
-- ==== Proof.Closing.lean ====
/- The channel mixer that closes the trunk: the fused call with the final norm equals the layer written plainly. -/
module

public import proofs.«01_k».proof.Defs
public import proofs.«01_k».proof.Proof.Mixer
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference2Ideal.Mixer
open Cert.Reference2Ideal Cert.Reference2Ideal.Gen

/-- The final norm over an already closed residual row. -/
def normed (x : FVec Ideal S4x4096x1024 .f32) (g : FVec Ideal S1024 .f32) : FVec Ideal S4x4096x1024 .f32 :=
  (mulf (mulf (x) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (x) (x)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (g))))

theorem normed_at (x : FVec Ideal S4x4096x1024 .f32) (g : FVec Ideal S1024 .f32) (b : Fin 4) (s : Fin 4096) (k : Fin 1024) :
    normed x g (ix3 b s k) = Cert.Layer.normed (fun k => x (ix3 b s k)) (fun k => g (ix1 k)) k := by
  pointwise [normed]
  rfl

/-- The reference's result, in stages. -/
theorem res_eq (m : (ℓ : Loc Cert.Reference2Ideal.nD Cert.Reference2Ideal.τ Cert.Reference2Ideal.sig) → Buf (Elt Ideal) ℓ) (c : Dev nD) :
    Cert.Reference2Ideal.Value.res_main_v46 m c =
    shapeCast S16384x1024 (normed (Cert.Reference3Ideal.Mixer.closed (m ((c.tc : Thread nD τ).loc main_arg0)) (m ((c.tc : Thread nD τ).loc main_arg3)) (Cert.Reference3Ideal.Mixer.gated (Cert.Reference3Ideal.Mixer.up (Cert.Reference3Ideal.Mixer.modulated (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg5)))) (m ((c.tc : Thread nD τ).loc main_arg6))) (m ((c.tc : Thread nD τ).loc main_arg7))) shapeCasts_S4x4096x1024_S16384x1024 := rfl
end Cert.Reference2Ideal.Mixer

namespace Cert.Kernel2Ideal.Mixer

open Cert.Kernel2Ideal Cert.Kernel2Ideal.Gen

variable (m : (ℓ : Loc nD τ sig) → Buf (Elt Ideal) ℓ)
variable (m' : (ℓ : Loc Cert.Reference2Ideal.nD Cert.Reference2Ideal.τ Cert.Reference2Ideal.sig) → Buf (Elt Ideal) ℓ)

theorem pay1_at (x : FVec Ideal S512x1024 .f32) (u : FVec Ideal S512x2816 .bf16) (wd : FVec Ideal S2816x1024 .bf16) (gt : FVec Ideal S1x1x1024 .f32)
    (gf : FVec Ideal S1x1024 .f32) (r : Fin 512) (k : Fin 1024) :
    k0_pay1 (F := Ideal) x u wd gt gf (ix2 r k) = Cert.Layer.normed (fun k => x (ix2 r k) + Ideal.ofBits FTy.f32 1056964608#32 * gt (ix3 0 0 k) *
      Cert.Layer.rowMul (fun f => u (ix2 r f)) (fun f k => wd (ix2 f k)) k) (fun k => gf (ix2 0 k)) k := by
  pointwise [k0_pay1]
  rfl

/-- The body's stored block, row by row: the closing row of the staged row. -/
theorem pay_at (x : FVec Ideal S512x1024 .f32) (g gf : FVec Ideal S1x1024 .f32) (sh sc gt : FVec Ideal S1x1x1024 .f32)
    (wa wb : FVec Ideal S1024x2816 .bf16) (wd : FVec Ideal S2816x1024 .bf16) (wu : Fin 1024 → Fin 5632 → EReal)
    (ha : ∀ k (f : Fin 2816), wa (ix2 k f) = wu k ⟨f.1, by omega⟩)
    (hb : ∀ k (f : Fin 2816), wb (ix2 k f) = wu k ⟨2816 + f.1, by omega⟩) (r : Fin 512) (k : Fin 1024) :
    k0_pay1 (F := Ideal) (k0_pay2 x) (k0_pay3 x g sh sc wa wb) wd gt gf (ix2 r k) =
      Cert.Layer.closing (fun k => x (ix2 r k)) (fun k => g (ix2 0 k)) (fun k => sh (ix3 0 0 k)) (fun k => sc (ix3 0 0 k))
        (fun k => gt (ix3 0 0 k)) (fun k => gf (ix2 0 k)) wu (fun f k => wd (ix2 f k)) k := by
  have h3 : k0_pay3 (F := Ideal) x g sh sc wa wb = Cert.Kernel3Ideal.Gen.k0_pay3 (F := Ideal) x g sh sc wa wb := rfl
  have h2 : k0_pay2 (F := Ideal) x = Cert.Kernel3Ideal.Gen.k0_pay2 (F := Ideal) x := rfl
  rw [h3, h2]
  simp only [pay1_at, Cert.Kernel3Ideal.Mixer.pay3_at, Cert.Kernel3Ideal.Mixer.pay2_at, ha, hb]
  rfl

/-- Which block each window is on at a grid point: 512 rows of the activations, the modulation of the rows' sequence
    (eight row blocks each), the weights whole. -/
theorem idx : ∀ t : Fin cfg0.N, win0_0.index t = ![t.val, 0] ∧ win0_1.index t = ![t.val / 8, 0, 0]
    ∧ win0_2.index t = ![t.val / 8, 0, 0] ∧ win0_3.index t = ![t.val / 8, 0, 0] ∧ win0_4.index t = ![0, 0]
    ∧ win0_5.index t = ![0, 0] ∧ win0_6.index t = ![0, 0] ∧ win0_7.index t = ![0, 0] ∧ win0_8.index t = ![t.val, 0] :=
  (by decide +kernel : ∀ t : Fin grid0.N, _)

/-- The argument arrays of the two programs agree on device `c`. -/
abbrev Same (c : Dev nD) : Prop :=
  m' ((c.tc : Thread Cert.Reference2Ideal.nD Cert.Reference2Ideal.τ).loc Cert.Reference2Ideal.main_arg0) = m ((c : Thread nD τ).loc main_arg0)
  ∧ m' ((c.tc : Thread Cert.Reference2Ideal.nD Cert.Reference2Ideal.τ).loc Cert.Reference2Ideal.main_arg1) = m ((c : Thread nD τ).loc main_arg1)
  ∧ m' ((c.tc : Thread Cert.Reference2Ideal.nD Cert.Reference2Ideal.τ).loc Cert.Reference2Ideal.main_arg2) = m ((c : Thread nD τ).loc main_arg2)
  ∧ m' ((c.tc : Thread Cert.Reference2Ideal.nD Cert.Reference2Ideal.τ).loc Cert.Reference2Ideal.main_arg3) = m ((c : Thread nD τ).loc main_arg3)
  ∧ m' ((c.tc : Thread Cert.Reference2Ideal.nD Cert.Reference2Ideal.τ).loc Cert.Reference2Ideal.main_arg4) = m ((c : Thread nD τ).loc main_arg4)
  ∧ m' ((c.tc : Thread Cert.Reference2Ideal.nD Cert.Reference2Ideal.τ).loc Cert.Reference2Ideal.main_arg5) = m ((c : Thread nD τ).loc main_arg5)
  ∧ m' ((c.tc : Thread Cert.Reference2Ideal.nD Cert.Reference2Ideal.τ).loc Cert.Reference2Ideal.main_arg6) = m ((c : Thread nD τ).loc main_arg6)
  ∧ m' ((c.tc : Thread Cert.Reference2Ideal.nD Cert.Reference2Ideal.τ).loc Cert.Reference2Ideal.main_arg7) = m ((c : Thread nD τ).loc main_arg7)

/-- The row of the activations a block's row is. -/
abbrev rowAt (t : Fin cfg0.N) (r : Fin 512) : Fin 16384 := ⟨t.val * 512 + r.val, by have : t.val < 32 := t.isLt; omega⟩

theorem rd0 (c : Dev nD) (t : Fin cfg0.N) (r : Fin 512) (k : Fin 1024) : iblk m c 0 t (ix2 r k) =
    m ((c : Thread nD τ).loc main_arg0) (ix3 (⟨(rowAt t r).val / 4096, by omega⟩ : Fin 4) (⟨(rowAt t r).val % 4096, by omega⟩ : Fin 4096) k) := by
  have ht : t.val < 32 := t.isLt
  blk_simp [iblk, idx t]
  entry_read
  pointwise
  blk_ext [idx t]

theorem rd1 (c : Dev nD) (t : Fin cfg0.N) (r : Fin 512) (k : Fin 1024) : iblk m c 1 t (ix3 0 0 k) =
    m ((c : Thread nD τ).loc main_arg1) (ix2 (⟨(rowAt t r).val / 4096, by omega⟩ : Fin 4) k) := by
  have ht : t.val < 32 := t.isLt
  blk_simp [iblk, idx t]
  entry_read
  pointwise
  blk_ext [idx t]

theorem rd2 (c : Dev nD) (t : Fin cfg0.N) (r : Fin 512) (k : Fin 1024) : iblk m c 2 t (ix3 0 0 k) =
    m ((c : Thread nD τ).loc main_arg2) (ix2 (⟨(rowAt t r).val / 4096, by omega⟩ : Fin 4) k) := by
  have ht : t.val < 32 := t.isLt
  blk_simp [iblk, idx t]
  entry_read
  pointwise
  blk_ext [idx t]

theorem rd3 (c : Dev nD) (t : Fin cfg0.N) (r : Fin 512) (k : Fin 1024) : iblk m c 3 t (ix3 0 0 k) =
    m ((c : Thread nD τ).loc main_arg3) (ix2 (⟨(rowAt t r).val / 4096, by omega⟩ : Fin 4) k) := by
  have ht : t.val < 32 := t.isLt
  blk_simp [iblk, idx t]
  entry_read
  pointwise
  blk_ext [idx t]

theorem rd4 (c : Dev nD) (t : Fin cfg0.N) (k : Fin 1024) : iblk m c 4 t (ix2 0 k) = m ((c : Thread nD τ).loc main_arg4) (ix1 k) := by
  blk_simp [iblk, idx t]
  entry_read
  pointwise
  blk_ext [idx t]

theorem rd5 (c : Dev nD) (t : Fin cfg0.N) (k : Fin 1024) : iblk m c 5 t (ix2 0 k) = m ((c : Thread nD τ).loc main_arg7) (ix1 k) := by
  blk_simp [iblk, idx t]
  entry_read
  pointwise
  blk_ext [idx t]

theorem rd6a (c : Dev nD) (t : Fin cfg0.N) (k : Fin 1024) (f : Fin 2816) : View.ld (iblk m c 6 t) r0_3 (ix2 k f) =
    m ((c : Thread nD τ).loc main_arg5) (ix2 k (⟨f.1, by omega⟩ : Fin 5632)) := by
  pointwise
  blk_simp [iblk, idx t]
  entry_read
  pointwise
  blk_ext [idx t]

theorem rd6b (c : Dev nD) (t : Fin cfg0.N) (k : Fin 1024) (f : Fin 2816) : View.ld (iblk m c 6 t) r0_4 (ix2 k f) =
    m ((c : Thread nD τ).loc main_arg5) (ix2 k (⟨2816 + f.1, by omega⟩ : Fin 5632)) := by
  pointwise
  blk_simp [iblk, idx t]
  entry_read
  pointwise
  blk_ext [idx t]

theorem rd7 (c : Dev nD) (t : Fin cfg0.N) (f : Fin 2816) (k : Fin 1024) : iblk m c 7 t (ix2 f k) = m ((c : Thread nD τ).loc main_arg6) (ix2 f k) := by
  blk_simp [iblk, idx t]
  entry_read
  pointwise
  blk_ext [idx t]

/-- The call's result array is the reference's result. -/
theorem final (c : Dev nD) (h : Same m m' c) :
    (dats m 0 c).arrAt 8 (cfgs 0).N = Cert.Reference2Ideal.Value.res_main_v46 m' c := by
  rw [Cert.Reference2Ideal.Mixer.res_eq]
  refine (dats m 0 c).arrAt_eq_of_covers 8 _ (by decide +kernel) fun t _ y => ?_
  obtain ⟨h0, h1, h2, h3, h4, h5, h6, h7⟩ := h
  have ht : t.val < 32 := t.isLt
  blk_simp
  rw [after0_8]; frame_out
  idx_vars y
  have e : ((cfg0.win 8).blk t).view.emb (ix2 y0 y1) = ix2 (rowAt t y0) y1 := by
    blk_ext [idx t]
  refine (pay_at _ _ _ _ _ _ _ _ _ (fun k f => m ((c : Thread nD τ).loc main_arg5) (ix2 k f)) (rd6a m c t) (rd6b m c t) y0 y1).trans ?_
  refine Eq.trans ?_ (congrArg _ e).symm
  rw [Cert.Reference3Ideal.Mixer.cast_at, Cert.Reference2Ideal.Mixer.normed_at]
  simp only [Cert.Reference3Ideal.Mixer.all_at]
  unfold Cert.Layer.closing
  simp only [rd0, rd1 m c t y0, rd2 m c t y0, rd3 m c t y0, rd4, rd5, rd7, h0, h1, h2, h3, h4, h5, h6, h7]

end Cert.Kernel2Ideal.Mixer

end
-- ==== Proof.Projection.lean ====
/- The wide input projection: the fused call over the reordered columns equals the whole projection, its columns picked out after it. -/
module

public import proofs.«01_k».proof.Defs
public import proofs.«01_k».proof.Proof.Mixer
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer

/-- Which column of the whole input projection stands at a column of the reordered weights. -/
def source (f : Fin 7168) : Fin 9832 :=
  ⟨if f.val < 2048 then 4680 + f.val else if f.val < 4096 then 584 + f.val else if f.val < 6144 then 3688 + f.val else 584 + f.val,
    by have := f.isLt; split_ifs <;> omega⟩

theorem source_val (f : Fin 7168) : (f.val < 2048 → (source f).val = 4680 + f.val) ∧ (2048 ≤ f.val → f.val < 4096 → (source f).val = 584 + f.val)
    ∧ (4096 ≤ f.val → f.val < 6144 → (source f).val = 3688 + f.val) ∧ (6144 ≤ f.val → (source f).val = 584 + f.val) := by
  refine ⟨fun h => ?_, fun h h' => ?_, fun h h' => ?_, fun h => ?_⟩ <;> unfold source <;> simp only <;> split_ifs <;> omega

theorem modulated_congr {x g sh sc x' g' sh' sc' : Fin 1024 → EReal} (hx : ∀ k, x k = x' k) (hg : ∀ k, g k = g' k)
    (hs : ∀ k, sh k = sh' k) (hc : ∀ k, sc k = sc' k) (k : Fin 1024) : modulated x g sh sc k = modulated x' g' sh' sc' k := by
  obtain rfl : x = x' := funext hx
  obtain rfl : g = g' := funext hg
  obtain rfl : sh = sh' := funext hs
  obtain rfl : sc = sc' := funext hc
  rfl

end Cert.Layer

namespace Cert.Reference4Ideal.Projection
open Cert.Reference4Ideal Cert.Reference4Ideal.Gen

/-- The whole projection. -/
def whole (h : FVec Ideal S4x4096x1024 .f32) (w : FVec Ideal S1024x9832 .f32) : FVec Ideal S4x4096x9832 .f32 :=
  Host.dotGeneral dot_S4x4096x1024_S1024x9832_S4x4096x9832_2_0_01_1_n_n none h w

/-- The columns this call computes, in its order. -/
def picked (p : FVec Ideal S4x4096x9832 .f32) : FVec Ideal S4x4096x7168 .f32 :=
  (concatenate S4x4096x7168 2 [⟨S4x4096x2048, (extractStridedSlice S4x4096x2048 ![0, 0, 0] (extractStridedSlice S4x4096x3072 ![0, 0, 4680] p slices_S4x4096x9832_S4x4096x3072_0_0_4680) slices_S4x4096x3072_S4x4096x2048_0_0_0)⟩, ⟨S4x4096x2048, (extractStridedSlice S4x4096x2048 ![0, 0, 2632] p slices_S4x4096x9832_S4x4096x2048_0_0_2632)⟩, ⟨S4x4096x1024, (extractStridedSlice S4x4096x1024 ![0, 0, 7784] p slices_S4x4096x9832_S4x4096x1024_0_0_7784)⟩, ⟨S4x4096x1024, (extractStridedSlice S4x4096x1024 ![0, 0, 8808] p slices_S4x4096x9832_S4x4096x1024_0_0_8808)⟩, ⟨S4x4096x512, (extractStridedSlice S4x4096x512 ![0, 0, 2048] (extractStridedSlice S4x4096x3072 ![0, 0, 4680] p slices_S4x4096x9832_S4x4096x3072_0_0_4680) slices_S4x4096x3072_S4x4096x512_0_0_2048)⟩, ⟨S4x4096x512, (extractStridedSlice S4x4096x512 ![0, 0, 2560] (extractStridedSlice S4x4096x3072 ![0, 0, 4680] p slices_S4x4096x9832_S4x4096x3072_0_0_4680) slices_S4x4096x3072_S4x4096x512_0_0_2560)⟩] concatenates_S4x4096x2048_S4x4096x2048_S4x4096x1024_S4x4096x1024_S4x4096x512_S4x4096x512_S4x4096x7168_d2)

theorem whole_at (h : FVec Ideal S4x4096x1024 .f32) (w : FVec Ideal S1024x9832 .f32) (b : Fin 4) (s : Fin 4096) (f : Fin 9832) :
    whole h w (ix3 b s f) = Cert.Layer.rowMul (fun k => h (ix3 b s k)) (fun k f => w (ix2 k f)) f := by
  pointwise [whole]
  rfl

theorem picked_at (p : FVec Ideal S4x4096x9832 .f32) (b : Fin 4) (s : Fin 4096) (f : Fin 7168) (q : Fin 9832) :
    (f.val < 2048 → q.val = 4680 + f.val) ∧ (2048 ≤ f.val → f.val < 4096 → q.val = 584 + f.val) ∧ (4096 ≤ f.val → f.val < 6144 → q.val = 3688 + f.val)
      ∧ (6144 ≤ f.val → q.val = 584 + f.val) →
    picked p (ix3 b s f) = p (ix3 b s q) := by
  have hf := f.isLt
  have e : ∀ a : Fin 9832, a.val = q.val → p (ix3 b s a) = p (ix3 b s q) := fun a h => by rw [Fin.ext h]
  pointwise [picked]
  intro hq
  split_ifs <;> (refine e _ ?_; simp only; omega)

theorem cast_at (v : FVec Ideal S4x4096x7168 .f32) (r : Fin 16384) (k : Fin 7168) : shapeCast S16384x7168 v shapeCasts_S4x4096x7168_S16384x7168 (ix2 r k) =
    v (ix3 ⟨r.1 / 4096, by omega⟩ ⟨r.1 % 4096, by omega⟩ k) := by
  pointwise

/-- The reference's result, in stages. -/
theorem res_eq (m : (ℓ : Loc Cert.Reference4Ideal.nD Cert.Reference4Ideal.τ Cert.Reference4Ideal.sig) → Buf (Elt Ideal) ℓ) (c : Dev nD) :
    Cert.Reference4Ideal.Value.res_main_v30 m c = shapeCast S16384x7168 (picked (whole (Cert.Reference3Ideal.Mixer.modulated
      (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)))) shapeCasts_S4x4096x7168_S16384x7168 := rfl

end Cert.Reference4Ideal.Projection

namespace Cert.Kernel4Ideal.Projection

open Cert.Kernel4Ideal Cert.Kernel4Ideal.Gen

theorem pay1_at (x : FVec Ideal S256x1024 .f32) (g : FVec Ideal S1x1024 .f32) (sh sc : FVec Ideal S1x1x1024 .f32) (r : Fin 256) (k : Fin 1024) :
    k0_pay1 (F := Ideal) x g sh sc (ix2 r k) = Cert.Layer.modulated (fun k => x (ix2 r k)) (fun k => g (ix2 0 k)) (fun k => sh (ix3 0 0 k)) (fun k => sc (ix3 0 0 k)) k := by
  pointwise [k0_pay1]
  rfl

theorem pay4_at (h : FVec Ideal S256x1024 .bf16) (w : FVec Ideal S1024x512 .bf16) (r : Fin 256) (f : Fin 512) :
    k0_pay4 (F := Ideal) h w (ix2 r f) = Cert.Layer.rowMul (fun k => h (ix2 r k)) (fun k f => w (ix2 k f)) f := by
  pointwise [k0_pay4]
  rfl

theorem pay5_at (h : FVec Ideal S256x1024 .bf16) (w : FVec Ideal S1024x512 .bf16) (r : Fin 256) (f : Fin 512) :
    k0_pay5 (F := Ideal) h w (ix2 r f) = Cert.Layer.rowMul (fun k => h (ix2 r k)) (fun k f => w (ix2 k f)) f := pay4_at h w r f

theorem pay6_at (h : FVec Ideal S256x1024 .bf16) (w : FVec Ideal S1024x512 .bf16) (r : Fin 256) (f : Fin 512) :
    k0_pay6 (F := Ideal) h w (ix2 r f) = Cert.Layer.rowMul (fun k => h (ix2 r k)) (fun k f => w (ix2 k f)) f := pay4_at h w r f

theorem pay7_at (h : FVec Ideal S256x1024 .bf16) (w : FVec Ideal S1024x512 .bf16) (r : Fin 256) (f : Fin 512) :
    k0_pay7 (F := Ideal) h w (ix2 r f) = Cert.Layer.rowMul (fun k => h (ix2 r k)) (fun k f => w (ix2 k f)) f := pay4_at h w r f

theorem pay8_at (h : FVec Ideal S256x1024 .bf16) (w : FVec Ideal S1024x512 .bf16) (r : Fin 256) (f : Fin 512) :
    k0_pay8 (F := Ideal) h w (ix2 r f) = Cert.Layer.rowMul (fun k => h (ix2 r k)) (fun k f => w (ix2 k f)) f := pay4_at h w r f

theorem pay9_at (h : FVec Ideal S256x1024 .bf16) (w : FVec Ideal S1024x512 .bf16) (r : Fin 256) (f : Fin 512) :
    k0_pay9 (F := Ideal) h w (ix2 r f) = Cert.Layer.rowMul (fun k => h (ix2 r k)) (fun k f => w (ix2 k f)) f := pay4_at h w r f

theorem pay10_at (h : FVec Ideal S256x1024 .bf16) (w : FVec Ideal S1024x512 .bf16) (r : Fin 256) (f : Fin 512) :
    k0_pay10 (F := Ideal) h w (ix2 r f) = Cert.Layer.rowMul (fun k => h (ix2 r k)) (fun k f => w (ix2 k f)) f := pay4_at h w r f

theorem pay11_at (h : FVec Ideal S256x1024 .bf16) (w : FVec Ideal S1024x512 .bf16) (r : Fin 256) (f : Fin 512) :
    k0_pay11 (F := Ideal) h w (ix2 r f) = Cert.Layer.rowMul (fun k => h (ix2 r k)) (fun k f => w (ix2 k f)) f := pay4_at h w r f

theorem pay12_at (h : FVec Ideal S256x1024 .bf16) (w : FVec Ideal S1024x512 .bf16) (r : Fin 256) (f : Fin 512) :
    k0_pay12 (F := Ideal) h w (ix2 r f) = Cert.Layer.rowMul (fun k => h (ix2 r k)) (fun k f => w (ix2 k f)) f := pay4_at h w r f

theorem pay13_at (h : FVec Ideal S256x1024 .bf16) (w : FVec Ideal S1024x512 .bf16) (r : Fin 256) (f : Fin 512) :
    k0_pay13 (F := Ideal) h w (ix2 r f) = Cert.Layer.rowMul (fun k => h (ix2 r k)) (fun k f => w (ix2 k f)) f := pay4_at h w r f

theorem pay14_at (h : FVec Ideal S256x1024 .bf16) (w : FVec Ideal S1024x512 .bf16) (r : Fin 256) (f : Fin 512) :
    k0_pay14 (F := Ideal) h w (ix2 r f) = Cert.Layer.rowMul (fun k => h (ix2 r k)) (fun k f => w (ix2 k f)) f := pay4_at h w r f

theorem pay15_at (h : FVec Ideal S256x1024 .bf16) (w : FVec Ideal S1024x512 .bf16) (r : Fin 256) (f : Fin 512) :
    k0_pay15 (F := Ideal) h w (ix2 r f) = Cert.Layer.rowMul (fun k => h (ix2 r k)) (fun k f => w (ix2 k f)) f := pay4_at h w r f

theorem pay2_at (x : FVec Ideal S256x1024 .f32) (g : FVec Ideal S1x1024 .f32) (sh sc : FVec Ideal S1x1x1024 .f32) (w : FVec Ideal S1024x512 .bf16) (r : Fin 256) (f : Fin 512) :
    k0_pay2 (F := Ideal) x g sh sc w (ix2 r f) = Cert.Layer.rowMul (Cert.Layer.modulated (fun k => x (ix2 r k)) (fun k => g (ix2 0 k)) (fun k => sh (ix3 0 0 k)) (fun k => sc (ix3 0 0 k))) (fun k f => w (ix2 k f)) f := by
  refine (pay4_at (k0_pay1 (F := Ideal) x g sh sc) w r f).trans ?_
  simp only [pay1_at]

theorem pay3_at (x : FVec Ideal S256x1024 .f32) (g : FVec Ideal S1x1024 .f32) (sh sc : FVec Ideal S1x1x1024 .f32) (w : FVec Ideal S1024x512 .bf16) (r : Fin 256) (f : Fin 512) :
    k0_pay3 (F := Ideal) x g sh sc w (ix2 r f) = Cert.Layer.rowMul (Cert.Layer.modulated (fun k => x (ix2 r k)) (fun k => g (ix2 0 k)) (fun k => sh (ix3 0 0 k)) (fun k => sc (ix3 0 0 k))) (fun k f => w (ix2 k f)) f := by
  refine (pay4_at (k0_pay1 (F := Ideal) x g sh sc) w r f).trans ?_
  simp only [pay1_at]

theorem ld0_at (x : Vec Ideal S256x1024 .f32) (r : Fin 256) (k : Fin 1024) : View.ld x r0_0 (ix2 r k) = x (ix2 r k) := by
  pointwise

theorem ld1_at (x : Vec Ideal S1x1024 .f32) (k : Fin 1024) : View.ld x r0_1 (ix2 0 k) = x (ix2 0 k) := by
  pointwise

theorem ld2_at (x : Vec Ideal S1x1x1024 .f32) (k : Fin 1024) : View.ld x r0_2 (ix3 0 0 k) = x (ix3 0 0 k) := by
  pointwise

/-- The body's stored block: every column tile is the modulated row times that tile of the weights. -/
theorem out_at (x : Vec Ideal S256x1024 .f32) (sh sc : Vec Ideal S1x1x1024 .f32) (g : Vec Ideal S1x1024 .f32) (w : Vec Ideal S1024x7168 .bf16)
    (y : S256x7168.Idx) : out0_5 (F := Ideal) x sh sc g w y = Cert.Layer.rowMul (Cert.Layer.modulated (fun k => x (ix2 (y 0) k)) (fun k => g (ix2 0 k)) (fun k => sh (ix3 0 0 k)) (fun k => sc (ix3 0 0 k)))
      (fun k f => w (ix2 k f)) (y 1) := by
  unfold_out out0_5
  canon_tiles z hz
  all_goals
    idx_vars z
    idx_vars y
    obtain rfl : y0 = z0 := Fin.ext hz0
    simp only [pay2_at, pay3_at, pay4_at, pay5_at, pay6_at, pay7_at, pay8_at, pay9_at, pay10_at, pay11_at, pay12_at, pay13_at, pay14_at, pay15_at, pay1_at]
    refine Finset.sum_congr rfl fun k _ => congrArg₂ (· * ·) (Cert.Layer.modulated_congr (ld0_at x y0) (ld1_at g) (ld2_at sh) (ld2_at sc) k) ?_
    pointwise
    blk_ext

/-- Which block each window is on at a grid point: 256 rows of the activations, the modulation of the rows' sequence (sixteen
    row blocks each), the weights whole. -/
theorem idx : ∀ t : Fin cfg0.N, win0_0.index t = ![t.val, 0] ∧ win0_1.index t = ![t.val / 16, 0, 0]
    ∧ win0_2.index t = ![t.val / 16, 0, 0] ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ)
variable (m' : (ℓ : Loc Cert.Reference4Ideal.nD Cert.Reference4Ideal.τ Cert.Reference4Ideal.sig) → Buf (Elt Ideal) ℓ)

/-- The argument arrays of the two programs agree on device `c`. -/
abbrev Same (c : Dev nD) : Prop :=
  m' ((c.tc : Thread Cert.Reference4Ideal.nD Cert.Reference4Ideal.τ).loc Cert.Reference4Ideal.main_arg0) = m ((c : Thread nD τ).loc main_arg0)
  ∧ m' ((c.tc : Thread Cert.Reference4Ideal.nD Cert.Reference4Ideal.τ).loc Cert.Reference4Ideal.main_arg1) = m ((c : Thread nD τ).loc main_arg1)
  ∧ m' ((c.tc : Thread Cert.Reference4Ideal.nD Cert.Reference4Ideal.τ).loc Cert.Reference4Ideal.main_arg2) = m ((c : Thread nD τ).loc main_arg2)
  ∧ m' ((c.tc : Thread Cert.Reference4Ideal.nD Cert.Reference4Ideal.τ).loc Cert.Reference4Ideal.main_arg3) = m ((c : Thread nD τ).loc main_arg3)
  ∧ m' ((c.tc : Thread Cert.Reference4Ideal.nD Cert.Reference4Ideal.τ).loc Cert.Reference4Ideal.main_arg4) = m ((c : Thread nD τ).loc main_arg4)

/-- The row of the activations a block's row is. -/
abbrev rowAt (t : Fin cfg0.N) (r : Fin 256) : Fin 16384 := ⟨t.val * 256 + r.val, by have : t.val < 64 := t.isLt; omega⟩

theorem rd0 (c : Dev nD) (t : Fin cfg0.N) (r : Fin 256) (k : Fin 1024) : iblk m c 0 t (ix2 r k) =
    m ((c : Thread nD τ).loc main_arg0) (ix3 (⟨(rowAt t r).val / 4096, by omega⟩ : Fin 4) (⟨(rowAt t r).val % 4096, by omega⟩ : Fin 4096) k) := by
  have e : ((cfg0.win 0).blk t).view.emb (ix2 r k) = ix2 (rowAt t r) k := by
    blk_ext [idx t]
  show V m c (Pipeline.arrRef spec0 0) (((cfg0.win 0).blk t).view.emb (ix2 r k)) = _
  refine (congrArg _ e).trans ?_
  exact Cert.Reference3Ideal.Mixer.cast_at _ _ _

theorem rd1 (c : Dev nD) (t : Fin cfg0.N) (r : Fin 256) (k : Fin 1024) : iblk m c 1 t (ix3 0 0 k) =
    m ((c : Thread nD τ).loc main_arg1) (ix2 (⟨(rowAt t r).val / 4096, by omega⟩ : Fin 4) k) := by
  have ht : t.val < 64 := t.isLt
  blk_simp [iblk, idx t]
  entry_read
  pointwise
  blk_ext [idx t]

theorem rd2 (c : Dev nD) (t : Fin cfg0.N) (r : Fin 256) (k : Fin 1024) : iblk m c 2 t (ix3 0 0 k) =
    m ((c : Thread nD τ).loc main_arg2) (ix2 (⟨(rowAt t r).val / 4096, by omega⟩ : Fin 4) k) := by
  have ht : t.val < 64 := t.isLt
  blk_simp [iblk, idx t]
  entry_read
  pointwise
  blk_ext [idx t]

theorem rd3 (c : Dev nD) (t : Fin cfg0.N) (k : Fin 1024) : iblk m c 3 t (ix2 0 k) = m ((c : Thread nD τ).loc main_arg3) (ix1 k) := by
  blk_simp [iblk, idx t]
  entry_read
  pointwise
  blk_ext [idx t]

/-- The reordered weights. -/
def reordered (w : FVec Ideal S1024x9832 .f32) : FVec Ideal S1024x7168 .f32 :=
  concatenate S1024x7168 1 [⟨S1024x2048, extractStridedSlice S1024x2048 ![0, 0] (extractStridedSlice S1024x3072 ![0, 4680] w slices_S1024x9832_S1024x3072_0_4680) slices_S1024x3072_S1024x2048_0_0⟩,
    ⟨S1024x2048, extractStridedSlice S1024x2048 ![0, 2632] w slices_S1024x9832_S1024x2048_0_2632⟩,
    ⟨S1024x1024, extractStridedSlice S1024x1024 ![0, 7784] w slices_S1024x9832_S1024x1024_0_7784⟩,
    ⟨S1024x1024, extractStridedSlice S1024x1024 ![0, 8808] w slices_S1024x9832_S1024x1024_0_8808⟩,
    ⟨S1024x512, extractStridedSlice S1024x512 ![0, 2048] (extractStridedSlice S1024x3072 ![0, 4680] w slices_S1024x9832_S1024x3072_0_4680) slices_S1024x3072_S1024x512_0_2048⟩,
    ⟨S1024x512, extractStridedSlice S1024x512 ![0, 2560] (extractStridedSlice S1024x3072 ![0, 4680] w slices_S1024x9832_S1024x3072_0_4680) slices_S1024x3072_S1024x512_0_2560⟩]
    concatenates_S1024x2048_S1024x2048_S1024x1024_S1024x1024_S1024x512_S1024x512_S1024x7168_d1

theorem reordered_at (w : FVec Ideal S1024x9832 .f32) (k : Fin 1024) (f : Fin 7168) (q : Fin 9832) :
    (f.val < 2048 → q.val = 4680 + f.val) ∧ (2048 ≤ f.val → f.val < 4096 → q.val = 584 + f.val) ∧ (4096 ≤ f.val → f.val < 6144 → q.val = 3688 + f.val)
      ∧ (6144 ≤ f.val → q.val = 584 + f.val) →
    reordered w (ix2 k f) = w (ix2 k q) := by
  have hf := f.isLt
  have e : ∀ a : Fin 9832, a.val = q.val → w (ix2 k a) = w (ix2 k q) := fun a h => by rw [Fin.ext h]
  pointwise [reordered]
  intro hq
  split_ifs <;> (refine e _ ?_; simp only; omega)

theorem weights (c : Dev nD) : V m c (Pipeline.arrRef spec0 4) = truncf .bf16 (reordered (m ((c : Thread nD τ).loc main_arg4))) bitsLt_bf16_f32 := rfl

theorem rd4 (c : Dev nD) (t : Fin cfg0.N) (k : Fin 1024) (f : Fin 7168) : iblk m c 4 t (ix2 k f) = m ((c : Thread nD τ).loc main_arg4) (ix2 k (Cert.Layer.source f)) := by
  have e : ((cfg0.win 4).blk t).view.emb (ix2 k f) = ix2 k f := by
    blk_ext [idx t]
  show V m c (Pipeline.arrRef spec0 4) (((cfg0.win 4).blk t).view.emb (ix2 k f)) = _
  refine (congrArg _ e).trans ?_
  rw [weights]
  exact reordered_at _ k f _ (Cert.Layer.source_val f)

/-- The call's result array is the reference's result. -/
theorem final (c : Dev nD) (h : Same m m' c) : (dats m 0 c).arrAt 5 (cfgs 0).N = Cert.Reference4Ideal.Value.res_main_v30 m' c := by
  rw [Cert.Reference4Ideal.Projection.res_eq]
  refine (dats m 0 c).arrAt_eq_of_covers 5 _ (by decide +kernel) fun t _ y => ?_
  obtain ⟨h0, h1, h2, h3, h4⟩ := h
  have ht : t.val < 64 := t.isLt
  blk_simp
  rw [after0_5]
  idx_vars y
  have e : ((cfg0.win 5).blk t).view.emb (ix2 y0 y1) = ix2 (rowAt t y0) y1 := by
    blk_ext [idx t]
  refine (out_at _ _ _ _ _ (ix2 y0 y1)).trans ?_
  refine Eq.trans ?_ (congrArg _ e).symm
  rw [Cert.Reference4Ideal.Projection.cast_at, Cert.Reference4Ideal.Projection.picked_at _ _ _ _ (Cert.Layer.source y1) (Cert.Layer.source_val y1), Cert.Reference4Ideal.Projection.whole_at]
  simp only [Cert.Reference3Ideal.Mixer.modulated_at, h0, h1, h2, h3, h4]
  show Cert.Layer.rowMul (Cert.Layer.modulated (fun k => iblk m c 0 t (ix2 y0 k)) (fun k => iblk m c 3 t (ix2 0 k)) (fun k => iblk m c 1 t (ix3 0 0 k)) (fun k => iblk m c 2 t (ix3 0 0 k)))
      (fun k f => iblk m c 4 t (ix2 k f)) y1 = _
  simp only [rd0, rd1 m c t y0, rd2 m c t y0, rd3, rd4]
  rfl

end Cert.Kernel4Ideal.Projection

end
-- ==== Proof.Merge.lean ====
/- The merge of the two branches: the fused call equals the layer written plainly. -/
module

public import proofs.«01_k».proof.Defs
public import proofs.«01_k».proof.Proof.Mixer
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer

/-- The merged row: the two branches' projections, each under its gate. -/
def gatedSum (attn ga gb : Fin 1024 → EReal) (ssd : Fin 2048 → EReal) (wa : Fin 1024 → Fin 1024 → EReal)
    (wb : Fin 2048 → Fin 1024 → EReal) (k : Fin 1024) : EReal :=
  Ideal.logistic (ga k) * rowMul attn wa k + Ideal.logistic (gb k) * rowMul ssd wb k

/-- The merged branches' residual row. -/
def merged (x gt attn ga gb : Fin 1024 → EReal) (ssd : Fin 2048 → EReal) (wa : Fin 1024 → Fin 1024 → EReal)
    (wb : Fin 2048 → Fin 1024 → EReal) (wo : Fin 1024 → Fin 1024 → EReal) (k : Fin 1024) : EReal :=
  x k + gt k * rowMul (gatedSum attn ga gb ssd wa wb) wo k

end Cert.Layer

namespace Cert.Reference5Ideal.Merge
open Cert.Reference5Ideal Cert.Reference5Ideal.Gen

/-- The reference's merge over its arrays. -/
def merged (x : FVec Ideal S4x4096x1024 .f32) (gt : FVec Ideal S4x1024 .f32) (attn : FVec Ideal S4x4096x1024 .f32) (ssd : FVec Ideal S4x4096x2048 .f32) (ga : FVec Ideal S4x4096x1024 .f32) (gb : FVec Ideal S4x4096x1024 .f32) (wa : FVec Ideal S1024x1024 .f32) (wb : FVec Ideal S2048x1024 .f32) (wo : FVec Ideal S1024x1024 .f32) : FVec Ideal S4x4096x1024 .f32 :=
  addf x (mulf (broadcastInDim S4x4096x1024 ![0, 1, 2] bcast_S4x1x1024_S4x4096x1024_0_1_2 (broadcastInDim S4x1x1024 ![0, 2] bcast_S4x1024_S4x1x1024_0_2 gt)) (Host.dotGeneral dot_S4x4096x1024_S1024x1024_S4x4096x1024_2_0_01_1_n_n none (addf (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf ga)))) (Host.dotGeneral dot_S4x4096x1024_S1024x1024_S4x4096x1024_2_0_01_1_n_n none attn wa)) (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf gb)))) (Host.dotGeneral dot_S4x4096x2048_S2048x1024_S4x4096x1024_2_0_01_1_n_n none ssd wb))) wo))

theorem merged_at (x : FVec Ideal S4x4096x1024 .f32) (gt : FVec Ideal S4x1024 .f32) (attn : FVec Ideal S4x4096x1024 .f32) (ssd : FVec Ideal S4x4096x2048 .f32) (ga : FVec Ideal S4x4096x1024 .f32) (gb : FVec Ideal S4x4096x1024 .f32) (wa : FVec Ideal S1024x1024 .f32) (wb : FVec Ideal S2048x1024 .f32) (wo : FVec Ideal S1024x1024 .f32) (b : Fin 4) (s : Fin 4096) (k : Fin 1024) :
    merged x gt attn ssd ga gb wa wb wo (ix3 b s k) = Cert.Layer.merged (fun k => x (ix3 b s k)) (fun k => gt (ix2 b k)) (fun k => attn (ix3 b s k))
      (fun k => ga (ix3 b s k)) (fun k => gb (ix3 b s k)) (fun k => ssd (ix3 b s k)) (fun k f => wa (ix2 k f)) (fun k f => wb (ix2 k f)) (fun k f => wo (ix2 k f)) k := by
  pointwise [merged]
  rfl

/-- The reference's result. -/
def res (m : (ℓ : Loc nD τ sig) → Buf (Elt Ideal) ℓ) (c : Dev nD) : Buf (Elt Ideal) ((c.tc : Thread nD τ).loc main_v22) :=
  shapeCast S16384x1024 (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) shapeCasts_S4x4096x1024_S16384x1024

end Cert.Reference5Ideal.Merge

namespace Cert.Kernel5Ideal.Merge

open Cert.Kernel5Ideal Cert.Kernel5Ideal.Gen

theorem pay_at (x0 : FVec Ideal S256x1024 .f32) (x1 : FVec Ideal S1x1x1024 .f32) (x2 : FVec Ideal S256x1024 .bf16) (x3 : FVec Ideal S256x2048 .bf16)
    (x4 x5 : FVec Ideal S256x1024 .f32) (x6 : FVec Ideal S1024x1024 .bf16) (x7 : FVec Ideal S2048x1024 .bf16) (x8 : FVec Ideal S1024x1024 .bf16) (r : Fin 256) (k : Fin 1024) :
    k0_pay1 (F := Ideal) x2 x6 x3 x7 x4 x5 x0 x1 x8 (ix2 r k) = Cert.Layer.merged (fun k => x0 (ix2 r k)) (fun k => x1 (ix3 0 0 k)) (fun k => x2 (ix2 r k))
      (fun k => x4 (ix2 r k)) (fun k => x5 (ix2 r k)) (fun k => x3 (ix2 r k)) (fun k f => x6 (ix2 k f)) (fun k f => x7 (ix2 k f)) (fun k f => x8 (ix2 k f)) k := by
  pointwise [k0_pay1]
  rfl

/-- Which block each window is on at a grid point: 256 rows of the activations, the gate of the rows' sequence (sixteen row
    blocks each), the two gate columns of the projected array, the weights whole. -/
theorem idx : ∀ t : Fin cfg0.N, win0_0.index t = ![t.val, 0] ∧ win0_1.index t = ![t.val / 16, 0, 0]
    ∧ win0_2.index t = ![t.val, 0] ∧ win0_3.index t = ![t.val, 0] ∧ win0_4.index t = ![t.val, 4] ∧ win0_5.index t = ![t.val, 5]
    ∧ win0_6.index t = ![0, 0] ∧ win0_7.index t = ![0, 0] ∧ win0_8.index t = ![0, 0] ∧ win0_9.index t = ![t.val, 0] :=
  (by decide +kernel : ∀ t : Fin grid0.N, _)

variable (m : (ℓ : Loc nD τ sig) → Buf (Elt Ideal) ℓ)
variable (m' : (ℓ : Loc Cert.Reference5Ideal.nD Cert.Reference5Ideal.τ Cert.Reference5Ideal.sig) → Buf (Elt Ideal) ℓ)

/-- The argument arrays of the two programs agree on device `c`. -/
abbrev Same (c : Dev nD) : Prop :=
  m' ((c.tc : Thread Cert.Reference5Ideal.nD Cert.Reference5Ideal.τ).loc Cert.Reference5Ideal.main_arg0) = m ((c : Thread nD τ).loc main_arg0)
  ∧ m' ((c.tc : Thread Cert.Reference5Ideal.nD Cert.Reference5Ideal.τ).loc Cert.Reference5Ideal.main_arg1) = m ((c : Thread nD τ).loc main_arg1)
  ∧ m' ((c.tc : Thread Cert.Reference5Ideal.nD Cert.Reference5Ideal.τ).loc Cert.Reference5Ideal.main_arg2) = m ((c : Thread nD τ).loc main_arg2)
  ∧ m' ((c.tc : Thread Cert.Reference5Ideal.nD Cert.Reference5Ideal.τ).loc Cert.Reference5Ideal.main_arg3) = m ((c : Thread nD τ).loc main_arg3)
  ∧ m' ((c.tc : Thread Cert.Reference5Ideal.nD Cert.Reference5Ideal.τ).loc Cert.Reference5Ideal.main_arg4) = m ((c : Thread nD τ).loc main_arg4)
  ∧ m' ((c.tc : Thread Cert.Reference5Ideal.nD Cert.Reference5Ideal.τ).loc Cert.Reference5Ideal.main_arg5) = m ((c : Thread nD τ).loc main_arg5)
  ∧ m' ((c.tc : Thread Cert.Reference5Ideal.nD Cert.Reference5Ideal.τ).loc Cert.Reference5Ideal.main_arg6) = m ((c : Thread nD τ).loc main_arg6)
  ∧ m' ((c.tc : Thread Cert.Reference5Ideal.nD Cert.Reference5Ideal.τ).loc Cert.Reference5Ideal.main_arg7) = m ((c : Thread nD τ).loc main_arg7)
  ∧ m' ((c.tc : Thread Cert.Reference5Ideal.nD Cert.Reference5Ideal.τ).loc Cert.Reference5Ideal.main_arg8) = m ((c : Thread nD τ).loc main_arg8)

/-- The row of the activations a block's row is. -/
abbrev rowAt (t : Fin cfg0.N) (r : Fin 256) : Fin 16384 := ⟨t.val * 256 + r.val, by have : t.val < 64 := t.isLt; omega⟩

theorem rd0 (c : Dev nD) (t : Fin cfg0.N) (r : Fin 256) (k : Fin 1024) : iblk m c 0 t (ix2 r k) =
    m ((c : Thread nD τ).loc main_arg0) (ix3 (⟨(rowAt t r).val / 4096, by omega⟩ : Fin 4) (⟨(rowAt t r).val % 4096, by omega⟩ : Fin 4096) k) := by
  have ht : t.val < 64 := t.isLt
  blk_simp [iblk, idx t]
  entry_read
  pointwise
  blk_ext [idx t]

theorem rd1 (c : Dev nD) (t : Fin cfg0.N) (r : Fin 256) (k : Fin 1024) : iblk m c 1 t (ix3 0 0 k) =
    m ((c : Thread nD τ).loc main_arg1) (ix2 (⟨(rowAt t r).val / 4096, by omega⟩ : Fin 4) k) := by
  have ht : t.val < 64 := t.isLt
  blk_simp [iblk, idx t]
  entry_read
  pointwise
  blk_ext [idx t]

theorem rd2 (c : Dev nD) (t : Fin cfg0.N) (r : Fin 256) (k : Fin 1024) : iblk m c 2 t (ix2 r k) =
    m ((c : Thread nD τ).loc main_arg2) (ix3 (⟨(rowAt t r).val / 4096, by omega⟩ : Fin 4) (⟨(rowAt t r).val % 4096, by omega⟩ : Fin 4096) k) := by
  have ht : t.val < 64 := t.isLt
  blk_simp [iblk, idx t]
  entry_read
  pointwise
  blk_ext [idx t]

theorem rd3 (c : Dev nD) (t : Fin cfg0.N) (r : Fin 256) (k : Fin 2048) : iblk m c 3 t (ix2 r k) =
    m ((c : Thread nD τ).loc main_arg3) (ix3 (⟨(rowAt t r).val / 4096, by omega⟩ : Fin 4) (⟨(rowAt t r).val % 4096, by omega⟩ : Fin 4096) k) := by
  have ht : t.val < 64 := t.isLt
  blk_simp [iblk, idx t]
  entry_read
  pointwise
  blk_ext [idx t]

/-- The two gate columns stand in the projected array beside columns this call does not read. -/
theorem columns (c : Dev nD) : V m c main_v4 = concatenate S16384x7168 1 [⟨S16384x4096, broadcastInDim S16384x4096 ![] bcast_S_S16384x4096 (constant (F := Ideal) S_ .f32 0x00000000#32)⟩,
    ⟨S16384x1024, shapeCast S16384x1024 (m ((c : Thread nD τ).loc main_arg4)) shapeCasts_S4x4096x1024_S16384x1024⟩, ⟨S16384x1024, shapeCast S16384x1024 (m ((c : Thread nD τ).loc main_arg5)) shapeCasts_S4x4096x1024_S16384x1024⟩,
    ⟨S16384x1024, broadcastInDim S16384x1024 ![] bcast_S_S16384x1024 (constant (F := Ideal) S_ .f32 0x00000000#32)⟩] concatenates_S16384x4096_S16384x1024_S16384x1024_S16384x1024_S16384x7168_d1 := rfl

theorem column_at (p : FVec Ideal S16384x4096 .f32) (a b d : FVec Ideal S16384x1024 .f32) (r : Fin 16384) (k : Fin 1024) :
    concatenate S16384x7168 1 [⟨S16384x4096, p⟩, ⟨S16384x1024, a⟩, ⟨S16384x1024, b⟩, ⟨S16384x1024, d⟩]
      concatenates_S16384x4096_S16384x1024_S16384x1024_S16384x1024_S16384x7168_d1 (ix2 r (⟨4096 + k.val, by omega⟩ : Fin 7168)) = a (ix2 r k)
    ∧ concatenate S16384x7168 1 [⟨S16384x4096, p⟩, ⟨S16384x1024, a⟩, ⟨S16384x1024, b⟩, ⟨S16384x1024, d⟩]
      concatenates_S16384x4096_S16384x1024_S16384x1024_S16384x1024_S16384x7168_d1 (ix2 r (⟨5120 + k.val, by omega⟩ : Fin 7168)) = b (ix2 r k) := by
  constructor
  · pointwise
  · pointwise
    rw [dif_neg (by omega), dif_neg (by omega), dif_pos (by omega)]
    blk_ext

theorem rd4 (c : Dev nD) (t : Fin cfg0.N) (r : Fin 256) (k : Fin 1024) : iblk m c 4 t (ix2 r k) =
    m ((c : Thread nD τ).loc main_arg4) (ix3 (⟨(rowAt t r).val / 4096, by omega⟩ : Fin 4) (⟨(rowAt t r).val % 4096, by omega⟩ : Fin 4096) k) := by
  have e : ((cfg0.win 4).blk t).view.emb (ix2 r k) = ix2 (rowAt t r) (⟨4096 + k.val, by omega⟩ : Fin 7168) := by
    blk_ext [idx t]
  show V m c main_v4 (((cfg0.win 4).blk t).view.emb (ix2 r k)) = _
  refine (congrArg _ e).trans ?_
  rw [columns]
  refine (column_at _ _ _ _ _ _).1.trans ?_
  exact Cert.Reference3Ideal.Mixer.cast_at _ _ _

theorem rd5 (c : Dev nD) (t : Fin cfg0.N) (r : Fin 256) (k : Fin 1024) : iblk m c 5 t (ix2 r k) =
    m ((c : Thread nD τ).loc main_arg5) (ix3 (⟨(rowAt t r).val / 4096, by omega⟩ : Fin 4) (⟨(rowAt t r).val % 4096, by omega⟩ : Fin 4096) k) := by
  have e : ((cfg0.win 5).blk t).view.emb (ix2 r k) = ix2 (rowAt t r) (⟨5120 + k.val, by omega⟩ : Fin 7168) := by
    blk_ext [idx t]
  show V m c main_v4 (((cfg0.win 5).blk t).view.emb (ix2 r k)) = _
  refine (congrArg _ e).trans ?_
  rw [columns]
  refine (column_at _ _ _ _ _ _).2.trans ?_
  exact Cert.Reference3Ideal.Mixer.cast_at _ _ _

theorem rd6 (c : Dev nD) (t : Fin cfg0.N) (k : Fin 1024) (f : Fin 1024) : iblk m c 6 t (ix2 k f) = m ((c : Thread nD τ).loc main_arg6) (ix2 k f) := by
  blk_simp [iblk, idx t]
  entry_read
  pointwise
  blk_ext [idx t]

theorem rd7 (c : Dev nD) (t : Fin cfg0.N) (k : Fin 2048) (f : Fin 1024) : iblk m c 7 t (ix2 k f) = m ((c : Thread nD τ).loc main_arg7) (ix2 k f) := by
  blk_simp [iblk, idx t]
  entry_read
  pointwise
  blk_ext [idx t]

theorem rd8 (c : Dev nD) (t : Fin cfg0.N) (k : Fin 1024) (f : Fin 1024) : iblk m c 8 t (ix2 k f) = m ((c : Thread nD τ).loc main_arg8) (ix2 k f) := by
  blk_simp [iblk, idx t]
  entry_read
  pointwise
  blk_ext [idx t]

/-- The call's result array is the reference's result. -/
theorem final (c : Dev nD) (h : Same m m' c) : (dats m 0 c).arrAt 9 (cfgs 0).N = Cert.Reference5Ideal.Merge.res m' c := by
  unfold Cert.Reference5Ideal.Merge.res
  refine (dats m 0 c).arrAt_eq_of_covers 9 _ (by decide +kernel) fun t _ y => ?_
  obtain ⟨h0, h1, h2, h3, h4, h5, h6, h7, h8⟩ := h
  have ht : t.val < 64 := t.isLt
  blk_simp
  rw [after0_9]; frame_out
  idx_vars y
  have e : ((cfg0.win 9).blk t).view.emb (ix2 y0 y1) = ix2 (rowAt t y0) y1 := by
    blk_ext [idx t]
  refine (pay_at _ _ _ _ _ _ _ _ _ y0 y1).trans ?_
  refine Eq.trans ?_ (congrArg _ e).symm
  rw [Cert.Reference3Ideal.Mixer.cast_at, Cert.Reference5Ideal.Merge.merged_at]
  simp only [rd0, rd1 m c t y0, rd2, rd3, rd4, rd5, rd6, rd7, rd8, h0, h1, h2, h3, h4, h5, h6, h7, h8]

end Cert.Kernel5Ideal.Merge

end
-- ==== Proof.ClosingSample.lean ====
/- The channel mixer that closes a sampled step: the fused call with the final norm equals the layer written plainly. -/
module

public import proofs.«01_k».proof.Defs
public import proofs.«01_k».proof.Proof.Mixer
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference6Ideal.Mixer
open Cert.Reference6Ideal Cert.Reference6Ideal.Gen

section
/-- The rows normalised and modulated. -/
def modulated (x : FVec Ideal S32x4x1024 .f32) (sh sc : FVec Ideal S32x1024 .f32) (g : FVec Ideal S1024 .f32) : FVec Ideal S32x4x1024 .f32 :=
  (addf (mulf (mulf (mulf (x) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (x) (x)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 (g)))) (broadcastInDim S32x4x1024 ![0, 1, 2] bcast_S32x1x1024_S32x4x1024_0_1_2 (addf (broadcastInDim S32x1x1024 ![] bcast_S_S32x1x1024 (constant S_ .f32 0x3F800000#32)) (broadcastInDim S32x1x1024 ![0, 2] bcast_S32x1024_S32x1x1024_0_2 (sc))))) (broadcastInDim S32x4x1024 ![0, 1, 2] bcast_S32x1x1024_S32x4x1024_0_1_2 (broadcastInDim S32x1x1024 ![0, 2] bcast_S32x1024_S32x1x1024_0_2 (sh))))

/-- The up projection. -/
def up (h : FVec Ideal S32x4x1024 .f32) (w : FVec Ideal S1024x5632 .f32) : FVec Ideal S32x4x5632 .f32 :=
  Host.dotGeneral dot_S32x4x1024_S1024x5632_S32x4x5632_2_0_01_1_n_n none h w

/-- The gate's product of the two halves. -/
def gated (p : FVec Ideal S32x4x5632 .f32) : FVec Ideal S32x4x2816 .f32 :=
  (mulf (mulf (extractStridedSlice S32x4x2816 ![0, 0, 0] p slices_S32x4x5632_S32x4x2816_0_0_0) (Host.divf (broadcastInDim S32x4x2816 ![] bcast_S_S32x4x2816 (constant S_ .f32 0x3F800000#32)) (addf (broadcastInDim S32x4x2816 ![] bcast_S_S32x4x2816 (constant S_ .f32 0x3F800000#32)) (Host.exp (Host.negf (extractStridedSlice S32x4x2816 ![0, 0, 0] p slices_S32x4x5632_S32x4x2816_0_0_0)))))) (extractStridedSlice S32x4x2816 ![0, 0, 2816] p slices_S32x4x5632_S32x4x2816_0_0_2816))

/-- The residual row with the down projection. -/
def closed (x : FVec Ideal S32x4x1024 .f32) (gt : FVec Ideal S32x1024 .f32) (u : FVec Ideal S32x4x2816 .f32) (wd : FVec Ideal S2816x1024 .f32) : FVec Ideal S32x4x1024 .f32 :=
  (addf (x) (mulf (broadcastInDim S32x4x1024 ![0, 1, 2] bcast_S32x1x1024_S32x4x1024_0_1_2 (mulf (broadcastInDim S32x1x1024 ![] bcast_S_S32x1x1024 (constant S_ .f32 0x3F000000#32)) (broadcastInDim S32x1x1024 ![0, 2] bcast_S32x1024_S32x1x1024_0_2 (gt)))) (Host.dotGeneral dot_S32x4x2816_S2816x1024_S32x4x1024_2_0_01_1_n_n none u wd)))

variable (x : FVec Ideal S32x4x1024 .f32) (sh sc gt : FVec Ideal S32x1024 .f32) (g : FVec Ideal S1024 .f32)
  (h : FVec Ideal S32x4x1024 .f32) (w : FVec Ideal S1024x5632 .f32) (p : FVec Ideal S32x4x5632 .f32)
  (u : FVec Ideal S32x4x2816 .f32) (wd : FVec Ideal S2816x1024 .f32)

theorem modulated_at (b : Fin 32) (s : Fin 4) (k : Fin 1024) : modulated x sh sc g (ix3 b s k) =
    Cert.Layer.modulated (fun k => x (ix3 b s k)) (fun k => g (ix1 k)) (fun k => sh (ix2 b k)) (fun k => sc (ix2 b k)) k := by
  pointwise [modulated]
  rfl

theorem up_at (b : Fin 32) (s : Fin 4) (f : Fin 5632) : up h w (ix3 b s f) =
    Cert.Layer.rowMul (fun k => h (ix3 b s k)) (fun k f => w (ix2 k f)) f := by
  pointwise [up]
  rfl

theorem gated_at (b : Fin 32) (s : Fin 4) (f : Fin 2816) : gated p (ix3 b s f) =
    Cert.Layer.swish (p (ix3 b s ⟨f.1, by omega⟩)) (p (ix3 b s ⟨2816 + f.1, by omega⟩)) := by
  pointwise [gated]
  rfl

theorem closed_at (b : Fin 32) (s : Fin 4) (k : Fin 1024) : closed x gt u wd (ix3 b s k) =
    x (ix3 b s k) + Ideal.ofBits FTy.f32 1056964608#32 * gt (ix2 b k) * Cert.Layer.rowMul (fun k => u (ix3 b s k)) (fun k f => wd (ix2 k f)) k := by
  pointwise [closed]
  rfl

theorem all_at (b : Fin 32) (s : Fin 4) (k : Fin 1024) : closed x gt (gated (up (modulated x sh sc g) w)) wd (ix3 b s k) =
    Cert.Layer.mixed (fun k => x (ix3 b s k)) (fun k => g (ix1 k)) (fun k => sh (ix2 b k)) (fun k => sc (ix2 b k))
     (fun k => gt (ix2 b k)) (fun k f => w (ix2 k f)) (fun k f => wd (ix2 k f)) k := by
  simp only [closed_at, gated_at, up_at, modulated_at]
  rfl

theorem cast_at (v : FVec Ideal S32x4x1024 .f32) (r : Fin 128) (k : Fin 1024) : shapeCast S128x1024 v shapeCasts_S32x4x1024_S128x1024 (ix2 r k) =
   v (ix3 ⟨r.1 / 4, by omega⟩ ⟨r.1 % 4, by omega⟩ k) := by
  pointwise

end

/-- The final norm over an already closed residual row. -/
def normed (x : FVec Ideal S32x4x1024 .f32) (g : FVec Ideal S1024 .f32) : FVec Ideal S32x4x1024 .f32 :=
  (mulf (mulf (x) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (x) (x)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 (g))))

theorem normed_at (x : FVec Ideal S32x4x1024 .f32) (g : FVec Ideal S1024 .f32) (b : Fin 32) (s : Fin 4) (k : Fin 1024) :
    normed x g (ix3 b s k) = Cert.Layer.normed (fun k => x (ix3 b s k)) (fun k => g (ix1 k)) k := by
  pointwise [normed]
  rfl

/-- The reference's result, in stages. -/
theorem res_eq (m : (ℓ : Loc Cert.Reference6Ideal.nD Cert.Reference6Ideal.τ Cert.Reference6Ideal.sig) → Buf (Elt Ideal) ℓ) (c : Dev nD) :
    Cert.Reference6Ideal.Value.res_main_v46 m c =
    shapeCast S128x1024 (normed (closed (m ((c.tc : Thread nD τ).loc main_arg0)) (m ((c.tc : Thread nD τ).loc main_arg3)) (gated (up (modulated (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg5)))) (m ((c.tc : Thread nD τ).loc main_arg6))) (m ((c.tc : Thread nD τ).loc main_arg7))) shapeCasts_S32x4x1024_S128x1024 := rfl
end Cert.Reference6Ideal.Mixer

namespace Cert.Kernel6Ideal.Mixer

open Cert.Kernel6Ideal Cert.Kernel6Ideal.Gen

variable (m : (ℓ : Loc nD τ sig) → Buf (Elt Ideal) ℓ)
variable (m' : (ℓ : Loc Cert.Reference6Ideal.nD Cert.Reference6Ideal.τ Cert.Reference6Ideal.sig) → Buf (Elt Ideal) ℓ)

theorem pay3_at (x : FVec Ideal S128x1024 .f32) (g : FVec Ideal S1x1024 .f32) (sh sc : FVec Ideal S1x128x1024 .f32)
    (wa wb : FVec Ideal S1024x2816 .bf16) (r : Fin 128) (f : Fin 2816) :
    k0_pay3 (F := Ideal) x g sh sc wa wb (ix2 r f) =
      Cert.Layer.swish
        (Cert.Layer.rowMul (Cert.Layer.modulated (fun k => x (ix2 r k)) (fun k => g (ix2 0 k)) (fun k => sh (ix3 0 r k)) (fun k => sc (ix3 0 r k)))
          (fun k f => wa (ix2 k f)) f)
        (Cert.Layer.rowMul (Cert.Layer.modulated (fun k => x (ix2 r k)) (fun k => g (ix2 0 k)) (fun k => sh (ix3 0 r k)) (fun k => sc (ix3 0 r k)))
          (fun k f => wb (ix2 k f)) f) := by
  pointwise [k0_pay3, k0_pay2]
  rfl

theorem pay2_at (x : FVec Ideal S128x1024 .f32) (r : Fin 128) (k : Fin 1024) : k0_pay2 (F := Ideal) x (ix2 r k) = x (ix2 r k) := by
  pointwise [k0_pay2]

theorem pay4_at (w : FVec Ideal S2816x1024 .bf16) (f : Fin 2816) (k : Fin 1024) : k0_pay4 (F := Ideal) w (ix2 f k) = w (ix2 f k) := by
  pointwise [k0_pay4]

theorem pay1_at (x : FVec Ideal S128x1024 .f32) (u : FVec Ideal S128x2816 .bf16) (wd : FVec Ideal S2816x1024 .bf16) (gt : FVec Ideal S1x128x1024 .f32)
    (gf : FVec Ideal S1x1024 .f32) (r : Fin 128) (k : Fin 1024) :
    k0_pay1 (F := Ideal) x u wd gt gf (ix2 r k) = Cert.Layer.normed (fun k => x (ix2 r k) + Ideal.ofBits FTy.f32 1056964608#32 * gt (ix3 0 r k) *
      Cert.Layer.rowMul (fun f => u (ix2 r f)) (fun f k => wd (ix2 f k)) k) (fun k => gf (ix2 0 k)) k := by
  pointwise [k0_pay1]
  rfl

/-- The body's stored block, row by row: the closing row of the staged row. -/
theorem pay_at (x : FVec Ideal S128x1024 .f32) (g gf : FVec Ideal S1x1024 .f32) (sh sc gt : FVec Ideal S1x128x1024 .f32)
    (wa wb : FVec Ideal S1024x2816 .bf16) (wd : FVec Ideal S2816x1024 .bf16) (wu : Fin 1024 → Fin 5632 → EReal)
    (ha : ∀ k (f : Fin 2816), wa (ix2 k f) = wu k ⟨f.1, by omega⟩)
    (hb : ∀ k (f : Fin 2816), wb (ix2 k f) = wu k ⟨2816 + f.1, by omega⟩) (r : Fin 128) (k : Fin 1024) :
    k0_pay1 (F := Ideal) (k0_pay2 x) (k0_pay3 x g sh sc wa wb) wd gt gf (ix2 r k) =
      Cert.Layer.closing (fun k => x (ix2 r k)) (fun k => g (ix2 0 k)) (fun k => sh (ix3 0 r k)) (fun k => sc (ix3 0 r k))
        (fun k => gt (ix3 0 r k)) (fun k => gf (ix2 0 k)) wu (fun f k => wd (ix2 f k)) k := by
  simp only [pay1_at, pay3_at, pay2_at, ha, hb]
  rfl

/-- Which block each window is on at a grid point: the one block of each array, whole. -/
theorem idx : ∀ t : Fin cfg0.N, win0_0.index t = ![t.val, 0] ∧ win0_1.index t = ![t.val, 0, 0]
    ∧ win0_2.index t = ![t.val, 0, 0] ∧ win0_3.index t = ![t.val, 0, 0] ∧ win0_4.index t = ![0, 0]
    ∧ win0_5.index t = ![0, 0] ∧ win0_6.index t = ![0, 0] ∧ win0_7.index t = ![0, 0] ∧ win0_8.index t = ![t.val, 0] :=
  (by decide +kernel : ∀ t : Fin grid0.N, _)

/-- The argument arrays of the two programs agree on device `c`. -/
abbrev Same (c : Dev nD) : Prop :=
  m' ((c.tc : Thread Cert.Reference6Ideal.nD Cert.Reference6Ideal.τ).loc Cert.Reference6Ideal.main_arg0) = m ((c : Thread nD τ).loc main_arg0)
  ∧ m' ((c.tc : Thread Cert.Reference6Ideal.nD Cert.Reference6Ideal.τ).loc Cert.Reference6Ideal.main_arg1) = m ((c : Thread nD τ).loc main_arg1)
  ∧ m' ((c.tc : Thread Cert.Reference6Ideal.nD Cert.Reference6Ideal.τ).loc Cert.Reference6Ideal.main_arg2) = m ((c : Thread nD τ).loc main_arg2)
  ∧ m' ((c.tc : Thread Cert.Reference6Ideal.nD Cert.Reference6Ideal.τ).loc Cert.Reference6Ideal.main_arg3) = m ((c : Thread nD τ).loc main_arg3)
  ∧ m' ((c.tc : Thread Cert.Reference6Ideal.nD Cert.Reference6Ideal.τ).loc Cert.Reference6Ideal.main_arg4) = m ((c : Thread nD τ).loc main_arg4)
  ∧ m' ((c.tc : Thread Cert.Reference6Ideal.nD Cert.Reference6Ideal.τ).loc Cert.Reference6Ideal.main_arg5) = m ((c : Thread nD τ).loc main_arg5)
  ∧ m' ((c.tc : Thread Cert.Reference6Ideal.nD Cert.Reference6Ideal.τ).loc Cert.Reference6Ideal.main_arg6) = m ((c : Thread nD τ).loc main_arg6)
  ∧ m' ((c.tc : Thread Cert.Reference6Ideal.nD Cert.Reference6Ideal.τ).loc Cert.Reference6Ideal.main_arg7) = m ((c : Thread nD τ).loc main_arg7)

/-- The row of the activations a block's row is. -/
abbrev rowAt (t : Fin cfg0.N) (r : Fin 128) : Fin 128 := ⟨t.val * 128 + r.val, by have : t.val < 1 := t.isLt; omega⟩

theorem rd0 (c : Dev nD) (t : Fin cfg0.N) (r : Fin 128) (k : Fin 1024) : iblk m c 0 t (ix2 r k) =
    m ((c : Thread nD τ).loc main_arg0) (ix3 (⟨(rowAt t r).val / 4, by omega⟩ : Fin 32) (⟨(rowAt t r).val % 4, by omega⟩ : Fin 4) k) := by
  have ht : t.val < 1 := t.isLt
  blk_simp [iblk, idx t]
  entry_read
  pointwise
  blk_ext [idx t]

theorem rd1 (c : Dev nD) (t : Fin cfg0.N) (r : Fin 128) (k : Fin 1024) : iblk m c 1 t (ix3 0 r k) =
    m ((c : Thread nD τ).loc main_arg1) (ix2 (⟨(rowAt t r).val / 4, by omega⟩ : Fin 32) k) := by
  have ht : t.val < 1 := t.isLt
  blk_simp [iblk, idx t]
  entry_read
  pointwise
  blk_ext [idx t]

theorem rd2 (c : Dev nD) (t : Fin cfg0.N) (r : Fin 128) (k : Fin 1024) : iblk m c 2 t (ix3 0 r k) =
    m ((c : Thread nD τ).loc main_arg2) (ix2 (⟨(rowAt t r).val / 4, by omega⟩ : Fin 32) k) := by
  have ht : t.val < 1 := t.isLt
  blk_simp [iblk, idx t]
  entry_read
  pointwise
  blk_ext [idx t]

theorem rd3 (c : Dev nD) (t : Fin cfg0.N) (r : Fin 128) (k : Fin 1024) : iblk m c 3 t (ix3 0 r k) =
    m ((c : Thread nD τ).loc main_arg3) (ix2 (⟨(rowAt t r).val / 4, by omega⟩ : Fin 32) k) := by
  have ht : t.val < 1 := t.isLt
  blk_simp [iblk, idx t]
  entry_read
  pointwise
  blk_ext [idx t]

theorem rd4 (c : Dev nD) (t : Fin cfg0.N) (k : Fin 1024) : iblk m c 4 t (ix2 0 k) = m ((c : Thread nD τ).loc main_arg4) (ix1 k) := by
  blk_simp [iblk, idx t]
  entry_read
  pointwise
  blk_ext [idx t]

theorem rd5 (c : Dev nD) (t : Fin cfg0.N) (k : Fin 1024) : iblk m c 5 t (ix2 0 k) = m ((c : Thread nD τ).loc main_arg7) (ix1 k) := by
  blk_simp [iblk, idx t]
  entry_read
  pointwise
  blk_ext [idx t]

theorem rd6a (c : Dev nD) (t : Fin cfg0.N) (k : Fin 1024) (f : Fin 2816) : View.ld (iblk m c 6 t) r0_3 (ix2 k f) =
    m ((c : Thread nD τ).loc main_arg5) (ix2 k (⟨f.1, by omega⟩ : Fin 5632)) := by
  pointwise
  blk_simp [iblk, idx t]
  entry_read
  pointwise
  blk_ext [idx t]

theorem rd6b (c : Dev nD) (t : Fin cfg0.N) (k : Fin 1024) (f : Fin 2816) : View.ld (iblk m c 6 t) r0_4 (ix2 k f) =
    m ((c : Thread nD τ).loc main_arg5) (ix2 k (⟨2816 + f.1, by omega⟩ : Fin 5632)) := by
  pointwise
  blk_simp [iblk, idx t]
  entry_read
  pointwise
  blk_ext [idx t]

theorem rd7 (c : Dev nD) (t : Fin cfg0.N) (f : Fin 2816) (k : Fin 1024) : iblk m c 7 t (ix2 f k) = m ((c : Thread nD τ).loc main_arg6) (ix2 f k) := by
  blk_simp [iblk, idx t]
  entry_read
  pointwise
  blk_ext [idx t]

/-- The call's result array is the reference's result. -/
theorem final (c : Dev nD) (h : Same m m' c) :
    (dats m 0 c).arrAt 8 (cfgs 0).N = Cert.Reference6Ideal.Value.res_main_v46 m' c := by
  rw [Cert.Reference6Ideal.Mixer.res_eq]
  refine (dats m 0 c).arrAt_eq_of_covers 8 _ (by decide +kernel) fun t _ y => ?_
  obtain ⟨h0, h1, h2, h3, h4, h5, h6, h7⟩ := h
  have ht : t.val < 1 := t.isLt
  blk_simp
  rw [after0_8]; frame_out
  idx_vars y
  have e : ((cfg0.win 8).blk t).view.emb (ix2 y0 y1) = ix2 (rowAt t y0) y1 := by
    blk_ext [idx t]
  refine (pay_at _ _ _ _ _ _ _ _ _ (fun k f => m ((c : Thread nD τ).loc main_arg5) (ix2 k f)) (rd6a m c t) (rd6b m c t) y0 y1).trans ?_
  refine Eq.trans ?_ (congrArg _ e).symm
  rw [Cert.Reference6Ideal.Mixer.cast_at, Cert.Reference6Ideal.Mixer.normed_at]
  simp only [Cert.Reference6Ideal.Mixer.all_at]
  unfold Cert.Layer.closing
  simp only [rd0, rd1 m c t y0, rd2 m c t y0, rd3 m c t y0, rd4, rd5, pay4_at, rd7, h0, h1, h2, h3, h4, h5, h6, h7]

end Cert.Kernel6Ideal.Mixer

end
-- ==== Proof.Tail.lean ====
/- The rows of the channels kept from a prompt: what the host takes of the in-projection's call is what the reference's padded channels end with. -/
module

public import proofs.«01_k».proof.Defs
public import proofs.«01_k».proof.Proof.Projection
public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference7Ideal.Tail
open Cert.Reference7Ideal Cert.Reference7Ideal.Gen

/-- The last three rows of the channels of every prompt, behind the three rows of zeros the convolution starts from. -/
def kept (p : FVec Ideal S4x4096x9832 .f32) : FVec Ideal S4x3x3072 .f32 :=
  extractStridedSlice S4x3x3072 ![0, 4096, 0] (concatenate S4x4099x3072 1 [⟨S4x3x3072, (broadcastInDim S4x3x3072 ![] bcast_S_S4x3x3072 (constant S_ .f32 0x00000000#32))⟩, ⟨S4x4096x3072, (extractStridedSlice S4x4096x3072 ![0, 0, 4680] p slices_S4x4096x9832_S4x4096x3072_0_0_4680)⟩] concatenates_S4x3x3072_S4x4096x3072_S4x4099x3072_d1) slices_S4x4099x3072_S4x3x3072_0_4096_0

theorem kept_at (p : FVec Ideal S4x4096x9832 .f32) (b : Fin 4) (j : Fin 3) (f : Fin 3072) :
    kept p (ix3 b j f) = p (ix3 b (⟨4093 + j.val, by omega⟩ : Fin 4096) (⟨4680 + f.val, by omega⟩ : Fin 9832)) := by
  have hj := j.isLt
  have e : ∀ a : Fin 4096, a.val = 4093 + j.val → p (ix3 b a (⟨4680 + f.val, by omega⟩ : Fin 9832)) = p (ix3 b (⟨4093 + j.val, by omega⟩ : Fin 4096) (⟨4680 + f.val, by omega⟩ : Fin 9832)) :=
    fun a h => by rw [show a = (⟨4093 + j.val, by omega⟩ : Fin 4096) from Fin.ext h]
  pointwise [kept]
  split_ifs
  all_goals first | omega | (refine e _ ?_; simp only; omega)

end Cert.Reference7Ideal.Tail

namespace Cert.Kernel7Ideal.Tail

open Cert.Kernel7Ideal Cert.Kernel7Ideal.Gen

theorem pay1_at (x : FVec Ideal S256x1024 .f32) (g : FVec Ideal S1x1024 .f32) (sh sc : FVec Ideal S1x1x1024 .f32) (r : Fin 256) (k : Fin 1024) :
    k0_pay1 (F := Ideal) x g sh sc (ix2 r k) = Cert.Layer.modulated (fun k => x (ix2 r k)) (fun k => g (ix2 0 k)) (fun k => sh (ix3 0 0 k)) (fun k => sc (ix3 0 0 k)) k := by
  pointwise [k0_pay1]
  rfl

theorem pay4_at (h : FVec Ideal S256x1024 .bf16) (w : FVec Ideal S1024x512 .bf16) (r : Fin 256) (f : Fin 512) :
    k0_pay4 (F := Ideal) h w (ix2 r f) = Cert.Layer.rowMul (fun k => h (ix2 r k)) (fun k f => w (ix2 k f)) f := by
  pointwise [k0_pay4]
  rfl

theorem pay5_at (h : FVec Ideal S256x1024 .bf16) (w : FVec Ideal S1024x512 .bf16) (r : Fin 256) (f : Fin 512) :
    k0_pay5 (F := Ideal) h w (ix2 r f) = Cert.Layer.rowMul (fun k => h (ix2 r k)) (fun k f => w (ix2 k f)) f := pay4_at h w r f

theorem pay6_at (h : FVec Ideal S256x1024 .bf16) (w : FVec Ideal S1024x512 .bf16) (r : Fin 256) (f : Fin 512) :
    k0_pay6 (F := Ideal) h w (ix2 r f) = Cert.Layer.rowMul (fun k => h (ix2 r k)) (fun k f => w (ix2 k f)) f := pay4_at h w r f

theorem pay7_at (h : FVec Ideal S256x1024 .bf16) (w : FVec Ideal S1024x512 .bf16) (r : Fin 256) (f : Fin 512) :
    k0_pay7 (F := Ideal) h w (ix2 r f) = Cert.Layer.rowMul (fun k => h (ix2 r k)) (fun k f => w (ix2 k f)) f := pay4_at h w r f

theorem pay8_at (h : FVec Ideal S256x1024 .bf16) (w : FVec Ideal S1024x512 .bf16) (r : Fin 256) (f : Fin 512) :
    k0_pay8 (F := Ideal) h w (ix2 r f) = Cert.Layer.rowMul (fun k => h (ix2 r k)) (fun k f => w (ix2 k f)) f := pay4_at h w r f

theorem pay9_at (h : FVec Ideal S256x1024 .bf16) (w : FVec Ideal S1024x512 .bf16) (r : Fin 256) (f : Fin 512) :
    k0_pay9 (F := Ideal) h w (ix2 r f) = Cert.Layer.rowMul (fun k => h (ix2 r k)) (fun k f => w (ix2 k f)) f := pay4_at h w r f

theorem pay10_at (h : FVec Ideal S256x1024 .bf16) (w : FVec Ideal S1024x512 .bf16) (r : Fin 256) (f : Fin 512) :
    k0_pay10 (F := Ideal) h w (ix2 r f) = Cert.Layer.rowMul (fun k => h (ix2 r k)) (fun k f => w (ix2 k f)) f := pay4_at h w r f

theorem pay11_at (h : FVec Ideal S256x1024 .bf16) (w : FVec Ideal S1024x512 .bf16) (r : Fin 256) (f : Fin 512) :
    k0_pay11 (F := Ideal) h w (ix2 r f) = Cert.Layer.rowMul (fun k => h (ix2 r k)) (fun k f => w (ix2 k f)) f := pay4_at h w r f

theorem pay12_at (h : FVec Ideal S256x1024 .bf16) (w : FVec Ideal S1024x512 .bf16) (r : Fin 256) (f : Fin 512) :
    k0_pay12 (F := Ideal) h w (ix2 r f) = Cert.Layer.rowMul (fun k => h (ix2 r k)) (fun k f => w (ix2 k f)) f := pay4_at h w r f

theorem pay13_at (h : FVec Ideal S256x1024 .bf16) (w : FVec Ideal S1024x512 .bf16) (r : Fin 256) (f : Fin 512) :
    k0_pay13 (F := Ideal) h w (ix2 r f) = Cert.Layer.rowMul (fun k => h (ix2 r k)) (fun k f => w (ix2 k f)) f := pay4_at h w r f

theorem pay14_at (h : FVec Ideal S256x1024 .bf16) (w : FVec Ideal S1024x512 .bf16) (r : Fin 256) (f : Fin 512) :
    k0_pay14 (F := Ideal) h w (ix2 r f) = Cert.Layer.rowMul (fun k => h (ix2 r k)) (fun k f => w (ix2 k f)) f := pay4_at h w r f

theorem pay15_at (h : FVec Ideal S256x1024 .bf16) (w : FVec Ideal S1024x512 .bf16) (r : Fin 256) (f : Fin 512) :
    k0_pay15 (F := Ideal) h w (ix2 r f) = Cert.Layer.rowMul (fun k => h (ix2 r k)) (fun k f => w (ix2 k f)) f := pay4_at h w r f

theorem pay2_at (x : FVec Ideal S256x1024 .f32) (g : FVec Ideal S1x1024 .f32) (sh sc : FVec Ideal S1x1x1024 .f32) (w : FVec Ideal S1024x512 .bf16) (r : Fin 256) (f : Fin 512) :
    k0_pay2 (F := Ideal) x g sh sc w (ix2 r f) = Cert.Layer.rowMul (Cert.Layer.modulated (fun k => x (ix2 r k)) (fun k => g (ix2 0 k)) (fun k => sh (ix3 0 0 k)) (fun k => sc (ix3 0 0 k))) (fun k f => w (ix2 k f)) f := by
  refine (pay4_at (k0_pay1 (F := Ideal) x g sh sc) w r f).trans ?_
  simp only [pay1_at]

theorem pay3_at (x : FVec Ideal S256x1024 .f32) (g : FVec Ideal S1x1024 .f32) (sh sc : FVec Ideal S1x1x1024 .f32) (w : FVec Ideal S1024x512 .bf16) (r : Fin 256) (f : Fin 512) :
    k0_pay3 (F := Ideal) x g sh sc w (ix2 r f) = Cert.Layer.rowMul (Cert.Layer.modulated (fun k => x (ix2 r k)) (fun k => g (ix2 0 k)) (fun k => sh (ix3 0 0 k)) (fun k => sc (ix3 0 0 k))) (fun k f => w (ix2 k f)) f := by
  refine (pay4_at (k0_pay1 (F := Ideal) x g sh sc) w r f).trans ?_
  simp only [pay1_at]

theorem ld0_at (x : Vec Ideal S256x1024 .f32) (r : Fin 256) (k : Fin 1024) : View.ld x r0_0 (ix2 r k) = x (ix2 r k) := by
  pointwise

theorem ld1_at (x : Vec Ideal S1x1024 .f32) (k : Fin 1024) : View.ld x r0_1 (ix2 0 k) = x (ix2 0 k) := by
  pointwise

theorem ld2_at (x : Vec Ideal S1x1x1024 .f32) (k : Fin 1024) : View.ld x r0_2 (ix3 0 0 k) = x (ix3 0 0 k) := by
  pointwise

/-- The body's stored block: every column tile is the modulated row times that tile of the weights. -/
theorem out_at (x : Vec Ideal S256x1024 .f32) (sh sc : Vec Ideal S1x1x1024 .f32) (g : Vec Ideal S1x1024 .f32) (w : Vec Ideal S1024x7168 .bf16)
    (y : S256x7168.Idx) : out0_5 (F := Ideal) x sh sc g w y = Cert.Layer.rowMul (Cert.Layer.modulated (fun k => x (ix2 (y 0) k)) (fun k => g (ix2 0 k)) (fun k => sh (ix3 0 0 k)) (fun k => sc (ix3 0 0 k)))
      (fun k f => w (ix2 k f)) (y 1) := by
  unfold_out out0_5
  canon_tiles z hz
  all_goals
    idx_vars z
    idx_vars y
    obtain rfl : y0 = z0 := Fin.ext hz0
    simp only [pay2_at, pay3_at, pay4_at, pay5_at, pay6_at, pay7_at, pay8_at, pay9_at, pay10_at, pay11_at, pay12_at, pay13_at, pay14_at, pay15_at, pay1_at]
    refine Finset.sum_congr rfl fun k _ => congrArg₂ (· * ·) (Cert.Layer.modulated_congr (ld0_at x y0) (ld1_at g) (ld2_at sh) (ld2_at sc) k) ?_
    pointwise
    blk_ext

/-- Which block each window is on at a grid point: 256 rows of the activations, the modulation of the rows' sequence (sixteen
    row blocks each), the weights whole. -/
theorem idx : ∀ t : Fin cfg0.N, win0_0.index t = ![t.val, 0] ∧ win0_1.index t = ![t.val / 16, 0, 0]
    ∧ win0_2.index t = ![t.val / 16, 0, 0] ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ)
variable (m' : (ℓ : Loc Cert.Reference7Ideal.nD Cert.Reference7Ideal.τ Cert.Reference7Ideal.sig) → Buf (Elt Ideal) ℓ)

/-- The argument arrays of the two programs agree on device `c`. -/
abbrev Same (c : Dev nD) : Prop :=
  m' ((c.tc : Thread Cert.Reference7Ideal.nD Cert.Reference7Ideal.τ).loc Cert.Reference7Ideal.main_arg0) = m ((c : Thread nD τ).loc main_arg0)
  ∧ m' ((c.tc : Thread Cert.Reference7Ideal.nD Cert.Reference7Ideal.τ).loc Cert.Reference7Ideal.main_arg1) = m ((c : Thread nD τ).loc main_arg1)
  ∧ m' ((c.tc : Thread Cert.Reference7Ideal.nD Cert.Reference7Ideal.τ).loc Cert.Reference7Ideal.main_arg2) = m ((c : Thread nD τ).loc main_arg2)
  ∧ m' ((c.tc : Thread Cert.Reference7Ideal.nD Cert.Reference7Ideal.τ).loc Cert.Reference7Ideal.main_arg3) = m ((c : Thread nD τ).loc main_arg3)
  ∧ m' ((c.tc : Thread Cert.Reference7Ideal.nD Cert.Reference7Ideal.τ).loc Cert.Reference7Ideal.main_arg4) = m ((c : Thread nD τ).loc main_arg4)

/-- The row of the activations a block's row is. -/
abbrev rowAt (t : Fin cfg0.N) (r : Fin 256) : Fin 16384 := ⟨t.val * 256 + r.val, by have : t.val < 64 := t.isLt; omega⟩

theorem rd0 (c : Dev nD) (t : Fin cfg0.N) (r : Fin 256) (k : Fin 1024) : iblk m c 0 t (ix2 r k) =
    m ((c : Thread nD τ).loc main_arg0) (ix3 (⟨(rowAt t r).val / 4096, by omega⟩ : Fin 4) (⟨(rowAt t r).val % 4096, by omega⟩ : Fin 4096) k) := by
  have e : ((cfg0.win 0).blk t).view.emb (ix2 r k) = ix2 (rowAt t r) k := by
    blk_ext [idx t]
  show V m c (Pipeline.arrRef spec0 0) (((cfg0.win 0).blk t).view.emb (ix2 r k)) = _
  refine (congrArg _ e).trans ?_
  exact Cert.Reference3Ideal.Mixer.cast_at _ _ _

theorem seq_at (v : FVec Ideal S4x1024 .f32) (b : Fin 4) (k : Fin 1024) : shapeCast S4x1x1024 v shapeCasts_S4x1024_S4x1x1024 (ix3 b 0 k) = v (ix2 b k) := by
  pointwise

theorem row_at (v : FVec Ideal S1024 .f32) (k : Fin 1024) : shapeCast S1x1024 v shapeCasts_S1024_S1x1024 (ix2 0 k) = v (ix1 k) := by
  pointwise

theorem rd1 (c : Dev nD) (t : Fin cfg0.N) (r : Fin 256) (k : Fin 1024) : iblk m c 1 t (ix3 0 0 k) =
    m ((c : Thread nD τ).loc main_arg1) (ix2 (⟨(rowAt t r).val / 4096, by omega⟩ : Fin 4) k) := by
  have ht : t.val < 64 := t.isLt
  have e : ((cfg0.win 1).blk t).view.emb (ix3 0 0 k) = ix3 (⟨(rowAt t r).val / 4096, by omega⟩ : Fin 4) 0 k := by
    blk_ext [idx t]
  show V m c (Pipeline.arrRef spec0 1) (((cfg0.win 1).blk t).view.emb (ix3 0 0 k)) = _
  refine (congrArg _ e).trans ?_
  exact seq_at _ _ k

theorem rd2 (c : Dev nD) (t : Fin cfg0.N) (r : Fin 256) (k : Fin 1024) : iblk m c 2 t (ix3 0 0 k) =
    m ((c : Thread nD τ).loc main_arg2) (ix2 (⟨(rowAt t r).val / 4096, by omega⟩ : Fin 4) k) := by
  have ht : t.val < 64 := t.isLt
  have e : ((cfg0.win 2).blk t).view.emb (ix3 0 0 k) = ix3 (⟨(rowAt t r).val / 4096, by omega⟩ : Fin 4) 0 k := by
    blk_ext [idx t]
  show V m c (Pipeline.arrRef spec0 2) (((cfg0.win 2).blk t).view.emb (ix3 0 0 k)) = _
  refine (congrArg _ e).trans ?_
  exact seq_at _ _ k

theorem rd3 (c : Dev nD) (t : Fin cfg0.N) (k : Fin 1024) : iblk m c 3 t (ix2 0 k) = m ((c : Thread nD τ).loc main_arg3) (ix1 k) := by
  have e : ((cfg0.win 3).blk t).view.emb (ix2 0 k) = ix2 0 k := by
    blk_ext [idx t]
  show V m c (Pipeline.arrRef spec0 3) (((cfg0.win 3).blk t).view.emb (ix2 0 k)) = _
  refine (congrArg _ e).trans ?_
  exact row_at _ k

/-- The reordered weights. -/
def reordered (w : FVec Ideal S1024x9832 .f32) : FVec Ideal S1024x7168 .f32 :=
  concatenate S1024x7168 1 [⟨S1024x2048, extractStridedSlice S1024x2048 ![0, 0] (extractStridedSlice S1024x3072 ![0, 4680] w slices_S1024x9832_S1024x3072_0_4680) slices_S1024x3072_S1024x2048_0_0⟩,
    ⟨S1024x2048, extractStridedSlice S1024x2048 ![0, 2632] w slices_S1024x9832_S1024x2048_0_2632⟩,
    ⟨S1024x1024, extractStridedSlice S1024x1024 ![0, 7784] w slices_S1024x9832_S1024x1024_0_7784⟩,
    ⟨S1024x1024, extractStridedSlice S1024x1024 ![0, 8808] w slices_S1024x9832_S1024x1024_0_8808⟩,
    ⟨S1024x512, extractStridedSlice S1024x512 ![0, 2048] (extractStridedSlice S1024x3072 ![0, 4680] w slices_S1024x9832_S1024x3072_0_4680) slices_S1024x3072_S1024x512_0_2048⟩,
    ⟨S1024x512, extractStridedSlice S1024x512 ![0, 2560] (extractStridedSlice S1024x3072 ![0, 4680] w slices_S1024x9832_S1024x3072_0_4680) slices_S1024x3072_S1024x512_0_2560⟩]
    concatenates_S1024x2048_S1024x2048_S1024x1024_S1024x1024_S1024x512_S1024x512_S1024x7168_d1

theorem reordered_at (w : FVec Ideal S1024x9832 .f32) (k : Fin 1024) (f : Fin 7168) (q : Fin 9832) :
    (f.val < 2048 → q.val = 4680 + f.val) ∧ (2048 ≤ f.val → f.val < 4096 → q.val = 584 + f.val) ∧ (4096 ≤ f.val → f.val < 6144 → q.val = 3688 + f.val)
      ∧ (6144 ≤ f.val → q.val = 584 + f.val) →
    reordered w (ix2 k f) = w (ix2 k q) := by
  have hf := f.isLt
  have e : ∀ a : Fin 9832, a.val = q.val → w (ix2 k a) = w (ix2 k q) := fun a h => by rw [Fin.ext h]
  pointwise [reordered]
  intro hq
  split_ifs <;> (refine e _ ?_; simp only; omega)

theorem weights (c : Dev nD) : V m c (Pipeline.arrRef spec0 4) = truncf .bf16 (reordered (m ((c : Thread nD τ).loc main_arg4))) bitsLt_bf16_f32 := rfl

theorem rd4 (c : Dev nD) (t : Fin cfg0.N) (k : Fin 1024) (f : Fin 7168) : iblk m c 4 t (ix2 k f) = m ((c : Thread nD τ).loc main_arg4) (ix2 k (Cert.Layer.source f)) := by
  have e : ((cfg0.win 4).blk t).view.emb (ix2 k f) = ix2 k f := by
    blk_ext [idx t]
  show V m c (Pipeline.arrRef spec0 4) (((cfg0.win 4).blk t).view.emb (ix2 k f)) = _
  refine (congrArg _ e).trans ?_
  rw [weights]
  exact reordered_at _ k f _ (Cert.Layer.source_val f)

/-- The call's result array, by the plain formulas. -/
def rows (c : Dev nD) : FVec Ideal S16384x7168 .f32 := fun y =>
  Cert.Layer.rowMul (Cert.Layer.modulated
      (fun k => m ((c : Thread nD τ).loc main_arg0) (ix3 (⟨(y 0).val / 4096, by have : (y 0).val < 16384 := (y 0).isLt; omega⟩ : Fin 4) (⟨(y 0).val % 4096, by omega⟩ : Fin 4096) k))
      (fun k => m ((c : Thread nD τ).loc main_arg3) (ix1 k))
      (fun k => m ((c : Thread nD τ).loc main_arg1) (ix2 (⟨(y 0).val / 4096, by have : (y 0).val < 16384 := (y 0).isLt; omega⟩ : Fin 4) k))
      (fun k => m ((c : Thread nD τ).loc main_arg2) (ix2 (⟨(y 0).val / 4096, by have : (y 0).val < 16384 := (y 0).isLt; omega⟩ : Fin 4) k)))
    (fun k f => m ((c : Thread nD τ).loc main_arg4) (ix2 k f)) (Cert.Layer.source (y 1))

theorem array (c : Dev nD) : (dats m 0 c).arrAt 5 (cfgs 0).N = rows m c := by
  refine (dats m 0 c).arrAt_eq_of_covers 5 _ (by decide +kernel) fun t _ y => ?_
  have ht : t.val < 64 := t.isLt
  blk_simp
  rw [after0_5]
  idx_vars y
  have e : ((cfg0.win 5).blk t).view.emb (ix2 y0 y1) = ix2 (rowAt t y0) y1 := by
    blk_ext [idx t]
  refine (out_at _ _ _ _ _ (ix2 y0 y1)).trans ?_
  refine Eq.trans ?_ (congrArg _ e).symm
  show Cert.Layer.rowMul (Cert.Layer.modulated (fun k => iblk m c 0 t (ix2 y0 k)) (fun k => iblk m c 3 t (ix2 0 k)) (fun k => iblk m c 1 t (ix3 0 0 k)) (fun k => iblk m c 2 t (ix3 0 0 k)))
      (fun k f => iblk m c 4 t (ix2 k f)) y1 = _
  simp only [rd0, rd1 m c t y0, rd2 m c t y0, rd3, rd4]
  rfl

/-- What the host takes of the call's array: the last three rows of every prompt, the channels' columns. -/
def picked (a : FVec Ideal S16384x7168 .f32) : FVec Ideal S4x3x3072 .f32 :=
  concatenate S4x3x3072 2 [⟨S4x3x2048, extractStridedSlice S4x3x2048 ![0, 0, 0] (extractStridedSlice S4x3x7168 ![0, 4093, 0] (shapeCast S4x4096x7168 a shapeCasts_S16384x7168_S4x4096x7168) slices_S4x4096x7168_S4x3x7168_0_4093_0) slices_S4x3x7168_S4x3x2048_0_0_0⟩,
    ⟨S4x3x512, extractStridedSlice S4x3x512 ![0, 0, 6144] (extractStridedSlice S4x3x7168 ![0, 4093, 0] (shapeCast S4x4096x7168 a shapeCasts_S16384x7168_S4x4096x7168) slices_S4x4096x7168_S4x3x7168_0_4093_0) slices_S4x3x7168_S4x3x512_0_0_6144⟩,
    ⟨S4x3x512, extractStridedSlice S4x3x512 ![0, 0, 6656] (extractStridedSlice S4x3x7168 ![0, 4093, 0] (shapeCast S4x4096x7168 a shapeCasts_S16384x7168_S4x4096x7168) slices_S4x4096x7168_S4x3x7168_0_4093_0) slices_S4x3x7168_S4x3x512_0_0_6656⟩]
    concatenates_S4x3x2048_S4x3x512_S4x3x512_S4x3x3072_d2

theorem picked_at (a : FVec Ideal S16384x7168 .f32) (b : Fin 4) (j : Fin 3) (f : Fin 3072) (r : Fin 16384) (q : Fin 7168)
    (hr : r.val = b.val * 4096 + 4093 + j.val) (hq : q.val = if f.val < 2048 then f.val else 4096 + f.val) :
    picked a (ix3 b j f) = a (ix2 r q) := by
  have hf := f.isLt
  have hb := b.isLt
  have hj := j.isLt
  have e : ∀ (r' : Fin 16384) (q' : Fin 7168), r'.val = r.val → q'.val = q.val → a (ix2 r' q') = a (ix2 r q) :=
    fun r' q' h h' => by rw [Fin.ext h, Fin.ext h']
  revert hq
  pointwise [picked]
  intro hq
  split_ifs at hq ⊢
  all_goals first | omega | (refine e _ _ ?_ ?_ <;> simp only <;> omega)

/-- The channels kept are the reference's. -/
theorem final (c : Dev nD) (h : Same m m' c) : picked ((dats m 0 c).arrAt 5 (cfgs 0).N) =
    Cert.Reference7Ideal.Tail.kept (Cert.Reference4Ideal.Projection.whole (Cert.Reference3Ideal.Mixer.modulated
      (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)))
      (m' ((c.tc : Thread Cert.Reference7Ideal.nD Cert.Reference7Ideal.τ).loc Cert.Reference7Ideal.main_arg4))) := by
  obtain ⟨h0, h1, h2, h3, h4⟩ := h
  rw [array]
  funext y
  idx_vars y
  have hb := y0.isLt
  have hj := y1.isLt
  have hf := y2.isLt
  let r : Fin 16384 := ⟨y0.val * 4096 + 4093 + y1.val, by omega⟩
  let q : Fin 7168 := ⟨if y2.val < 2048 then y2.val else 4096 + y2.val, by split_ifs <;> omega⟩
  have hs : Cert.Layer.source q = (⟨4680 + y2.val, by omega⟩ : Fin 9832) := by
    refine Fin.ext ?_
    simp only [Cert.Layer.source, q]
    split_ifs <;> omega
  have hd : (⟨r.val / 4096, by omega⟩ : Fin 4) = y0 := Fin.ext (by simp only [r]; omega)
  have hm : (⟨r.val % 4096, by omega⟩ : Fin 4096) = (⟨4093 + y1.val, by omega⟩ : Fin 4096) := Fin.ext (by simp only [r]; omega)
  refine (picked_at (rows m c) y0 y1 y2 r q rfl rfl).trans ?_
  rw [Cert.Reference7Ideal.Tail.kept_at, Cert.Reference4Ideal.Projection.whole_at]
  simp only [Cert.Reference3Ideal.Mixer.modulated_at, h0, h1, h2, h3, h4, ← hs, ← hd, ← hm]
  rfl

/-- The lines after the call, read down to its result array. -/
theorem tail_eq (c : Dev nD) : Pipeline.afterTail₀ cfgs (dats m) 0 (V0 m) [hostOps1] c main_v19 = picked ((dats m 0 c).arrAt 5 (cfgs 0).N) := by
  have hw : Pipeline.withArrays (cfgs 0).spec c (V0 m c) (fun w => (dats m 0 c).arrAt w (cfgs 0).N) (Proc.devRef .tc (Pipeline.arrRef (cfgs 0).spec 5)) =
      (dats m 0 c).arrAt 5 (cfgs 0).N := Pipeline.withArrays_arr _ (by decide) c (V0 m c) _ 5
  rw [← hw]
  rfl

end Cert.Kernel7Ideal.Tail

end
-- ==== Proof.TailSample.lean ====
/- The rows of the channels kept from a sampled step: what the host takes of the in-projection's call is what the reference's padded channels end with. -/
module

public import proofs.«01_k».proof.Defs
public import proofs.«01_k».proof.Proof.Projection
public import proofs.«01_k».proof.Proof.ClosingSample
public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference8Ideal.Tail
open Cert.Reference8Ideal Cert.Reference8Ideal.Gen

/-- The whole projection. -/
def whole (h : FVec Ideal S32x4x1024 .f32) (w : FVec Ideal S1024x9832 .f32) : FVec Ideal S32x4x9832 .f32 :=
  Host.dotGeneral dot_S32x4x1024_S1024x9832_S32x4x9832_2_0_01_1_n_n none h w

theorem whole_at (h : FVec Ideal S32x4x1024 .f32) (w : FVec Ideal S1024x9832 .f32) (b : Fin 32) (s : Fin 4) (f : Fin 9832) :
    whole h w (ix3 b s f) = Cert.Layer.rowMul (fun k => h (ix3 b s k)) (fun k f => w (ix2 k f)) f := by
  pointwise [whole]
  rfl

/-- The last three rows of the channels of every sequence, behind the three rows kept from before. -/
def kept (s : FVec Ideal S32x3x3072 .f32) (p : FVec Ideal S32x4x9832 .f32) : FVec Ideal S32x3x3072 .f32 :=
  extractStridedSlice S32x3x3072 ![0, 4, 0] (concatenate S32x7x3072 1 [⟨S32x3x3072, s⟩, ⟨S32x4x3072, (extractStridedSlice S32x4x3072 ![0, 0, 4680] p slices_S32x4x9832_S32x4x3072_0_0_4680)⟩] concatenates_S32x3x3072_S32x4x3072_S32x7x3072_d1) slices_S32x7x3072_S32x3x3072_0_4_0

theorem kept_at (s : FVec Ideal S32x3x3072 .f32) (p : FVec Ideal S32x4x9832 .f32) (b : Fin 32) (j : Fin 3) (f : Fin 3072) :
    kept s p (ix3 b j f) = p (ix3 b (⟨1 + j.val, by omega⟩ : Fin 4) (⟨4680 + f.val, by omega⟩ : Fin 9832)) := by
  have hj := j.isLt
  have e : ∀ a : Fin 4, a.val = 1 + j.val → p (ix3 b a (⟨4680 + f.val, by omega⟩ : Fin 9832)) = p (ix3 b (⟨1 + j.val, by omega⟩ : Fin 4) (⟨4680 + f.val, by omega⟩ : Fin 9832)) :=
    fun a h => by rw [show a = (⟨1 + j.val, by omega⟩ : Fin 4) from Fin.ext h]
  pointwise [kept]
  split_ifs
  all_goals first | omega | (refine e _ ?_; simp only; omega)

end Cert.Reference8Ideal.Tail

namespace Cert.Kernel8Ideal.Tail

open Cert.Kernel8Ideal Cert.Kernel8Ideal.Gen

theorem pay1_at (x : FVec Ideal S128x1024 .f32) (g : FVec Ideal S1x1024 .f32) (sh sc : FVec Ideal S1x128x1024 .f32) (r : Fin 128) (k : Fin 1024) :
    k0_pay1 (F := Ideal) x g sh sc (ix2 r k) = Cert.Layer.modulated (fun k => x (ix2 r k)) (fun k => g (ix2 0 k)) (fun k => sh (ix3 0 r k)) (fun k => sc (ix3 0 r k)) k := by
  pointwise [k0_pay1]
  rfl

theorem pay4_at (h : FVec Ideal S128x1024 .bf16) (w : FVec Ideal S1024x512 .bf16) (r : Fin 128) (f : Fin 512) :
    k0_pay4 (F := Ideal) h w (ix2 r f) = Cert.Layer.rowMul (fun k => h (ix2 r k)) (fun k f => w (ix2 k f)) f := by
  pointwise [k0_pay4]
  rfl

theorem pay5_at (h : FVec Ideal S128x1024 .bf16) (w : FVec Ideal S1024x512 .bf16) (r : Fin 128) (f : Fin 512) :
    k0_pay5 (F := Ideal) h w (ix2 r f) = Cert.Layer.rowMul (fun k => h (ix2 r k)) (fun k f => w (ix2 k f)) f := pay4_at h w r f

theorem pay6_at (h : FVec Ideal S128x1024 .bf16) (w : FVec Ideal S1024x512 .bf16) (r : Fin 128) (f : Fin 512) :
    k0_pay6 (F := Ideal) h w (ix2 r f) = Cert.Layer.rowMul (fun k => h (ix2 r k)) (fun k f => w (ix2 k f)) f := pay4_at h w r f

theorem pay7_at (h : FVec Ideal S128x1024 .bf16) (w : FVec Ideal S1024x512 .bf16) (r : Fin 128) (f : Fin 512) :
    k0_pay7 (F := Ideal) h w (ix2 r f) = Cert.Layer.rowMul (fun k => h (ix2 r k)) (fun k f => w (ix2 k f)) f := pay4_at h w r f

theorem pay8_at (h : FVec Ideal S128x1024 .bf16) (w : FVec Ideal S1024x512 .bf16) (r : Fin 128) (f : Fin 512) :
    k0_pay8 (F := Ideal) h w (ix2 r f) = Cert.Layer.rowMul (fun k => h (ix2 r k)) (fun k f => w (ix2 k f)) f := pay4_at h w r f

theorem pay9_at (h : FVec Ideal S128x1024 .bf16) (w : FVec Ideal S1024x512 .bf16) (r : Fin 128) (f : Fin 512) :
    k0_pay9 (F := Ideal) h w (ix2 r f) = Cert.Layer.rowMul (fun k => h (ix2 r k)) (fun k f => w (ix2 k f)) f := pay4_at h w r f

theorem pay10_at (h : FVec Ideal S128x1024 .bf16) (w : FVec Ideal S1024x512 .bf16) (r : Fin 128) (f : Fin 512) :
    k0_pay10 (F := Ideal) h w (ix2 r f) = Cert.Layer.rowMul (fun k => h (ix2 r k)) (fun k f => w (ix2 k f)) f := pay4_at h w r f

theorem pay11_at (h : FVec Ideal S128x1024 .bf16) (w : FVec Ideal S1024x512 .bf16) (r : Fin 128) (f : Fin 512) :
    k0_pay11 (F := Ideal) h w (ix2 r f) = Cert.Layer.rowMul (fun k => h (ix2 r k)) (fun k f => w (ix2 k f)) f := pay4_at h w r f

theorem pay12_at (h : FVec Ideal S128x1024 .bf16) (w : FVec Ideal S1024x512 .bf16) (r : Fin 128) (f : Fin 512) :
    k0_pay12 (F := Ideal) h w (ix2 r f) = Cert.Layer.rowMul (fun k => h (ix2 r k)) (fun k f => w (ix2 k f)) f := pay4_at h w r f

theorem pay13_at (h : FVec Ideal S128x1024 .bf16) (w : FVec Ideal S1024x512 .bf16) (r : Fin 128) (f : Fin 512) :
    k0_pay13 (F := Ideal) h w (ix2 r f) = Cert.Layer.rowMul (fun k => h (ix2 r k)) (fun k f => w (ix2 k f)) f := pay4_at h w r f

theorem pay14_at (h : FVec Ideal S128x1024 .bf16) (w : FVec Ideal S1024x512 .bf16) (r : Fin 128) (f : Fin 512) :
    k0_pay14 (F := Ideal) h w (ix2 r f) = Cert.Layer.rowMul (fun k => h (ix2 r k)) (fun k f => w (ix2 k f)) f := pay4_at h w r f

theorem pay15_at (h : FVec Ideal S128x1024 .bf16) (w : FVec Ideal S1024x512 .bf16) (r : Fin 128) (f : Fin 512) :
    k0_pay15 (F := Ideal) h w (ix2 r f) = Cert.Layer.rowMul (fun k => h (ix2 r k)) (fun k f => w (ix2 k f)) f := pay4_at h w r f

theorem pay2_at (x : FVec Ideal S128x1024 .f32) (g : FVec Ideal S1x1024 .f32) (sh sc : FVec Ideal S1x128x1024 .f32) (w : FVec Ideal S1024x512 .bf16) (r : Fin 128) (f : Fin 512) :
    k0_pay2 (F := Ideal) x g sh sc w (ix2 r f) = Cert.Layer.rowMul (Cert.Layer.modulated (fun k => x (ix2 r k)) (fun k => g (ix2 0 k)) (fun k => sh (ix3 0 r k)) (fun k => sc (ix3 0 r k))) (fun k f => w (ix2 k f)) f := by
  refine (pay4_at (k0_pay1 (F := Ideal) x g sh sc) w r f).trans ?_
  simp only [pay1_at]

theorem pay3_at (x : FVec Ideal S128x1024 .f32) (g : FVec Ideal S1x1024 .f32) (sh sc : FVec Ideal S1x128x1024 .f32) (w : FVec Ideal S1024x512 .bf16) (r : Fin 128) (f : Fin 512) :
    k0_pay3 (F := Ideal) x g sh sc w (ix2 r f) = Cert.Layer.rowMul (Cert.Layer.modulated (fun k => x (ix2 r k)) (fun k => g (ix2 0 k)) (fun k => sh (ix3 0 r k)) (fun k => sc (ix3 0 r k))) (fun k f => w (ix2 k f)) f := by
  refine (pay4_at (k0_pay1 (F := Ideal) x g sh sc) w r f).trans ?_
  simp only [pay1_at]

theorem ld0_at (x : Vec Ideal S128x1024 .f32) (r : Fin 128) (k : Fin 1024) : View.ld x r0_0 (ix2 r k) = x (ix2 r k) := by
  pointwise

theorem ld1_at (x : Vec Ideal S1x1024 .f32) (k : Fin 1024) : View.ld x r0_1 (ix2 0 k) = x (ix2 0 k) := by
  pointwise

theorem ld2_at (x : Vec Ideal S1x128x1024 .f32) (r : Fin 128) (k : Fin 1024) : View.ld x r0_2 (ix3 0 r k) = x (ix3 0 r k) := by
  pointwise

/-- The body's stored block: every column tile is the modulated row times that tile of the weights. -/
theorem out_at (x : Vec Ideal S128x1024 .f32) (sh sc : Vec Ideal S1x128x1024 .f32) (g : Vec Ideal S1x1024 .f32) (w : Vec Ideal S1024x7168 .bf16)
    (y : S128x7168.Idx) : out0_5 (F := Ideal) x sh sc g w y = Cert.Layer.rowMul (Cert.Layer.modulated (fun k => x (ix2 (y 0) k)) (fun k => g (ix2 0 k)) (fun k => sh (ix3 0 (y 0) k)) (fun k => sc (ix3 0 (y 0) k)))
      (fun k f => w (ix2 k f)) (y 1) := by
  unfold_out out0_5
  canon_tiles z hz
  all_goals
    idx_vars z
    idx_vars y
    obtain rfl : y0 = z0 := Fin.ext hz0
    simp only [pay2_at, pay3_at, pay4_at, pay5_at, pay6_at, pay7_at, pay8_at, pay9_at, pay10_at, pay11_at, pay12_at, pay13_at, pay14_at, pay15_at, pay1_at]
    refine Finset.sum_congr rfl fun k _ => congrArg₂ (· * ·) (Cert.Layer.modulated_congr (ld0_at x y0) (ld1_at g) (ld2_at sh y0) (ld2_at sc y0) k) ?_
    pointwise
    blk_ext

/-- Which block each window is on at the one grid point: the one block of each array, whole. -/
theorem idx : ∀ t : Fin cfg0.N, win0_0.index t = ![t.val, 0] ∧ win0_1.index t = ![t.val, 0, 0]
    ∧ win0_2.index t = ![t.val, 0, 0] ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ)
variable (m' : (ℓ : Loc Cert.Reference8Ideal.nD Cert.Reference8Ideal.τ Cert.Reference8Ideal.sig) → Buf (Elt Ideal) ℓ)

/-- The argument arrays of the two programs agree on device `c`. -/
abbrev Same (c : Dev nD) : Prop :=
  m' ((c.tc : Thread Cert.Reference8Ideal.nD Cert.Reference8Ideal.τ).loc Cert.Reference8Ideal.main_arg0) = m ((c : Thread nD τ).loc main_arg0)
  ∧ m' ((c.tc : Thread Cert.Reference8Ideal.nD Cert.Reference8Ideal.τ).loc Cert.Reference8Ideal.main_arg1) = m ((c : Thread nD τ).loc main_arg1)
  ∧ m' ((c.tc : Thread Cert.Reference8Ideal.nD Cert.Reference8Ideal.τ).loc Cert.Reference8Ideal.main_arg2) = m ((c : Thread nD τ).loc main_arg2)
  ∧ m' ((c.tc : Thread Cert.Reference8Ideal.nD Cert.Reference8Ideal.τ).loc Cert.Reference8Ideal.main_arg3) = m ((c : Thread nD τ).loc main_arg3)
  ∧ m' ((c.tc : Thread Cert.Reference8Ideal.nD Cert.Reference8Ideal.τ).loc Cert.Reference8Ideal.main_arg4) = m ((c : Thread nD τ).loc main_arg4)
  ∧ m' ((c.tc : Thread Cert.Reference8Ideal.nD Cert.Reference8Ideal.τ).loc Cert.Reference8Ideal.main_arg5) = m ((c : Thread nD τ).loc main_arg5)

/-- The row of the activations a block's row is. -/
abbrev rowAt (t : Fin cfg0.N) (r : Fin 128) : Fin 128 := ⟨t.val * 128 + r.val, by have : t.val < 1 := t.isLt; omega⟩

theorem rd0 (c : Dev nD) (t : Fin cfg0.N) (r : Fin 128) (k : Fin 1024) : iblk m c 0 t (ix2 r k) =
    m ((c : Thread nD τ).loc main_arg0) (ix3 (⟨(rowAt t r).val / 4, by omega⟩ : Fin 32) (⟨(rowAt t r).val % 4, by omega⟩ : Fin 4) k) := by
  have e : ((cfg0.win 0).blk t).view.emb (ix2 r k) = ix2 (rowAt t r) k := by
    blk_ext [idx t]
  show V m c (Pipeline.arrRef spec0 0) (((cfg0.win 0).blk t).view.emb (ix2 r k)) = _
  refine (congrArg _ e).trans ?_
  exact Cert.Reference6Ideal.Mixer.cast_at _ _ _

theorem seq_at (v : FVec Ideal S32x1024 .f32) (r : Fin 128) (k : Fin 1024) : shapeCast S1x128x1024 (shapeCast S128x1024 (broadcastInDim S32x4x1024 ![0, 2] bcast_S32x1024_S32x4x1024_0_2 v) shapeCasts_S32x4x1024_S128x1024) shapeCasts_S128x1024_S1x128x1024 (ix3 0 r k) = v (ix2 (⟨r.val / 4, by omega⟩ : Fin 32) k) := by
  pointwise

theorem row_at (v : FVec Ideal S1024 .f32) (k : Fin 1024) : shapeCast S1x1024 v shapeCasts_S1024_S1x1024 (ix2 0 k) = v (ix1 k) := by
  pointwise

theorem rd1 (c : Dev nD) (t : Fin cfg0.N) (r : Fin 128) (k : Fin 1024) : iblk m c 1 t (ix3 0 r k) =
    m ((c : Thread nD τ).loc main_arg1) (ix2 (⟨(rowAt t r).val / 4, by omega⟩ : Fin 32) k) := by
  have ht : t.val < 1 := t.isLt
  have e : ((cfg0.win 1).blk t).view.emb (ix3 0 r k) = ix3 0 (rowAt t r) k := by
    blk_ext [idx t]
  show V m c (Pipeline.arrRef spec0 1) (((cfg0.win 1).blk t).view.emb (ix3 0 r k)) = _
  refine (congrArg _ e).trans ?_
  exact seq_at _ _ k

theorem rd2 (c : Dev nD) (t : Fin cfg0.N) (r : Fin 128) (k : Fin 1024) : iblk m c 2 t (ix3 0 r k) =
    m ((c : Thread nD τ).loc main_arg2) (ix2 (⟨(rowAt t r).val / 4, by omega⟩ : Fin 32) k) := by
  have ht : t.val < 1 := t.isLt
  have e : ((cfg0.win 2).blk t).view.emb (ix3 0 r k) = ix3 0 (rowAt t r) k := by
    blk_ext [idx t]
  show V m c (Pipeline.arrRef spec0 2) (((cfg0.win 2).blk t).view.emb (ix3 0 r k)) = _
  refine (congrArg _ e).trans ?_
  exact seq_at _ _ k

theorem rd3 (c : Dev nD) (t : Fin cfg0.N) (k : Fin 1024) : iblk m c 3 t (ix2 0 k) = m ((c : Thread nD τ).loc main_arg3) (ix1 k) := by
  have e : ((cfg0.win 3).blk t).view.emb (ix2 0 k) = ix2 0 k := by
    blk_ext [idx t]
  show V m c (Pipeline.arrRef spec0 3) (((cfg0.win 3).blk t).view.emb (ix2 0 k)) = _
  refine (congrArg _ e).trans ?_
  exact row_at _ k

/-- The reordered weights. -/
def reordered (w : FVec Ideal S1024x9832 .f32) : FVec Ideal S1024x7168 .f32 :=
  concatenate S1024x7168 1 [⟨S1024x2048, extractStridedSlice S1024x2048 ![0, 0] (extractStridedSlice S1024x3072 ![0, 4680] w slices_S1024x9832_S1024x3072_0_4680) slices_S1024x3072_S1024x2048_0_0⟩,
    ⟨S1024x2048, extractStridedSlice S1024x2048 ![0, 2632] w slices_S1024x9832_S1024x2048_0_2632⟩,
    ⟨S1024x1024, extractStridedSlice S1024x1024 ![0, 7784] w slices_S1024x9832_S1024x1024_0_7784⟩,
    ⟨S1024x1024, extractStridedSlice S1024x1024 ![0, 8808] w slices_S1024x9832_S1024x1024_0_8808⟩,
    ⟨S1024x512, extractStridedSlice S1024x512 ![0, 2048] (extractStridedSlice S1024x3072 ![0, 4680] w slices_S1024x9832_S1024x3072_0_4680) slices_S1024x3072_S1024x512_0_2048⟩,
    ⟨S1024x512, extractStridedSlice S1024x512 ![0, 2560] (extractStridedSlice S1024x3072 ![0, 4680] w slices_S1024x9832_S1024x3072_0_4680) slices_S1024x3072_S1024x512_0_2560⟩]
    concatenates_S1024x2048_S1024x2048_S1024x1024_S1024x1024_S1024x512_S1024x512_S1024x7168_d1

theorem reordered_at (w : FVec Ideal S1024x9832 .f32) (k : Fin 1024) (f : Fin 7168) (q : Fin 9832) :
    (f.val < 2048 → q.val = 4680 + f.val) ∧ (2048 ≤ f.val → f.val < 4096 → q.val = 584 + f.val) ∧ (4096 ≤ f.val → f.val < 6144 → q.val = 3688 + f.val)
      ∧ (6144 ≤ f.val → q.val = 584 + f.val) →
    reordered w (ix2 k f) = w (ix2 k q) := by
  have hf := f.isLt
  have e : ∀ a : Fin 9832, a.val = q.val → w (ix2 k a) = w (ix2 k q) := fun a h => by rw [Fin.ext h]
  pointwise [reordered]
  intro hq
  split_ifs <;> (refine e _ ?_; simp only; omega)

theorem weights (c : Dev nD) : V m c (Pipeline.arrRef spec0 4) = truncf .bf16 (reordered (m ((c : Thread nD τ).loc main_arg4))) bitsLt_bf16_f32 := rfl

theorem rd4 (c : Dev nD) (t : Fin cfg0.N) (k : Fin 1024) (f : Fin 7168) : iblk m c 4 t (ix2 k f) = m ((c : Thread nD τ).loc main_arg4) (ix2 k (Cert.Layer.source f)) := by
  have e : ((cfg0.win 4).blk t).view.emb (ix2 k f) = ix2 k f := by
    blk_ext [idx t]
  show V m c (Pipeline.arrRef spec0 4) (((cfg0.win 4).blk t).view.emb (ix2 k f)) = _
  refine (congrArg _ e).trans ?_
  rw [weights]
  exact reordered_at _ k f _ (Cert.Layer.source_val f)

/-- The call's result array, by the plain formulas. -/
def rows (c : Dev nD) : FVec Ideal S128x7168 .f32 := fun y =>
  Cert.Layer.rowMul (Cert.Layer.modulated
      (fun k => m ((c : Thread nD τ).loc main_arg0) (ix3 (⟨(y 0).val / 4, by have : (y 0).val < 128 := (y 0).isLt; omega⟩ : Fin 32) (⟨(y 0).val % 4, by omega⟩ : Fin 4) k))
      (fun k => m ((c : Thread nD τ).loc main_arg3) (ix1 k))
      (fun k => m ((c : Thread nD τ).loc main_arg1) (ix2 (⟨(y 0).val / 4, by have : (y 0).val < 128 := (y 0).isLt; omega⟩ : Fin 32) k))
      (fun k => m ((c : Thread nD τ).loc main_arg2) (ix2 (⟨(y 0).val / 4, by have : (y 0).val < 128 := (y 0).isLt; omega⟩ : Fin 32) k)))
    (fun k f => m ((c : Thread nD τ).loc main_arg4) (ix2 k f)) (Cert.Layer.source (y 1))

theorem array (c : Dev nD) : (dats m 0 c).arrAt 5 (cfgs 0).N = rows m c := by
  refine (dats m 0 c).arrAt_eq_of_covers 5 _ (by decide +kernel) fun t _ y => ?_
  have ht : t.val < 1 := t.isLt
  blk_simp
  rw [after0_5]
  idx_vars y
  have e : ((cfg0.win 5).blk t).view.emb (ix2 y0 y1) = ix2 (rowAt t y0) y1 := by
    blk_ext [idx t]
  refine (out_at _ _ _ _ _ (ix2 y0 y1)).trans ?_
  refine Eq.trans ?_ (congrArg _ e).symm
  show Cert.Layer.rowMul (Cert.Layer.modulated (fun k => iblk m c 0 t (ix2 y0 k)) (fun k => iblk m c 3 t (ix2 0 k)) (fun k => iblk m c 1 t (ix3 0 y0 k)) (fun k => iblk m c 2 t (ix3 0 y0 k)))
      (fun k f => iblk m c 4 t (ix2 k f)) y1 = _
  simp only [rd0, rd1 m c t y0, rd2 m c t y0, rd3, rd4]
  rfl

/-- What the host takes of the call's array: the channels' columns, behind the rows kept from before, the last three rows. -/
def picked (s : FVec Ideal S32x3x3072 .f32) (a : FVec Ideal S128x7168 .f32) : FVec Ideal S32x3x3072 .f32 :=
  extractStridedSlice S32x3x3072 ![0, 4, 0] (concatenate S32x7x3072 1 [⟨S32x3x3072, s⟩, ⟨S32x4x3072, (concatenate S32x4x3072 2 [⟨S32x4x2048, extractStridedSlice S32x4x2048 ![0, 0, 0] (shapeCast S32x4x7168 a shapeCasts_S128x7168_S32x4x7168) slices_S32x4x7168_S32x4x2048_0_0_0⟩,
    ⟨S32x4x512, extractStridedSlice S32x4x512 ![0, 0, 6144] (shapeCast S32x4x7168 a shapeCasts_S128x7168_S32x4x7168) slices_S32x4x7168_S32x4x512_0_0_6144⟩,
    ⟨S32x4x512, extractStridedSlice S32x4x512 ![0, 0, 6656] (shapeCast S32x4x7168 a shapeCasts_S128x7168_S32x4x7168) slices_S32x4x7168_S32x4x512_0_0_6656⟩]
    concatenates_S32x4x2048_S32x4x512_S32x4x512_S32x4x3072_d2)⟩] concatenates_S32x3x3072_S32x4x3072_S32x7x3072_d1) slices_S32x7x3072_S32x3x3072_0_4_0

theorem picked_at (s : FVec Ideal S32x3x3072 .f32) (a : FVec Ideal S128x7168 .f32) (b : Fin 32) (j : Fin 3) (f : Fin 3072) (r : Fin 128) (q : Fin 7168)
    (hr : r.val = b.val * 4 + 1 + j.val) (hq : q.val = if f.val < 2048 then f.val else 4096 + f.val) :
    picked s a (ix3 b j f) = a (ix2 r q) := by
  have hf := f.isLt
  have hb := b.isLt
  have hj := j.isLt
  have e : ∀ (r' : Fin 128) (q' : Fin 7168), r'.val = r.val → q'.val = q.val → a (ix2 r' q') = a (ix2 r q) :=
    fun r' q' h h' => by rw [Fin.ext h, Fin.ext h']
  revert hq
  pointwise [picked]
  intro hq
  split_ifs at hq ⊢
  all_goals first | omega | (refine e _ _ ?_ ?_ <;> simp only <;> omega)

/-- The channels kept are the reference's. -/
theorem final (c : Dev nD) (h : Same m m' c) : picked (m ((c : Thread nD τ).loc main_arg5)) ((dats m 0 c).arrAt 5 (cfgs 0).N) =
    Cert.Reference8Ideal.Tail.kept (m' ((c.tc : Thread Cert.Reference8Ideal.nD Cert.Reference8Ideal.τ).loc Cert.Reference8Ideal.main_arg5))
      (Cert.Reference8Ideal.Tail.whole (Cert.Reference6Ideal.Mixer.modulated
      (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
      (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)))
      (m' ((c.tc : Thread Cert.Reference8Ideal.nD Cert.Reference8Ideal.τ).loc Cert.Reference8Ideal.main_arg4))) := by
  obtain ⟨h0, h1, h2, h3, h4, h5⟩ := h
  rw [array]
  funext y
  idx_vars y
  have hb := y0.isLt
  have hj := y1.isLt
  have hf := y2.isLt
  let r : Fin 128 := ⟨y0.val * 4 + 1 + y1.val, by omega⟩
  let q : Fin 7168 := ⟨if y2.val < 2048 then y2.val else 4096 + y2.val, by split_ifs <;> omega⟩
  have hs : Cert.Layer.source q = (⟨4680 + y2.val, by omega⟩ : Fin 9832) := by
    refine Fin.ext ?_
    simp only [Cert.Layer.source, q]
    split_ifs <;> omega
  have hd : (⟨r.val / 4, by omega⟩ : Fin 32) = y0 := Fin.ext (by simp only [r]; omega)
  have hm : (⟨r.val % 4, by omega⟩ : Fin 4) = (⟨1 + y1.val, by omega⟩ : Fin 4) := Fin.ext (by simp only [r]; omega)
  refine (picked_at _ (rows m c) y0 y1 y2 r q rfl rfl).trans ?_
  rw [Cert.Reference8Ideal.Tail.kept_at, Cert.Reference8Ideal.Tail.whole_at]
  simp only [Cert.Reference6Ideal.Mixer.modulated_at, h0, h1, h2, h3, h4, ← hs, ← hd, ← hm]
  rfl

/-- The lines after the call, from any contents of the buffers. -/
theorem after_eq (W : Valuation τ sig (Elt Ideal)) : StableHlo.after [hostOps1].flatten W (Proc.devRef .tc main_v24) =
    picked (W (Proc.devRef .tc main_arg5)) (W (Proc.devRef .tc main_v17)) := by
  simp only [hostOps1, List.flatten_cons, List.flatten_nil, List.append_nil]
  after_results
  rfl

/-- The lines after the call, read down to its result array. -/
theorem tail_eq (c : Dev nD) : Pipeline.afterTail₀ cfgs (dats m) 0 (V0 m) [hostOps1] c main_v24 = picked (m ((c : Thread nD τ).loc main_arg5)) ((dats m 0 c).arrAt 5 (cfgs 0).N) := by
  have hw : Pipeline.withArrays (cfgs 0).spec c (V0 m c) (fun w => (dats m 0 c).arrAt w (cfgs 0).N) (Proc.devRef .tc (Pipeline.arrRef (cfgs 0).spec 5)) =
      (dats m 0 c).arrAt 5 (cfgs 0).N := Pipeline.withArrays_arr _ (by decide) c (V0 m c) _ 5
  have hs : Pipeline.withArrays (cfgs 0).spec c (V0 m c) (fun w => (dats m 0 c).arrAt w (cfgs 0).N) (Proc.devRef .tc main_arg5) =
      m ((c : Thread nD τ).loc main_arg5) :=
    (Pipeline.withArrays_of_ne _ c (V0 m c) _ main_arg5 (by exact (by decide : ∀ w, Pipeline.arrRef spec0 w ≠ main_arg5))).trans (V_main_arg5 m c)
  exact (after_eq _).trans (congrArg₂ picked hs hw)

end Cert.Kernel8Ideal.Tail

end
-- ==== Proof.Keys.lean ====
/- The keys and values of a prompt: the narrow part of the input projection, the keys turned by their position's angles. -/
module

public import proofs.«01_k».proof.Defs
public import proofs.«01_k».proof.Proof.Projection
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference9Ideal.Keys
open Cert.Reference9Ideal Cert.Reference9Ideal.Gen

/-- The angle of every position and frequency. -/
def angles : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The key columns of the projection, by head. -/
def heads (p : FVec Ideal S4x4096x9832 .f32) : FVec Ideal S4x4096x4x128 .f32 :=
  shapeCast S4x4096x4x128 (extractStridedSlice S4x4096x512 ![0, 0, 1024] p slices_S4x4096x9832_S4x4096x512_0_0_1024) shapeCasts_S4x4096x512_S4x4096x4x128

/-- The keys turned by their position's angles. -/
def turned (p : FVec Ideal S4x4096x9832 .f32) (angles : FVec Ideal S4096x64 .f32) : FVec Ideal S65536x128 .f32 :=
  shapeCast S65536x128 (concatenate S4x4096x4x128 3 [⟨S4x4096x4x64, (subf (mulf (extractStridedSlice S4x4096x4x64 ![0, 0, 0, 0] (heads p) slices_S4x4096x4x128_S4x4096x4x64_0_0_0_0) (broadcastInDim S4x4096x4x64 ![0, 1, 2, 3] bcast_S1x4096x1x64_S4x4096x4x64_0_1_2_3 (broadcastInDim S1x4096x1x64 ![1, 3] bcast_S4096x64_S1x4096x1x64_1_3 (Host.cos angles)))) (mulf (extractStridedSlice S4x4096x4x64 ![0, 0, 0, 64] (heads p) slices_S4x4096x4x128_S4x4096x4x64_0_0_0_64) (broadcastInDim S4x4096x4x64 ![0, 1, 2, 3] bcast_S1x4096x1x64_S4x4096x4x64_0_1_2_3 (broadcastInDim S1x4096x1x64 ![1, 3] bcast_S4096x64_S1x4096x1x64_1_3 (Host.sin angles)))))⟩, ⟨S4x4096x4x64, (addf (mulf (extractStridedSlice S4x4096x4x64 ![0, 0, 0, 64] (heads p) slices_S4x4096x4x128_S4x4096x4x64_0_0_0_64) (broadcastInDim S4x4096x4x64 ![0, 1, 2, 3] bcast_S1x4096x1x64_S4x4096x4x64_0_1_2_3 (broadcastInDim S1x4096x1x64 ![1, 3] bcast_S4096x64_S1x4096x1x64_1_3 (Host.cos angles)))) (mulf (extractStridedSlice S4x4096x4x64 ![0, 0, 0, 0] (heads p) slices_S4x4096x4x128_S4x4096x4x64_0_0_0_0) (broadcastInDim S4x4096x4x64 ![0, 1, 2, 3] bcast_S1x4096x1x64_S4x4096x4x64_0_1_2_3 (broadcastInDim S1x4096x1x64 ![1, 3] bcast_S4096x64_S1x4096x1x64_1_3 (Host.sin angles)))))⟩] concatenates_S4x4096x4x64_S4x4096x4x64_S4x4096x4x128_d3) shapeCasts_S4x4096x4x128_S65536x128

/-- The value columns of the projection, one row per head. -/
def values (p : FVec Ideal S4x4096x9832 .f32) : FVec Ideal S65536x128 .f32 :=
  shapeCast S65536x128 (shapeCast S4x4096x4x128 (extractStridedSlice S4x4096x512 ![0, 0, 1536] p slices_S4x4096x9832_S4x4096x512_0_0_1536) shapeCasts_S4x4096x512_S4x4096x4x128) shapeCasts_S4x4096x4x128_S65536x128

/-- The sequence, the position and the head of a row of keys. -/
abbrev seqOf (r : Fin 65536) : Fin 4 := ⟨r.val / 16384, by omega⟩
abbrev posOf (r : Fin 65536) : Fin 4096 := ⟨r.val / 4 % 4096, by omega⟩

theorem values_at (p : FVec Ideal S4x4096x9832 .f32) (r : Fin 65536) (f : Fin 128) :
    values p (ix2 r f) = p (ix3 (seqOf r) (posOf r) (⟨1536 + r.val % 4 * 128 + f.val, by omega⟩ : Fin 9832)) := by
  have e : ∀ (a a' : Fin 4) (b b' : Fin 4096) (d d' : Fin 9832), a.val = a'.val → b.val = b'.val → d.val = d'.val → p (ix3 a b d) = p (ix3 a' b' d') :=
    fun a a' b b' d d' h h' h'' => by rw [Fin.ext h, Fin.ext h', Fin.ext h'']
  pointwise [values]
  refine e _ _ _ _ _ _ ?_ ?_ ?_ <;> simp only <;> omega

theorem heads_at (p : FVec Ideal S4x4096x9832 .f32) (b : Fin 4) (s : Fin 4096) (a : Fin 4) (f : Fin 128) :
    heads p (ix4 b s a f) = p (ix3 b s (⟨1024 + a.val * 128 + f.val, by omega⟩ : Fin 9832)) := by
  have e : ∀ (a a' : Fin 4) (b b' : Fin 4096) (d d' : Fin 9832), a.val = a'.val → b.val = b'.val → d.val = d'.val → p (ix3 a b d) = p (ix3 a' b' d') :=
    fun a a' b b' d d' h h' h'' => by rw [Fin.ext h, Fin.ext h', Fin.ext h'']
  pointwise [heads]
  refine e _ _ _ _ _ _ ?_ ?_ ?_ <;> simp only <;> omega

theorem turned_at (p : FVec Ideal S4x4096x9832 .f32) (an : FVec Ideal S4096x64 .f32) (r : Fin 65536) (f : Fin 128) :
    turned p an (ix2 r f) = if h : f.val < 64
      then p (ix3 (seqOf r) (posOf r) (⟨1024 + r.val % 4 * 128 + f.val, by omega⟩ : Fin 9832)) * Host.cos an (ix2 (posOf r) ⟨f.val, h⟩)
        - p (ix3 (seqOf r) (posOf r) (⟨1024 + r.val % 4 * 128 + (64 + f.val), by omega⟩ : Fin 9832)) * Host.sin an (ix2 (posOf r) ⟨f.val, h⟩)
      else p (ix3 (seqOf r) (posOf r) (⟨1024 + r.val % 4 * 128 + (64 + (f.val - 64)), by omega⟩ : Fin 9832)) * Host.cos an (ix2 (posOf r) ⟨f.val - 64, by omega⟩)
        + p (ix3 (seqOf r) (posOf r) (⟨1024 + r.val % 4 * 128 + (f.val - 64), by omega⟩ : Fin 9832)) * Host.sin an (ix2 (posOf r) ⟨f.val - 64, by omega⟩) := by
  have hh := heads_at p
  unfold turned
  generalize heads p = q at hh ⊢
  pointwise
  simp only [hh]

/-- The reference's first result, in stages. -/
theorem res_eq (m : (ℓ : Loc Cert.Reference9Ideal.nD Cert.Reference9Ideal.τ Cert.Reference9Ideal.sig) → Buf (Elt Ideal) ℓ) (c : Dev nD) :
    Cert.Reference9Ideal.Value.res_main_v56 m c = turned (Cert.Reference4Ideal.Projection.whole (Cert.Reference3Ideal.Mixer.modulated
      (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4))) angles := rfl

end Cert.Reference9Ideal.Keys

namespace Cert.Kernel9Ideal.Keys

open Cert.Kernel9Ideal Cert.Kernel9Ideal.Gen

theorem pay1_at (x : FVec Ideal S512x1024 .f32) (g : FVec Ideal S1x1024 .f32) (sh sc : FVec Ideal S1x1x1024 .f32) (r : Fin 512) (k : Fin 1024) :
    k0_pay1 (F := Ideal) x g sh sc (ix2 r k) = Cert.Layer.modulated (fun k => x (ix2 r k)) (fun k => g (ix2 0 k)) (fun k => sh (ix3 0 0 k)) (fun k => sc (ix3 0 0 k)) k := by
  pointwise [k0_pay1]
  rfl

theorem pay27_at (h : FVec Ideal S512x1024 .bf16) (w : FVec Ideal S1024x512 .bf16) (r : Fin 512) (f : Fin 512) :
    k0_pay27 (F := Ideal) h w (ix2 r f) = Cert.Layer.rowMul (fun k => h (ix2 r k)) (fun k f => w (ix2 k f)) f := by
  pointwise [k0_pay27]
  rfl

theorem pay39_at (h : FVec Ideal S512x1024 .bf16) (w : FVec Ideal S1024x512 .bf16) (r : Fin 512) (f : Fin 512) :
    k0_pay39 (F := Ideal) h w (ix2 r f) = Cert.Layer.rowMul (fun k => h (ix2 r k)) (fun k f => w (ix2 k f)) f := pay27_at h w r f

/-- Where a column's partner in the other half of its head stands. -/
abbrev partner (f : Fin 128) : Fin 128 := ⟨(f.val + 64) % 128, by omega⟩

/-- A column of one head of four. -/
abbrev col (a : Fin 4) (f : Fin 128) : Fin 512 := ⟨a.val * 128 + f.val, by omega⟩

/-- One head's columns of a row, each turned with its partner. -/
theorem pay35_at (y : FVec Ideal S512x512 .f32) (c a : FVec Ideal S1x512x128 .f32) (r : Fin 512) (f : Fin 128) :
    k0_pay35 (F := Ideal) y c a (ix2 r f) = y (ix2 r (col 2 f)) * c (ix3 0 r f) + y (ix2 r (col 2 (partner f))) * a (ix3 0 r f) := by
  have e : ∀ a b : Fin 512, a.val = b.val → y (ix2 r a) = y (ix2 r b) := fun a b h => by rw [Fin.ext h]
  pointwise [k0_pay35]
  refine congrArg₂ (· + ·) (congrArg₂ (· * ·) (e _ _ ?_) rfl) (congrArg₂ (· * ·) (e _ _ ?_) rfl) <;> simp only <;> omega

theorem pay37_at (y : FVec Ideal S512x512 .f32) (c a : FVec Ideal S1x512x128 .f32) (r : Fin 512) (f : Fin 128) :
    k0_pay37 (F := Ideal) y c a (ix2 r f) = y (ix2 r (col 3 f)) * c (ix3 0 r f) + y (ix2 r (col 3 (partner f))) * a (ix3 0 r f) := by
  have e : ∀ a b : Fin 512, a.val = b.val → y (ix2 r a) = y (ix2 r b) := fun a b h => by rw [Fin.ext h]
  pointwise [k0_pay37]
  refine congrArg₂ (· + ·) (congrArg₂ (· * ·) (e _ _ ?_) rfl) (congrArg₂ (· * ·) (e _ _ ?_) rfl) <;> simp only <;> omega

theorem pay28_at (h : FVec Ideal S512x1024 .bf16) (w : FVec Ideal S1024x512 .bf16) (c a : FVec Ideal S1x512x128 .f32) (r : Fin 512) (f : Fin 128) :
    k0_pay28 (F := Ideal) h w c a (ix2 r f) = k0_pay27 (F := Ideal) h w (ix2 r (col 0 f)) * c (ix3 0 r f) + k0_pay27 (F := Ideal) h w (ix2 r (col 0 (partner f))) * a (ix3 0 r f) := by
  generalize hy : k0_pay27 (F := Ideal) h w = y
  have e : ∀ a b : Fin 512, a.val = b.val → y (ix2 r a) = y (ix2 r b) := fun a b h => by rw [Fin.ext h]
  pointwise [k0_pay28, hy]
  refine congrArg₂ (· + ·) (congrArg₂ (· * ·) (e _ _ ?_) rfl) (congrArg₂ (· * ·) (e _ _ ?_) rfl) <;> simp only <;> omega

theorem pay33_at (h : FVec Ideal S512x1024 .bf16) (w : FVec Ideal S1024x512 .bf16) (c a : FVec Ideal S1x512x128 .f32) (r : Fin 512) (f : Fin 128) :
    k0_pay33 (F := Ideal) (k0_pay31 h w c) (k0_pay32 h w a) (ix2 r f) = k0_pay27 (F := Ideal) h w (ix2 r (col 1 f)) * c (ix3 0 r f) + k0_pay27 (F := Ideal) h w (ix2 r (col 1 (partner f))) * a (ix3 0 r f) := by
  generalize hy : k0_pay27 (F := Ideal) h w = y
  have e : ∀ a b : Fin 512, a.val = b.val → y (ix2 r a) = y (ix2 r b) := fun a b h => by rw [Fin.ext h]
  pointwise [k0_pay33, k0_pay31, k0_pay32, k0_pay30, hy]
  refine congrArg₂ (· + ·) (congrArg₂ (· * ·) (e _ _ ?_) rfl) (congrArg₂ (· * ·) (e _ _ ?_) rfl) <;> simp only <;> omega

/-- Four heads of a row interleaved, one row per head. -/
theorem pay72_at (v0 v1 v2 v3 : FVec Ideal S512x128 .f32) (y : Fin 2048) (f : Fin 128) :
    k0_pay72 (F := Ideal) v0 v1 v2 v3 (ix2 y f) =
      if y.val % 4 = 0 then v0 (ix2 (⟨y.val / 4, by omega⟩ : Fin 512) f) else if y.val % 4 = 1 then v1 (ix2 (⟨y.val / 4, by omega⟩ : Fin 512) f)
      else if y.val % 4 = 2 then v2 (ix2 (⟨y.val / 4, by omega⟩ : Fin 512) f) else v3 (ix2 (⟨y.val / 4, by omega⟩ : Fin 512) f) := by
  have h4 : y.val % 4 = 0 ∨ y.val % 4 = 1 ∨ y.val % 4 = 2 ∨ y.val % 4 = 3 := by omega
  pointwise [k0_pay72]
  rcases h4 with h | h | h | h <;> simp [h]

theorem pay73_at (v0 v1 v2 v3 : FVec Ideal S512x128 .f32) (y : Fin 2048) (f : Fin 128) :
    k0_pay73 (F := Ideal) v0 v1 v2 v3 (ix2 y f) =
      if y.val % 4 = 0 then v0 (ix2 (⟨y.val / 4, by omega⟩ : Fin 512) f) else if y.val % 4 = 1 then v1 (ix2 (⟨y.val / 4, by omega⟩ : Fin 512) f)
      else if y.val % 4 = 2 then v2 (ix2 (⟨y.val / 4, by omega⟩ : Fin 512) f) else v3 (ix2 (⟨y.val / 4, by omega⟩ : Fin 512) f) :=
  pay72_at v0 v1 v2 v3 y f

theorem pay40_at (h : FVec Ideal S512x1024 .bf16) (w : FVec Ideal S1024x512 .bf16) (r : Fin 512) (f : Fin 128) :
    k0_pay40 (F := Ideal) h w (ix2 r f) = k0_pay39 (F := Ideal) h w (ix2 r (col 0 f)) := by
  generalize hy : k0_pay39 (F := Ideal) h w = y
  have e : ∀ a b : Fin 512, a.val = b.val → y (ix2 r a) = y (ix2 r b) := fun a b h => by rw [Fin.ext h]
  pointwise [k0_pay40, hy]
  refine e _ _ ?_ <;> simp only <;> omega

theorem pay42_at (h : FVec Ideal S512x1024 .bf16) (w : FVec Ideal S1024x512 .bf16) (r : Fin 512) (f : Fin 128) :
    k0_pay42 (F := Ideal) h w (ix2 r f) = k0_pay39 (F := Ideal) h w (ix2 r (col 1 f)) := by
  generalize hy : k0_pay39 (F := Ideal) h w = y
  have e : ∀ a b : Fin 512, a.val = b.val → y (ix2 r a) = y (ix2 r b) := fun a b h => by rw [Fin.ext h]
  pointwise [k0_pay42, hy]
  refine e _ _ ?_ <;> simp only <;> omega

theorem pay44_at (h : FVec Ideal S512x1024 .bf16) (w : FVec Ideal S1024x512 .bf16) (r : Fin 512) (f : Fin 128) :
    k0_pay44 (F := Ideal) h w (ix2 r f) = k0_pay39 (F := Ideal) h w (ix2 r (col 2 f)) := by
  generalize hy : k0_pay39 (F := Ideal) h w = y
  have e : ∀ a b : Fin 512, a.val = b.val → y (ix2 r a) = y (ix2 r b) := fun a b h => by rw [Fin.ext h]
  pointwise [k0_pay44, hy]
  refine e _ _ ?_ <;> simp only <;> omega

theorem pay46_at (h : FVec Ideal S512x1024 .bf16) (w : FVec Ideal S1024x512 .bf16) (r : Fin 512) (f : Fin 128) :
    k0_pay46 (F := Ideal) h w (ix2 r f) = k0_pay39 (F := Ideal) h w (ix2 r (col 3 f)) := by
  generalize hy : k0_pay39 (F := Ideal) h w = y
  have e : ∀ a b : Fin 512, a.val = b.val → y (ix2 r a) = y (ix2 r b) := fun a b h => by rw [Fin.ext h]
  pointwise [k0_pay46, hy]
  refine e _ _ ?_ <;> simp only <;> omega

theorem ld0_at (x : Vec Ideal S512x1024 .f32) (r : Fin 512) (k : Fin 1024) : View.ld x r0_0 (ix2 r k) = x (ix2 r k) := by
  pointwise

theorem ld1_at (x : Vec Ideal S1x1024 .f32) (k : Fin 1024) : View.ld x r0_1 (ix2 0 k) = x (ix2 0 k) := by
  pointwise

theorem ld2_at (x : Vec Ideal S1x1x1024 .f32) (k : Fin 1024) : View.ld x r0_2 (ix3 0 0 k) = x (ix3 0 0 k) := by
  pointwise

theorem ld15_at (x : Vec Ideal S1024x3072 .bf16) (k : Fin 1024) (f : Fin 512) : View.ld x r0_15 (ix2 k f) = x (ix2 k (⟨1024 + f.val, by omega⟩ : Fin 3072)) := by
  pointwise
  blk_ext

theorem ld22_at (x : Vec Ideal S1024x3072 .bf16) (k : Fin 1024) (f : Fin 512) : View.ld x r0_22 (ix2 k f) = x (ix2 k (⟨1536 + f.val, by omega⟩ : Fin 3072)) := by
  pointwise
  blk_ext

theorem ld16_at (x : Vec Ideal S2x512x256 .f32) (r : Fin 512) (f : Fin 128) : View.ld x r0_16 (ix3 0 r f) = x (ix3 1 r (⟨f.val, by omega⟩ : Fin 256)) := by
  pointwise
  blk_ext

theorem ld17_at (x : Vec Ideal S2x512x256 .f32) (r : Fin 512) (f : Fin 128) : View.ld x r0_17 (ix3 0 r f) = x (ix3 1 r (⟨128 + f.val, by omega⟩ : Fin 256)) := by
  pointwise
  blk_ext

/-- The modulated row of a block. -/
abbrev hrow (x : Vec Ideal S512x1024 .f32) (sh sc : Vec Ideal S1x1x1024 .f32) (g : Vec Ideal S1x1024 .f32) (r : Fin 512) : Fin 1024 → EReal :=
  Cert.Layer.modulated (fun k => x (ix2 r k)) (fun k => g (ix2 0 k)) (fun k => sh (ix3 0 0 k)) (fun k => sc (ix3 0 0 k))

theorem tile_k (x : Vec Ideal S512x1024 .f32) (sh sc : Vec Ideal S1x1x1024 .f32) (g : Vec Ideal S1x1024 .f32) (w : Vec Ideal S1024x3072 .bf16) (r : Fin 512) (f : Fin 512) :
    k0_pay27 (F := Ideal) (k0_pay1 (View.ld x r0_0) (View.ld g r0_1) (View.ld sh r0_2) (View.ld sc r0_2)) (View.ld w r0_15) (ix2 r f) =
      Cert.Layer.rowMul (hrow x sh sc g r) (fun k f => w (ix2 k f)) (⟨1024 + f.val, by omega⟩ : Fin 3072) := by
  rw [pay27_at]
  simp only [pay1_at]
  exact Finset.sum_congr rfl fun k _ => congrArg₂ (· * ·) (Cert.Layer.modulated_congr (ld0_at x r) (ld1_at g) (ld2_at sh) (ld2_at sc) k) (ld15_at w k f)

theorem tile_v (x : Vec Ideal S512x1024 .f32) (sh sc : Vec Ideal S1x1x1024 .f32) (g : Vec Ideal S1x1024 .f32) (w : Vec Ideal S1024x3072 .bf16) (r : Fin 512) (f : Fin 512) :
    k0_pay39 (F := Ideal) (k0_pay1 (View.ld x r0_0) (View.ld g r0_1) (View.ld sh r0_2) (View.ld sc r0_2)) (View.ld w r0_22) (ix2 r f) =
      Cert.Layer.rowMul (hrow x sh sc g r) (fun k f => w (ix2 k f)) (⟨1536 + f.val, by omega⟩ : Fin 3072) := by
  rw [pay39_at]
  simp only [pay1_at]
  exact Finset.sum_congr rfl fun k _ => congrArg₂ (· * ·) (Cert.Layer.modulated_congr (ld0_at x r) (ld1_at g) (ld2_at sh) (ld2_at sc) k) (ld22_at w k f)

/-- The stored block of keys: a head's columns, each turned with its partner by the table's two entries. -/
theorem keys_at (x : Vec Ideal S512x1024 .f32) (sh sc : Vec Ideal S1x1x1024 .f32) (g : Vec Ideal S1x1024 .f32) (w : Vec Ideal S1024x3072 .bf16)
    (t5 : Vec Ideal S2x512x256 .f32) (t6 : Vec Ideal S2x512x384 .f32) (y0 : Fin 2048) (y1 : Fin 128) (r : Fin 512) (hr : r.val = y0.val / 4) :
    out0_9 (F := Ideal) x sh sc g w t5 t6 (ix2 y0 y1) =
      Cert.Layer.rowMul (hrow x sh sc g r) (fun k f => w (ix2 k f)) (⟨1024 + (y0.val % 4 * 128 + y1.val), by omega⟩ : Fin 3072) * t5 (ix3 1 r (⟨y1.val, by omega⟩ : Fin 256))
      + Cert.Layer.rowMul (hrow x sh sc g r) (fun k f => w (ix2 k f)) (⟨1024 + (y0.val % 4 * 128 + (y1.val + 64) % 128), by omega⟩ : Fin 3072) * t5 (ix3 1 r (⟨128 + y1.val, by omega⟩ : Fin 256)) := by
  have hd : y0.val / 4 < 512 := by have := y0.isLt; omega
  obtain rfl : r = (⟨y0.val / 4, hd⟩ : Fin 512) := Fin.ext hr
  unfold_out out0_9
  canon_tiles z hz
  all_goals
    idx_vars z
    obtain rfl : y0 = z0 := Fin.ext hz0
    obtain rfl : y1 = z1 := Fin.ext hz1
    rw [pay72_at]
    have h4 : y0.val % 4 = 0 ∨ y0.val % 4 = 1 ∨ y0.val % 4 = 2 ∨ y0.val % 4 = 3 := by omega
    rcases h4 with h | h | h | h <;> simp (decide := true) only [h, pay28_at, pay33_at, pay35_at, pay37_at, tile_k, reduceIte, ite_true, ite_false] <;>
      exact congrArg₂ (· + ·) (congrArg₂ (· * ·) rfl (ld16_at t5 _ y1)) (congrArg₂ (· * ·) rfl (ld17_at t5 _ y1))

/-- The stored block of values. -/
theorem values_at (x : Vec Ideal S512x1024 .f32) (sh sc : Vec Ideal S1x1x1024 .f32) (g : Vec Ideal S1x1024 .f32) (w : Vec Ideal S1024x3072 .bf16)
    (t5 : Vec Ideal S2x512x256 .f32) (t6 : Vec Ideal S2x512x384 .f32) (y0 : Fin 2048) (y1 : Fin 128) (r : Fin 512) (hr : r.val = y0.val / 4) :
    out0_10 (F := Ideal) x sh sc g w t5 t6 (ix2 y0 y1) =
      Cert.Layer.rowMul (hrow x sh sc g r) (fun k f => w (ix2 k f)) (⟨1536 + (y0.val % 4 * 128 + y1.val), by omega⟩ : Fin 3072) := by
  have hd : y0.val / 4 < 512 := by have := y0.isLt; omega
  obtain rfl : r = (⟨y0.val / 4, hd⟩ : Fin 512) := Fin.ext hr
  unfold_out out0_10
  canon_tiles z hz
  all_goals
    idx_vars z
    obtain rfl : y0 = z0 := Fin.ext hz0
    obtain rfl : y1 = z1 := Fin.ext hz1
    rw [pay73_at]
    have h4 : y0.val % 4 = 0 ∨ y0.val % 4 = 1 ∨ y0.val % 4 = 2 ∨ y0.val % 4 = 3 := by omega
    rcases h4 with h | h | h | h <;> simp (decide := true) only [h, pay40_at, pay42_at, pay44_at, pay46_at, tile_v, reduceIte, ite_true, ite_false] <;> rfl

/-- Which block each window is on at a grid point: 512 rows of the activations, the modulation of the rows' sequence (eight
    row blocks each), the weights whole, the tables at the rows' positions. -/
theorem idx : ∀ t : Fin cfg0.N, win0_0.index t = ![t.val, 0] ∧ win0_1.index t = ![t.val / 8, 0, 0]
    ∧ win0_2.index t = ![t.val / 8, 0, 0] ∧ win0_3.index t = ![0, 0] ∧ win0_4.index t = ![0, 0] ∧ win0_5.index t = ![0, t.val % 8, 0]
    ∧ win0_9.index t = ![t.val, 0] ∧ win0_10.index t = ![t.val, 0] :=
  (by decide +kernel : ∀ t : Fin grid0.N, _)

variable (m : (ℓ : Loc nD τ sig) → Buf (Elt Ideal) ℓ)
variable (m' : (ℓ : Loc Cert.Reference9Ideal.nD Cert.Reference9Ideal.τ Cert.Reference9Ideal.sig) → Buf (Elt Ideal) ℓ)

/-- The argument arrays of the two programs agree on device `c`. -/
abbrev Same (c : Dev nD) : Prop :=
  m' ((c.tc : Thread Cert.Reference9Ideal.nD Cert.Reference9Ideal.τ).loc Cert.Reference9Ideal.main_arg0) = m ((c : Thread nD τ).loc main_arg0)
  ∧ m' ((c.tc : Thread Cert.Reference9Ideal.nD Cert.Reference9Ideal.τ).loc Cert.Reference9Ideal.main_arg1) = m ((c : Thread nD τ).loc main_arg1)
  ∧ m' ((c.tc : Thread Cert.Reference9Ideal.nD Cert.Reference9Ideal.τ).loc Cert.Reference9Ideal.main_arg2) = m ((c : Thread nD τ).loc main_arg2)
  ∧ m' ((c.tc : Thread Cert.Reference9Ideal.nD Cert.Reference9Ideal.τ).loc Cert.Reference9Ideal.main_arg3) = m ((c : Thread nD τ).loc main_arg3)
  ∧ m' ((c.tc : Thread Cert.Reference9Ideal.nD Cert.Reference9Ideal.τ).loc Cert.Reference9Ideal.main_arg4) = m ((c : Thread nD τ).loc main_arg4)

/-- The row of the activations a block's row is. -/
abbrev rowAt (t : Fin cfg0.N) (r : Fin 512) : Fin 16384 := ⟨t.val * 512 + r.val, by have : t.val < 32 := t.isLt; omega⟩

theorem rd0 (c : Dev nD) (t : Fin cfg0.N) (r : Fin 512) (k : Fin 1024) : iblk m c 0 t (ix2 r k) =
    m ((c : Thread nD τ).loc main_arg0) (ix3 (⟨(rowAt t r).val / 4096, by omega⟩ : Fin 4) (⟨(rowAt t r).val % 4096, by omega⟩ : Fin 4096) k) := by
  have e : ((cfg0.win 0).blk t).view.emb (ix2 r k) = ix2 (rowAt t r) k := by
    blk_ext [idx t]
  show V m c (Pipeline.arrRef spec0 0) (((cfg0.win 0).blk t).view.emb (ix2 r k)) = _
  refine (congrArg _ e).trans ?_
  exact Cert.Reference3Ideal.Mixer.cast_at _ _ _

theorem seq_at (v : FVec Ideal S4x1024 .f32) (b : Fin 4) (k : Fin 1024) : shapeCast S4x1x1024 v shapeCasts_S4x1024_S4x1x1024 (ix3 b 0 k) = v (ix2 b k) := by
  pointwise

theorem row_at (v : FVec Ideal S1024 .f32) (k : Fin 1024) : shapeCast S1x1024 v shapeCasts_S1024_S1x1024 (ix2 0 k) = v (ix1 k) := by
  pointwise

set_option maxHeartbeats 2000000 in
theorem rd1 (c : Dev nD) (t : Fin cfg0.N) (r : Fin 512) (k : Fin 1024) : iblk m c 1 t (ix3 0 0 k) =
    m ((c : Thread nD τ).loc main_arg1) (ix2 (⟨(rowAt t r).val / 4096, by omega⟩ : Fin 4) k) := by
  have ht : t.val < 32 := t.isLt
  have e : ((cfg0.win 1).blk t).view.emb (ix3 0 0 k) = ix3 (⟨(rowAt t r).val / 4096, by omega⟩ : Fin 4) 0 k := by
    blk_ext [idx t]
  show V m c (Pipeline.arrRef spec0 1) (((cfg0.win 1).blk t).view.emb (ix3 0 0 k)) = _
  refine (congrArg _ e).trans ?_
  exact seq_at _ _ k

set_option maxHeartbeats 2000000 in
theorem rd2 (c : Dev nD) (t : Fin cfg0.N) (r : Fin 512) (k : Fin 1024) : iblk m c 2 t (ix3 0 0 k) =
    m ((c : Thread nD τ).loc main_arg2) (ix2 (⟨(rowAt t r).val / 4096, by omega⟩ : Fin 4) k) := by
  have ht : t.val < 32 := t.isLt
  have e : ((cfg0.win 2).blk t).view.emb (ix3 0 0 k) = ix3 (⟨(rowAt t r).val / 4096, by omega⟩ : Fin 4) 0 k := by
    blk_ext [idx t]
  show V m c (Pipeline.arrRef spec0 2) (((cfg0.win 2).blk t).view.emb (ix3 0 0 k)) = _
  refine (congrArg _ e).trans ?_
  exact seq_at _ _ k

set_option maxHeartbeats 2000000 in
theorem rd3 (c : Dev nD) (t : Fin cfg0.N) (k : Fin 1024) : iblk m c 3 t (ix2 0 k) = m ((c : Thread nD τ).loc main_arg3) (ix1 k) := by
  have e : ((cfg0.win 3).blk t).view.emb (ix2 0 k) = ix2 0 k := by
    blk_ext [idx t]
  show V m c (Pipeline.arrRef spec0 3) (((cfg0.win 3).blk t).view.emb (ix2 0 k)) = _
  refine (congrArg _ e).trans ?_
  exact row_at _ k

/-- The narrow weights: the queries, keys, values and indexer queries where the whole weight has them, then the small columns
    filled up with zeros. -/
def narrow (w : FVec Ideal S1024x9832 .f32) : FVec Ideal S1024x3072 .f32 :=
  concatenate S1024x3072 1 [⟨S1024x1024, extractStridedSlice S1024x1024 ![0, 0] w slices_S1024x9832_S1024x1024_0_0⟩,
    ⟨S1024x512, extractStridedSlice S1024x512 ![0, 1024] w slices_S1024x9832_S1024x512_0_1024⟩,
    ⟨S1024x512, extractStridedSlice S1024x512 ![0, 1536] w slices_S1024x9832_S1024x512_0_1536⟩,
    ⟨S1024x512, extractStridedSlice S1024x512 ![0, 2048] w slices_S1024x9832_S1024x512_0_2048⟩,
    ⟨S1024x512, pad S1024x512 ![0, 0] ![0, 408] ![0, 0] (concatenate S1024x104 1 [⟨S1024x64, extractStridedSlice S1024x64 ![0, 2560] w slices_S1024x9832_S1024x64_0_2560⟩,
      ⟨S1024x8, extractStridedSlice S1024x8 ![0, 2624] w slices_S1024x9832_S1024x8_0_2624⟩,
      ⟨S1024x32, extractStridedSlice S1024x32 ![0, 7752] w slices_S1024x9832_S1024x32_0_7752⟩] concatenates_S1024x64_S1024x8_S1024x32_S1024x104_d1)
      (sitofp .f32 (constantI S_ 32 0#32)) pads_S1024x104_S1024x512_000_04080 h_S_⟩]
    concatenates_S1024x1024_S1024x512_S1024x512_S1024x512_S1024x512_S1024x3072_d1

theorem narrow_at (w : FVec Ideal S1024x9832 .f32) (k : Fin 1024) (f : Fin 3072) (hf : f.val < 2560) :
    narrow w (ix2 k f) = w (ix2 k (⟨f.val, by omega⟩ : Fin 9832)) := by
  have e : ∀ a : Fin 9832, a.val = f.val → w (ix2 k a) = w (ix2 k (⟨f.val, by omega⟩ : Fin 9832)) := fun a h => by rw [Fin.ext (a := a) (b := ⟨f.val, by omega⟩) h]
  pointwise [narrow]
  split_ifs
  all_goals first | omega | rfl | (refine e _ ?_; simp only; omega)

set_option maxHeartbeats 2000000 in
theorem weights (c : Dev nD) : V m c (Pipeline.arrRef spec0 4) = truncf .bf16 (narrow (m ((c : Thread nD τ).loc main_arg4))) bitsLt_bf16_f32 := rfl

theorem rd4 (c : Dev nD) (t : Fin cfg0.N) (k : Fin 1024) (f : Fin 3072) (hf : f.val < 2560) : iblk m c 4 t (ix2 k f) = m ((c : Thread nD τ).loc main_arg4) (ix2 k (⟨f.val, by omega⟩ : Fin 9832)) := by
  have e : ((cfg0.win 4).blk t).view.emb (ix2 k f) = ix2 k f := by
    blk_ext [idx t]
  show V m c (Pipeline.arrRef spec0 4) (((cfg0.win 4).blk t).view.emb (ix2 k f)) = _
  refine (congrArg _ e).trans ?_
  rw [weights]
  exact narrow_at _ k f hf

/-- The table the keys are turned by: cosines twice, then the negated sines and the sines. -/
def table (an : FVec Ideal S4096x64 .f32) : FVec Ideal S4096x256 .f32 :=
  concatenate S4096x256 1 [⟨S4096x64, Host.cos an⟩, ⟨S4096x64, Host.cos an⟩, ⟨S4096x64, Host.negf (Host.sin an)⟩, ⟨S4096x64, Host.sin an⟩] concatenates_S4096x64_S4096x64_S4096x64_S4096x64_S4096x256_d1

/-- Both tables, the queries' scaled one first. -/
def tables (tb : FVec Ideal S4096x256 .f32) : FVec Ideal S2x4096x256 .f32 :=
  concatenate S2x4096x256 0 [⟨S1x4096x256, broadcastInDim S1x4096x256 ![1, 2] bcast_S4096x256_S1x4096x256_1_2 (mulf tb (broadcastInDim S4096x256 ![] bcast_S_S4096x256 (constant S_ .f32 0x3DB504F3#32)))⟩,
    ⟨S1x4096x256, broadcastInDim S1x4096x256 ![1, 2] bcast_S4096x256_S1x4096x256_1_2 tb⟩] concatenates_S1x4096x256_S1x4096x256_S2x4096x256_d0

theorem tables_at (tb : FVec Ideal S4096x256 .f32) (s : Fin 4096) (j : Fin 256) : tables tb (ix3 1 s j) = tb (ix2 s j) := by
  pointwise [tables]

set_option maxHeartbeats 2000000 in
theorem tables_eq (c : Dev nD) : V m c (Pipeline.arrRef spec0 5) = tables (table Cert.Reference9Ideal.Keys.angles) := rfl

theorem rd5 (c : Dev nD) (t : Fin cfg0.N) (r : Fin 512) (j : Fin 256) : iblk m c 5 t (ix3 1 r j) =
    table Cert.Reference9Ideal.Keys.angles (ix2 (⟨(rowAt t r).val % 4096, by omega⟩ : Fin 4096) j) := by
  have ht : t.val < 32 := t.isLt
  have e : ((cfg0.win 5).blk t).view.emb (ix3 1 r j) = ix3 1 (⟨(rowAt t r).val % 4096, by omega⟩ : Fin 4096) j := by
    blk_ext [idx t]
  show V m c (Pipeline.arrRef spec0 5) (((cfg0.win 5).blk t).view.emb (ix3 1 r j)) = _
  refine (congrArg _ e).trans ?_
  rw [tables_eq]
  exact tables_at _ _ _

theorem table_at (an : FVec Ideal S4096x64 .f32) (s : Fin 4096) (j : Fin 256) : table an (ix2 s j) =
    if h : j.val < 64 then Ideal.cos (an (ix2 s ⟨j.val, h⟩)) else if h : j.val - 64 < 64 then Ideal.cos (an (ix2 s ⟨j.val - 64, h⟩))
    else if h : j.val - 64 - 64 < 64 then - Ideal.sin (an (ix2 s ⟨j.val - 64 - 64, h⟩)) else Ideal.sin (an (ix2 s ⟨j.val - 64 - 64 - 64, by omega⟩)) := by
  pointwise [table]

/-- A block's row of keys in the whole array. -/
abbrev keyAt (t : Fin cfg0.N) (y : Fin 2048) : Fin 65536 := ⟨t.val * 2048 + y.val, by have : t.val < 32 := t.isLt; omega⟩

theorem row_mul (c : Dev nD) (t : Fin cfg0.N) (r : Fin 512) (f : Fin 3072) (hf : f.val < 2560) :
    Cert.Layer.rowMul (hrow (iblk m c 0 t) (iblk m c 1 t) (iblk m c 2 t) (iblk m c 3 t) r) (fun k f => iblk m c 4 t (ix2 k f)) f =
    Cert.Reference4Ideal.Projection.whole (Cert.Reference3Ideal.Mixer.modulated (m ((c : Thread nD τ).loc main_arg0)) (m ((c : Thread nD τ).loc main_arg1))
      (m ((c : Thread nD τ).loc main_arg2)) (m ((c : Thread nD τ).loc main_arg3))) (m ((c : Thread nD τ).loc main_arg4))
      (ix3 (⟨(rowAt t r).val / 4096, by omega⟩ : Fin 4) (⟨(rowAt t r).val % 4096, by omega⟩ : Fin 4096) (⟨f.val, by omega⟩ : Fin 9832)) := by
  rw [Cert.Reference4Ideal.Projection.whole_at]
  simp only [Cert.Reference3Ideal.Mixer.modulated_at]
  exact Finset.sum_congr rfl fun k _ => congrArg₂ (· * ·) (Cert.Layer.modulated_congr (rd0 m c t r) (rd3 m c t) (rd1 m c t r) (rd2 m c t r) k) (rd4 m c t k f hf)

/-- The array of values is the reference's. -/
theorem final_values (c : Dev nD) (h : Same m m' c) : (dats m 0 c).arrAt 10 (cfgs 0).N = Cert.Reference9Ideal.Keys.values
    (Cert.Reference4Ideal.Projection.whole (Cert.Reference3Ideal.Mixer.modulated
      (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
      (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)))
      (m' ((c.tc : Thread Cert.Reference9Ideal.nD Cert.Reference9Ideal.τ).loc Cert.Reference9Ideal.main_arg4))) := by
  obtain ⟨h0, h1, h2, h3, h4⟩ := h
  rw [h0, h1, h2, h3, h4]
  refine (dats m 0 c).arrAt_eq_of_covers 10 _ (by decide +kernel) fun t _ y => ?_
  have ht : t.val < 32 := t.isLt
  blk_simp
  rw [after0_10]
  idx_vars y
  have hy := y0.isLt
  have e : ((cfg0.win 10).blk t).view.emb (ix2 y0 y1) = ix2 (keyAt t y0) y1 := by
    blk_ext [idx t]
  let r : Fin 512 := ⟨y0.val / 4, by omega⟩
  have hb : (⟨(rowAt t r).val / 4096, by omega⟩ : Fin 4) = Cert.Reference9Ideal.Keys.seqOf (keyAt t y0) := Fin.ext (by simp only [r]; omega)
  have hs : (⟨(rowAt t r).val % 4096, by omega⟩ : Fin 4096) = Cert.Reference9Ideal.Keys.posOf (keyAt t y0) := Fin.ext (by simp only [r]; omega)
  have h4' : (keyAt t y0).val % 4 = y0.val % 4 := by simp only; omega
  refine (values_at _ _ _ _ _ _ _ y0 y1 r rfl).trans ?_
  refine Eq.trans ?_ (congrArg _ e).symm
  rw [Cert.Reference9Ideal.Keys.values_at, row_mul m c t r _ (by simp only; omega), hb, hs]
  refine congrArg _ (congrArg _ (Fin.ext ?_))
  simp only
  omega

/-- The array of keys is the reference's. -/
theorem final_keys (c : Dev nD) (h : Same m m' c) : (dats m 0 c).arrAt 9 (cfgs 0).N = Cert.Reference9Ideal.Value.res_main_v56 m' c := by
  obtain ⟨h0, h1, h2, h3, h4⟩ := h
  rw [Cert.Reference9Ideal.Keys.res_eq, h0, h1, h2, h3, h4]
  refine (dats m 0 c).arrAt_eq_of_covers 9 _ (by decide +kernel) fun t _ y => ?_
  have ht : t.val < 32 := t.isLt
  blk_simp
  rw [after0_9]
  idx_vars y
  have hy := y0.isLt
  have hy1 := y1.isLt
  have e : ((cfg0.win 9).blk t).view.emb (ix2 y0 y1) = ix2 (keyAt t y0) y1 := by
    blk_ext [idx t]
  let r : Fin 512 := ⟨y0.val / 4, by omega⟩
  have hb : (⟨(rowAt t r).val / 4096, by omega⟩ : Fin 4) = Cert.Reference9Ideal.Keys.seqOf (keyAt t y0) := Fin.ext (by simp only [r]; omega)
  have hs : (⟨(rowAt t r).val % 4096, by omega⟩ : Fin 4096) = Cert.Reference9Ideal.Keys.posOf (keyAt t y0) := Fin.ext (by simp only [r]; omega)
  have h4' : (keyAt t y0).val % 4 = y0.val % 4 := by simp only; omega
  refine (keys_at _ _ _ _ _ _ _ y0 y1 r rfl).trans ?_
  refine Eq.trans ?_ (congrArg _ e).symm
  rw [Cert.Reference9Ideal.Keys.turned_at, row_mul m c t r _ (by simp only; omega), row_mul m c t r _ (by simp only; omega), rd5, rd5, hb, hs, table_at, table_at]
  generalize Cert.Reference4Ideal.Projection.whole _ _ = p
  generalize Cert.Reference9Ideal.Keys.angles = an
  have ep : ∀ a b : Fin 9832, a.val = b.val → p (ix3 (Cert.Reference9Ideal.Keys.seqOf (keyAt t y0)) (Cert.Reference9Ideal.Keys.posOf (keyAt t y0)) a) = p (ix3 (Cert.Reference9Ideal.Keys.seqOf (keyAt t y0)) (Cert.Reference9Ideal.Keys.posOf (keyAt t y0)) b) :=
    fun a b h => by rw [Fin.ext h]
  have ea : ∀ a b : Fin 64, a.val = b.val → an (ix2 (Cert.Reference9Ideal.Keys.posOf (keyAt t y0)) a) = an (ix2 (Cert.Reference9Ideal.Keys.posOf (keyAt t y0)) b) :=
    fun a b h => by rw [Fin.ext h]
  by_cases hlt : y1.val < 64
  · rw [dif_pos hlt, dif_pos (show y1.val < 64 from hlt), dif_neg (by simp only; omega), dif_neg (by simp only; omega), dif_pos (by simp only; omega), mul_neg, ← sub_eq_add_neg]
    refine congrArg₂ (· - ·) (congrArg₂ (· * ·) (ep _ _ ?_) (congrArg Ideal.cos (ea _ _ ?_))) (congrArg₂ (· * ·) (ep _ _ ?_) (congrArg Ideal.sin (ea _ _ ?_))) <;> simp only <;> omega
  · rw [dif_neg hlt, dif_neg (show ¬ y1.val < 64 from hlt), dif_pos (by simp only; omega), dif_neg (by simp only; omega), dif_neg (by simp only; omega), dif_neg (by simp only; omega)]
    refine congrArg₂ (· + ·) (congrArg₂ (· * ·) (ep _ _ ?_) (congrArg Ideal.cos (ea _ _ ?_))) (congrArg₂ (· * ·) (ep _ _ ?_) (congrArg Ideal.sin (ea _ _ ?_))) <;> simp only <;> omega

end Cert.Kernel9Ideal.Keys
end
-- ==== Proof.Recurrence.lean ====
/- The state-space recurrence in extended reals: convolution, step sizes, running sums of the decays, and the state over chunks. -/
module

public import Idealize.ShloMosaic.Lib.Pipeline.ValueKit
public import Idealize.ShloMosaic.Lib.Pointwise

@[expose] public section

noncomputable section

open Idealize.ShloMosaic

namespace Cert.Layer

/-- Row `s` of chunk `k`. -/
abbrev row (k : Fin 32) (s : Fin 128) : Fin 4096 := ⟨k.val * 128 + s.val, by omega⟩

/-- The channels with three rows of zeros in front. -/
def padded (x : Fin 4096 → Fin 3072 → EReal) (j : ℕ) (d : Fin 3072) : EReal :=
  if h : 3 ≤ j ∧ j < 4099 then x ⟨j - 3, by omega⟩ d else 0

/-- The convolution of one channel at one row, with its activation. -/
def convAt (x : Fin 4096 → Fin 3072 → EReal) (w : Fin 4 → Fin 3072 → EReal) (b : Fin 3072 → EReal) (r : Fin 4096) (d : Fin 3072) : EReal :=
  (b d + (padded x r.val d * w 0 d + padded x (1 + r.val) d * w 1 d + padded x (2 + r.val) d * w 2 d + padded x (3 + r.val) d * w 3 d))
  * Ideal.logistic (b d + (padded x r.val d * w 0 d + padded x (1 + r.val) d * w 1 d + padded x (2 + r.val) d * w 2 d + padded x (3 + r.val) d * w 3 d))

/-- The softplus. -/
def softplus (v : EReal) : EReal := max v 0 + Ideal.log1p (Ideal.exp (-(max v (-v))))

/-- The step size of a head at a row. -/
def stepAt (d : Fin 4096 → Fin 32 → EReal) (b : Fin 32 → EReal) (r : Fin 4096) (h : Fin 32) : EReal := softplus (d r h + b h)

/-- The running sum of a head's log decays inside a chunk. -/
def cumAt (d : Fin 4096 → Fin 32 → EReal) (a : Fin 32 → EReal) (k : Fin 32) (s : Fin 128) (h : Fin 32) : EReal :=
  ∑ q : Fin 128, if q.val ≤ s.val then d (row k q) h * -Ideal.exp (a h) else 0

/-- The chunk's own contribution to the state. -/
def chunkState (x : Fin 4096 → Fin 3072 → EReal) (d : Fin 4096 → Fin 32 → EReal) (a : Fin 32 → EReal) (k : Fin 32)
    (h : Fin 32) (p : Fin 64) (n : Fin 128) : EReal :=
  ∑ s : Fin 128, Ideal.exp (cumAt d a k 127 h - cumAt d a k s h) * d (row k s) h * x (row k s) ⟨h.val * 64 + p.val, by omega⟩
    * x (row k s) ⟨2048 + (h.val / 8 * 128 + n.val), by omega⟩

/-- The state after the first `k` chunks. -/
def stateAt (x : Fin 4096 → Fin 3072 → EReal) (d : Fin 4096 → Fin 32 → EReal) (a : Fin 32 → EReal) (h : Fin 32) (p : Fin 64) (n : Fin 128) : ℕ → EReal
  | 0 => 0
  | k + 1 => if hk : k < 32 then stateAt x d a h p n k * Ideal.exp (cumAt d a ⟨k, hk⟩ 127 h) + chunkState x d a ⟨k, hk⟩ h p n
      else stateAt x d a h p n k

theorem stateAt_succ (x : Fin 4096 → Fin 3072 → EReal) (d : Fin 4096 → Fin 32 → EReal) (a : Fin 32 → EReal) (h : Fin 32) (p : Fin 64) (n : Fin 128)
    (k : Fin 32) : stateAt x d a h p n (k.val + 1) = stateAt x d a h p n k.val * Ideal.exp (cumAt d a k 127 h) + chunkState x d a k h p n := by
  rw [stateAt, dif_pos k.isLt]

/-! ## Signs: the running sums are at most zero, so the decays are finite -/

theorem exp_nonneg (v : EReal) : 0 ≤ Ideal.exp v := by
  induction v with
  | bot => exact le_refl _
  | top => exact le_top
  | coe r => exact EReal.coe_nonneg.mpr (Real.exp_pos r).le

theorem log1p_nonneg (v : EReal) (hv : 0 ≤ v) : 0 ≤ Ideal.log1p v := by
  unfold Ideal.log1p
  induction v with
  | bot => simp at hv
  | top =>
    rw [EReal.add_top_of_ne_bot (by decide)]
    exact le_top
  | coe r =>
    have hr : 0 ≤ r := EReal.coe_nonneg.mp hv
    have e : (1 : EReal) + (r : EReal) = ((1 + r : ℝ) : EReal) := by push_cast; rfl
    rw [e]
    show 0 ≤ (if 1 + r ≤ 0 then (⊥ : EReal) else (Real.log (1 + r) : EReal))
    rw [if_neg (by linarith)]
    exact EReal.coe_nonneg.mpr (Real.log_nonneg (by linarith))

theorem softplus_nonneg (v : EReal) : 0 ≤ softplus v :=
  add_nonneg (le_max_right _ _) (log1p_nonneg _ (exp_nonneg _))

/-- A decay's logarithm times a step size is at most zero. -/
theorem mul_neg_exp_nonpos (d a : EReal) (hd : 0 ≤ d) : d * -Ideal.exp a ≤ 0 := by
  rw [mul_neg]
  have := EReal.neg_le_neg_iff.mpr (mul_nonneg hd (exp_nonneg a))
  rwa [neg_zero] at this

theorem cumAt_nonpos (d : Fin 4096 → Fin 32 → EReal) (a : Fin 32 → EReal) (hd : ∀ r h, 0 ≤ d r h) (k : Fin 32) (s : Fin 128) (h : Fin 32) :
    cumAt d a k s h ≤ 0 := by
  unfold cumAt
  refine Finset.sum_nonpos fun q _ => ?_
  split_ifs
  · exact mul_neg_exp_nonpos _ _ (hd _ _)
  · exact le_refl _

/-- The exponential of a value at most zero is finite: it less itself is zero. -/
theorem exp_sub_self (v : EReal) (hv : v ≤ 0) : Ideal.exp v - Ideal.exp v = 0 := by
  induction v with
  | bot => exact EReal.sub_self (by decide) (by decide)
  | top => simp at hv
  | coe r => exact EReal.sub_self (EReal.coe_ne_top _) (EReal.coe_ne_bot _)

/-- A sum against an indicator column. -/
theorem sum_indicator {n : ℕ} (f : Fin n → EReal) (e : Fin n → EReal) (i : Fin n) (he : ∀ l, e l = if l = i then 1 else 0) :
    ∑ l, f l * e l = f i := by
  rw [Finset.sum_eq_single i]
  · rw [he, if_pos rfl, mul_one]
  · intro l _ hl
    rw [he, if_neg hl, mul_zero]
  · intro hi
    exact absurd (Finset.mem_univ i) hi

/-- A left fold of additions is the start and the sum. -/
theorem foldl_add {α : Type} (f : α → EReal) (l : List α) (a : EReal) : l.foldl (fun r n => r + f n) a = a + (l.map f).sum := by
  induction l generalizing a with
  | nil => simp
  | cons x l ih => simp only [List.foldl_cons, ih, List.map_cons, List.sum_cons, add_assoc]

/-- A window's sum from zero, over the positions of the window: `T q` is what position `q` adds. -/
theorem window_fold {s t : Shape} (window strides lo hi : Fin s.rank → ℕ) (h : s.ReduceWindows window strides lo hi t) (x : s.Idx → EReal) (j : t.Idx)
    (T : (⟨s.rank, window⟩ : Shape).Idx → EReal)
    (hpos : ∀ q, ∀ hin : ∀ a, lo a ≤ (j (a.cast h.1.symm)).val * strides a + (q a).val ∧ (j (a.cast h.1.symm)).val * strides a + (q a).val - lo a < s.size a,
      T q = x (fun a => ⟨(j (a.cast h.1.symm)).val * strides a + (q a).val - lo a, (hin a).2⟩))
    (hneg : ∀ q, ¬ (∀ a, lo a ≤ (j (a.cast h.1.symm)).val * strides a + (q a).val ∧ (j (a.cast h.1.symm)).val * strides a + (q a).val - lo a < s.size a) → T q = 0) :
    Ideal.hostReduceWindowAdd window strides lo hi h x 0 j = ∑ q : (⟨s.rank, window⟩ : Shape).Idx, T q := by
  unfold Ideal.hostReduceWindowAdd Host.reduceWindow
  refine (foldl_add _ _ _).trans ?_
  rw [zero_add, ← Fin.sum_univ_def]
  refine Eq.trans (Finset.sum_congr rfl fun n _ => ?_) (Equiv.sum_comp (⟨s.rank, window⟩ : Shape).rowMajor.symm T)
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · exact (dif_pos hin).trans (hpos _ hin).symm
  · exact (dif_neg hin).trans (hneg _ hin).symm

/-- A window of 128 that ends at `s` sums the entries up to `s`. -/
theorem window_sum (v : Fin 128 → EReal) (s : Fin 128) :
    (∑ n : Fin 128, if h : 127 ≤ s.val + n.val then v ⟨s.val + n.val - 127, by omega⟩ else 0) = ∑ q : Fin 128, if q.val ≤ s.val then v q else 0 := by
  refine Fintype.sum_equiv (Equiv.addRight (s + 1)) _ _ fun n => ?_
  have e : (Equiv.addRight (s + 1) n : Fin 128).val = (n.val + (s.val + 1) % 128) % 128 := by
    simp [Fin.val_add, Nat.add_assoc]
  by_cases h : 127 ≤ s.val + n.val
  · rw [dif_pos h, if_pos (by omega)]
    exact congrArg v (Fin.ext (by show _ = _; rw [e]; simp only; omega))
  · rw [dif_neg h, if_neg (by omega)]

end Cert.Layer
end
-- ==== Proof.ScanPure.lean ====
module

public import proofs.«01_k».proof.Proof.Gen.KernelIdeal.Skeleton
public import Idealize.ShloMosaic.Lib.Pipeline.ValueKit
public import Idealize.ShloMosaic.Lib.Pointwise
public import proofs.«01_k».proof.Proof.Recurrence

@[expose] public section

/-! One chunk of the scan: what each array of the body holds, entry by entry. -/

set_option backward.proofsInPublic true
set_option maxRecDepth 16384

noncomputable section

open Idealize.ShloMosaic

namespace Cert.KernelIdeal.Scan
open Cert.KernelIdeal Cert.KernelIdeal.Gen

/-! ## The convolution -/

theorem pay62_at (xe : FVec Ideal S136x3072 .f32) (w0 w1 w2 w3 cb : FVec Ideal S1x3072 .f32) (r : Fin 128) (k : Fin 3072) (c : EReal)
    (hc : c = w0 (ix2 0 k) * xe (ix2 ⟨5 + r.val, by omega⟩ k) + w1 (ix2 0 k) * xe (ix2 ⟨6 + r.val, by omega⟩ k) + w2 (ix2 0 k) * xe (ix2 ⟨7 + r.val, by omega⟩ k)
      + w3 (ix2 0 k) * xe (ix2 ⟨8 + r.val, by omega⟩ k) + cb (ix2 0 k)) :
    k0_pay62 (F := Ideal) xe w0 w1 w2 w3 cb (ix2 r k) = c * Ideal.logistic c := by
  have h1 : (8 + r.val + 136 - 1) % 136 = 7 + r.val := by omega
  have h2 : (7 + r.val + 136 - 1) % 136 = 6 + r.val := by omega
  have h3 : (6 + r.val + 136 - 1) % 136 = 5 + r.val := by omega
  pointwise [k0_pay62]
  simp only [h1, h2, h3]
  rw [hc]

theorem conv_at (xe : FVec Ideal S136x3072 .f32) (w0 w1 w2 w3 cb : FVec Ideal S1x3072 .f32) (X : Fin 4096 → Fin 3072 → EReal) (W : Fin 4 → Fin 3072 → EReal)
    (B : Fin 3072 → EReal) (k : Fin 32) (hx : ∀ (i : Fin 131) (d : Fin 3072), xe (ix2 ⟨5 + i.val, by omega⟩ d) = Cert.Layer.padded X (k.val * 128 + i.val) d)
    (h0 : ∀ d, w0 (ix2 0 d) = W 0 d) (h1 : ∀ d, w1 (ix2 0 d) = W 1 d) (h2 : ∀ d, w2 (ix2 0 d) = W 2 d) (h3 : ∀ d, w3 (ix2 0 d) = W 3 d)
    (hb : ∀ d, cb (ix2 0 d) = B d) (r : Fin 128) (d : Fin 3072) :
    k0_pay62 (F := Ideal) xe w0 w1 w2 w3 cb (ix2 r d) = Cert.Layer.convAt X W B (Cert.Layer.row k r) d := by
  refine pay62_at xe w0 w1 w2 w3 cb r d _ ?_
  have e0 := hx ⟨r.val, by omega⟩ d
  have e1 := hx ⟨r.val + 1, by omega⟩ d
  have e2 := hx ⟨r.val + 2, by omega⟩ d
  have e3 := hx ⟨r.val + 3, by omega⟩ d
  have i1 : (⟨5 + (r.val + 1), by omega⟩ : Fin 136) = ⟨6 + r.val, by omega⟩ := Fin.ext (by simp only; omega)
  have i2 : (⟨5 + (r.val + 2), by omega⟩ : Fin 136) = ⟨7 + r.val, by omega⟩ := Fin.ext (by simp only; omega)
  have i3 : (⟨5 + (r.val + 3), by omega⟩ : Fin 136) = ⟨8 + r.val, by omega⟩ := Fin.ext (by simp only; omega)
  simp only [i1] at e1
  simp only [i2] at e2
  simp only [i3] at e3
  have j1 : k.val * 128 + (r.val + 1) = 1 + (k.val * 128 + r.val) := by omega
  have j2 : k.val * 128 + (r.val + 2) = 2 + (k.val * 128 + r.val) := by omega
  have j3 : k.val * 128 + (r.val + 3) = 3 + (k.val * 128 + r.val) := by omega
  rw [j1] at e1
  rw [j2] at e2
  rw [j3] at e3
  rw [e0, e1, e2, e3, h0, h1, h2, h3, hb, add_comm _ (B d), mul_comm (W 0 d), mul_comm (W 1 d), mul_comm (W 2 d), mul_comm (W 3 d)]

/-! ## The step sizes and their running sums -/

/-- The lane of a head's step size. -/
abbrev lane (h : Fin 32) : Fin 128 := ⟨72 + h.val, by omega⟩

theorem step_at (x : FVec Ideal S128x128 .f32) (b : FVec Ideal S1x128 .f32) (r : Fin 128) (h : Fin 32) :
    k0_pay67 (F := Ideal) k0_pay66 x b (ix2 r (lane h)) = Cert.Layer.softplus (x (ix2 r (lane h)) + b (ix2 0 (lane h))) := by
  have e1 : ∀ h : Fin 32, IntOp.cmpi .sge (BitVec.ofNat 32 (72 + h.val)) 72#32 = 1#1 := by decide +kernel
  have e2 : ∀ h : Fin 32, IntOp.cmpi .slt (BitVec.ofNat 32 (72 + h.val)) 104#32 = 1#1 := by decide +kernel
  have e3 : ∀ r : Fin 128, IntOp.cmpi .slt (BitVec.ofNat 32 r.val) 128#32 = 1#1 := by decide +kernel
  pointwise [k0_pay67, k0_pay66]
  rw [e1 h, e2 h, e3 r]
  unfold Cert.Layer.softplus
  show max _ 0 + Ideal.log (1 + Ideal.exp (0 - max _ (-_))) = _
  rw [zero_sub]
  rfl

/-- The lower triangle of ones. -/
theorem tri_at (r s : Fin 128) : (FloatOps.sitofp (F := Ideal) .f32 (BitVec.setWidth 32 (IntOp.cmpi .sge (BitVec.ofNat 32 r.val) (BitVec.ofNat 32 s.val))) : EReal)
    = if s.val ≤ r.val then 1 else 0 := by
  have e : ∀ r s : Fin 128, (BitVec.setWidth 32 (IntOp.cmpi .sge (BitVec.ofNat 32 r.val) (BitVec.ofNat 32 s.val))).toInt = if s.val ≤ r.val then 1 else 0 := by decide +kernel
  show (((BitVec.setWidth 32 (IntOp.cmpi .sge (BitVec.ofNat 32 r.val) (BitVec.ofNat 32 s.val))).toInt : ℝ) : EReal) = _
  rw [e]
  by_cases h : s.val ≤ r.val
  · rw [if_pos h, if_pos h]; simp
  · rw [if_neg h, if_neg h]; simp

theorem acum_at (x : FVec Ideal S128x128 .f32) (b a : FVec Ideal S1x128 .f32) (r : Fin 128) (l : Fin 128) :
    k0_pay68 (F := Ideal) (iota .tc S128x128 32 [1] iota_S128x128_d1_w32) (iota .tc S128x128 32 [0] iota_S128x128_d0_w32) k0_pay66 x b a (ix2 r l)
      = ∑ s : Fin 128, if s.val ≤ r.val then k0_pay67 (F := Ideal) k0_pay66 x b (ix2 s l) * a (ix2 0 l) else 0 := by
  have e : k0_pay68 (F := Ideal) (iota .tc S128x128 32 [1] iota_S128x128_d1_w32) (iota .tc S128x128 32 [0] iota_S128x128_d0_w32) k0_pay66 x b a (ix2 r l)
      = ∑ s : Fin 128, FloatOps.sitofp (F := Ideal) .f32 (BitVec.setWidth 32 (IntOp.cmpi .sge (BitVec.ofNat 32 r.val) (BitVec.ofNat 32 s.val)))
        * (k0_pay67 (F := Ideal) k0_pay66 x b (ix2 s l) * a (ix2 0 l)) := by
    pointwise [k0_pay68]
    try rfl
  rw [e]
  refine Finset.sum_congr rfl fun s _ => ?_
  rw [tri_at]
  by_cases h : s.val ≤ r.val
  · rw [if_pos h, if_pos h, one_mul]
  · rw [if_neg h, if_neg h, zero_mul]

/-- The running sums of the body, at a lane. -/
abbrev acum (x : FVec Ideal S128x128 .f32) (b a : FVec Ideal S1x128 .f32) : FVec Ideal S128x128 .f32 :=
  k0_pay68 (F := Ideal) (iota .tc S128x128 32 [1] iota_S128x128_d1_w32) (iota .tc S128x128 32 [0] iota_S128x128_d0_w32) k0_pay66 x b a

theorem weight_at (x : FVec Ideal S128x128 .f32) (b a : FVec Ideal S1x128 .f32) (e : FVec Ideal S128x2048 .bf16) (r : Fin 128) (d : Fin 2048) :
    k0_pay73 (F := Ideal) (iota .tc S128x128 32 [1] iota_S128x128_d1_w32) (iota .tc S128x128 32 [0] iota_S128x128_d0_w32) k0_pay66 x b a e (ix2 r d)
      = ∑ l : Fin 128, Ideal.exp (acum x b a (ix2 127 l) - acum x b a (ix2 r l)) * k0_pay67 (F := Ideal) k0_pay66 x b (ix2 r l) * e (ix2 l d) := by
  unfold acum
  pointwise [k0_pay73, k0_pay71, k0_pay72]
  try rfl

theorem decay_at (x : FVec Ideal S128x128 .f32) (b a : FVec Ideal S1x128 .f32) (e : FVec Ideal S128x2048 .bf16) (d : Fin 2048) :
    k0_pay80 (F := Ideal) (k0_pay72 e) (k0_pay76 (iota .tc S128x128 32 [1] iota_S128x128_d1_w32) (iota .tc S128x128 32 [0] iota_S128x128_d0_w32) k0_pay66 x b a)
      (k0_pay78 (iota .tc S128x128 32 [1] iota_S128x128_d1_w32) (iota .tc S128x128 32 [0] iota_S128x128_d0_w32) k0_pay66 x b a)
      (k0_pay79 (iota .tc S128x128 32 [1] iota_S128x128_d1_w32) (iota .tc S128x128 32 [0] iota_S128x128_d0_w32) k0_pay66 x b a) (constant S8x2048 .f32 0x00000000#32) (ix2 0 d)
      = ∑ l : Fin 128, Ideal.exp (acum x b a (ix2 127 l)) * e (ix2 l d)
        + ∑ l : Fin 128, (Ideal.exp (acum x b a (ix2 127 l)) - Ideal.exp (acum x b a (ix2 127 l))) * e (ix2 l d)
        + ∑ l : Fin 128, (Ideal.exp (acum x b a (ix2 127 l)) - Ideal.exp (acum x b a (ix2 127 l)) - (Ideal.exp (acum x b a (ix2 127 l)) - Ideal.exp (acum x b a (ix2 127 l)))) * e (ix2 l d) := by
  unfold acum
  pointwise [k0_pay80, k0_pay76, k0_pay78, k0_pay79, k0_pay77, k0_pay75, k0_pay71, k0_pay72]
  try rfl

/-! ## The state -/

theorem st3_at (v57 : FVec Ideal S128x512 .f32) (v123 : FVec Ideal S1x2048 .f32) (v125 : FVec Ideal S128x2048 .bf16) (v128 : FVec Ideal S128x2048 .f32) (n : Fin 128) (d : Fin 512) :
    k0_pay133 (F := Ideal) v57 v123 v125 v128 (ix2 n d) = v128 (ix2 n ⟨1536 + d.val, by omega⟩) * v123 (ix2 0 ⟨1536 + d.val, by omega⟩)
      + ∑ s : Fin 128, v57 (ix2 s ⟨384 + n.val, by omega⟩) * v125 (ix2 s ⟨1536 + d.val, by omega⟩) := by
  pointwise [k0_pay133, k0_pay129]
  try rfl

theorem st2_at (v57 : FVec Ideal S128x512 .f32) (v123 : FVec Ideal S1x2048 .f32) (v125 : FVec Ideal S128x2048 .bf16) (v128 : FVec Ideal S128x2048 .f32) (n : Fin 128) (d : Fin 512) :
    k0_pay117 (F := Ideal) v123 v125 v128 (k0_pay113 v57) (ix2 n d) = v128 (ix2 n ⟨1024 + d.val, by omega⟩) * v123 (ix2 0 ⟨1024 + d.val, by omega⟩)
      + ∑ s : Fin 128, v57 (ix2 s ⟨256 + n.val, by omega⟩) * v125 (ix2 s ⟨1024 + d.val, by omega⟩) := by
  pointwise [k0_pay117, k0_pay113]
  try rfl

theorem st1_at (v57 : FVec Ideal S128x512 .f32) (v123 : FVec Ideal S1x2048 .f32) (v125 : FVec Ideal S128x2048 .bf16) (v128 : FVec Ideal S128x2048 .f32) (n : Fin 128) (d : Fin 512) :
    k0_pay106 (F := Ideal) (k0_pay105 v57 v123 v125 v128) (ix2 n d) = v128 (ix2 n ⟨512 + d.val, by omega⟩) * v123 (ix2 0 ⟨512 + d.val, by omega⟩)
      + ∑ s : Fin 128, v57 (ix2 s ⟨128 + n.val, by omega⟩) * v125 (ix2 s ⟨512 + d.val, by omega⟩) := by
  pointwise [k0_pay106, k0_pay105, k0_pay101]
  try rfl

theorem st0_at (v56 : FVec Ideal S128x2048 .f32) (v57 : FVec Ideal S128x512 .f32) (v102 : FVec Ideal S128x2048 .bf16) (v104 : FVec Ideal S128x2048 .f32)
    (v111 v114 v117 : FVec Ideal S8x128 .bf16) (z : FVec Ideal S8x2048 .f32) (v128 : FVec Ideal S128x2048 .f32) (n : Fin 128) (d : Fin 512) :
    k0_pay88 (F := Ideal) v56 v57 v102 v104 v111 v114 v117 z v128 (ix2 n d) = v128 (ix2 n ⟨d.val, by omega⟩) * k0_pay80 (F := Ideal) v102 v111 v114 v117 z (ix2 0 ⟨d.val, by omega⟩)
      + ∑ s : Fin 128, v57 (ix2 s ⟨n.val, by omega⟩) * k0_pay81 (F := Ideal) v56 v104 (ix2 s ⟨d.val, by omega⟩) := by
  pointwise [k0_pay88, k0_pay84]
  try rfl

theorem xw_at (v56 v104 : FVec Ideal S128x2048 .f32) (s : Fin 128) (d : Fin 2048) : k0_pay81 (F := Ideal) v56 v104 (ix2 s d) = v56 (ix2 s d) * v104 (ix2 s d) := by
  pointwise [k0_pay81]

theorem xs_at (xe : FVec Ideal S136x3072 .f32) (w0 w1 w2 w3 cb : FVec Ideal S1x3072 .f32) (r : Fin 128) (d : Fin 2048) :
    k0_pay63 (F := Ideal) xe w0 w1 w2 w3 cb (ix2 r d) = k0_pay62 (F := Ideal) xe w0 w1 w2 w3 cb (ix2 r ⟨d.val, by omega⟩) := by
  pointwise [k0_pay63]

theorem bm_at (xe : FVec Ideal S136x3072 .f32) (w0 w1 w2 w3 cb : FVec Ideal S1x3072 .f32) (r : Fin 128) (d : Fin 512) :
    k0_pay64 (F := Ideal) xe w0 w1 w2 w3 cb (ix2 r d) = k0_pay62 (F := Ideal) xe w0 w1 w2 w3 cb (ix2 r ⟨2048 + d.val, by omega⟩) := by
  pointwise [k0_pay64]

theorem zero56 (n : Fin 128) (d : Fin 2048) : k0_pay56 (F := Ideal) (ix2 n d) = 0 := by
  pointwise [k0_pay56]

theorem zero54 (n : Fin 136) (d : Fin 3072) : k0_pay54 (F := Ideal) (ix2 n d) = 0 := by
  pointwise [k0_pay54]

theorem pay58_at (x : FVec Ideal S128x2048 .f32) (n : Fin 128) (d : Fin 2048) : k0_pay58 (F := Ideal) x (ix2 n d) = x (ix2 n d) := by
  pointwise [k0_pay58]
theorem pay59_at (x : FVec Ideal S128x512 .f32) (n : Fin 128) (d : Fin 512) : k0_pay59 (F := Ideal) x (ix2 n d) = x (ix2 n d) := by
  pointwise [k0_pay59]
theorem pay60_at (x : FVec Ideal S128x512 .f32) (n : Fin 128) (d : Fin 512) : k0_pay60 (F := Ideal) x (ix2 n d) = x (ix2 n d) := by
  pointwise [k0_pay60]
theorem pay61_at (x : FVec Ideal S128x128 .f32) (n : Fin 128) (d : Fin 128) : k0_pay61 (F := Ideal) x (ix2 n d) = x (ix2 n d) := by
  pointwise [k0_pay61]

theorem pay57_at (x : Vec Ideal S136x3072 .f32) (n : Fin 8) (d : Fin 3072) :
    k0_pay57 (F := Ideal) (View.ld x (Rect.unit ![128, 0] ![8, 3072] inb_S136x3072_S8x3072_128_0)) (ix2 n d) = x (ix2 ⟨128 + n.val, by omega⟩ d) := by
  pointwise [k0_pay57]

/-! ## Pieces -/

/-- The newest write, read where it was made. -/
theorem canon_hit {A B a b : ℕ} (o p : ℕ) (inb : ∀ x, (![o, p] : Fin 2 → ℕ) x + (![a, b] : Fin 2 → ℕ) x ≤ (⟨2, ![A, B]⟩ : Shape).size x)
    (w : FVec Ideal ⟨2, ![a, b]⟩ .f32) (L : List (View.Piece (Elt Ideal) ⟨2, ![A, B]⟩ .f32)) (n : Fin A) (d : Fin B) (n' : Fin a) (d' : Fin b)
    (hn : n.val = o + n'.val) (hd : d.val = p + d'.val) :
    View.canon ((⟨Rect.unit (s := ⟨2, ![A, B]⟩) ![o, p] ![a, b] inb, w⟩ : View.Piece (Elt Ideal) ⟨2, ![A, B]⟩ .f32) :: L) (ix2 n d) = w (ix2 n' d') := by
  have h : (Rect.unit (s := ⟨2, ![A, B]⟩) ![o, p] ![a, b] inb).emb (ix2 n' d' : (⟨2, ![a, b]⟩ : Shape).Idx) = (ix2 n d : (⟨2, ![A, B]⟩ : Shape).Idx) := by
    refine Rect.emb_eq_of_coords _ _ _ fun x => ?_
    match x with
    | 0 => show n.val = o + 1 * n'.val; omega
    | 1 => show d.val = p + 1 * d'.val; omega
  rw [← h]
  exact View.canon_cons_emb (Rect.unit (s := ⟨2, ![A, B]⟩) ![o, p] ![a, b] inb) w L (ix2 n' d' : (⟨2, ![a, b]⟩ : Shape).Idx)

/-- A write further right is not seen. -/
theorem canon_col {A B a b : ℕ} (o p : ℕ) (inb : ∀ x, (![o, p] : Fin 2 → ℕ) x + (![a, b] : Fin 2 → ℕ) x ≤ (⟨2, ![A, B]⟩ : Shape).size x)
    (w : FVec Ideal ⟨2, ![a, b]⟩ .f32) (L : List (View.Piece (Elt Ideal) ⟨2, ![A, B]⟩ .f32)) (n : Fin A) (d : Fin B) (hd : d.val < p) :
    View.canon ((⟨Rect.unit (s := ⟨2, ![A, B]⟩) ![o, p] ![a, b] inb, w⟩ : View.Piece (Elt Ideal) ⟨2, ![A, B]⟩ .f32) :: L) (ix2 n d) = View.canon L (ix2 n d) :=
  View.canon_cons_of_not_mem _ _ (Rect.not_mem_set_of_axis _ _ (1 : Fin 2) p b rfl rfl rfl (Or.inl hd))

/-- A write further down is not seen. -/
theorem canon_row {A B a b : ℕ} (o p : ℕ) (inb : ∀ x, (![o, p] : Fin 2 → ℕ) x + (![a, b] : Fin 2 → ℕ) x ≤ (⟨2, ![A, B]⟩ : Shape).size x)
    (w : FVec Ideal ⟨2, ![a, b]⟩ .f32) (L : List (View.Piece (Elt Ideal) ⟨2, ![A, B]⟩ .f32)) (n : Fin A) (d : Fin B) (hn : n.val < o) :
    View.canon ((⟨Rect.unit (s := ⟨2, ![A, B]⟩) ![o, p] ![a, b] inb, w⟩ : View.Piece (Elt Ideal) ⟨2, ![A, B]⟩ .f32) :: L) (ix2 n d) = View.canon L (ix2 n d) :=
  View.canon_cons_of_not_mem _ _ (Rect.not_mem_set_of_axis _ _ (0 : Fin 2) o a rfl rfl rfl (Or.inl hn))

/-- The rows of the chunk in the convolution's buffer: three column pieces. -/
theorem xp_hi (cm bm : FVec Ideal S128x512 .f32) (x : FVec Ideal S128x2048 .f32) (L : List (View.Piece (Elt Ideal) S136x3072 .f32)) (r : Fin 128) (k : Fin 3072) :
    View.canon ((⟨Rect.unit ![8, 2560] ![128, 512] inb_S136x3072_S128x512_8_2560, cm⟩ : View.Piece (Elt Ideal) S136x3072 .f32)
      :: ⟨Rect.unit ![8, 2048] ![128, 512] inb_S136x3072_S128x512_8_2048, bm⟩ :: ⟨Rect.unit ![8, 0] ![128, 2048] inb_S136x3072_S128x2048_8_0, x⟩ :: L)
      (ix2 ⟨8 + r.val, by omega⟩ k)
      = if h : k.val < 2048 then x (ix2 r ⟨k.val, h⟩) else if h' : k.val < 2560 then bm (ix2 r ⟨k.val - 2048, by omega⟩) else cm (ix2 r ⟨k.val - 2560, by omega⟩) := by
  by_cases h : k.val < 2048
  · rw [dif_pos h]
    refine (canon_col (A := 136) (B := 3072) (a := 128) (b := 512) 8 2560 inb_S136x3072_S128x512_8_2560 cm _ ⟨8 + r.val, by omega⟩ k (by omega)).trans ?_
    refine (canon_col (A := 136) (B := 3072) (a := 128) (b := 512) 8 2048 inb_S136x3072_S128x512_8_2048 bm _ ⟨8 + r.val, by omega⟩ k (by omega)).trans ?_
    exact canon_hit (A := 136) (B := 3072) (a := 128) (b := 2048) 8 0 inb_S136x3072_S128x2048_8_0 x _ ⟨8 + r.val, by omega⟩ k r ⟨k.val, h⟩ rfl (Nat.zero_add _).symm
  · by_cases h' : k.val < 2560
    · rw [dif_neg h, dif_pos h']
      refine (canon_col (A := 136) (B := 3072) (a := 128) (b := 512) 8 2560 inb_S136x3072_S128x512_8_2560 cm _ ⟨8 + r.val, by omega⟩ k (by omega)).trans ?_
      exact canon_hit (A := 136) (B := 3072) (a := 128) (b := 512) 8 2048 inb_S136x3072_S128x512_8_2048 bm _ ⟨8 + r.val, by omega⟩ k r ⟨k.val - 2048, by omega⟩ rfl (by show k.val = 2048 + (k.val - 2048); omega)
    · rw [dif_neg h, dif_neg h']
      exact canon_hit (A := 136) (B := 3072) (a := 128) (b := 512) 8 2560 inb_S136x3072_S128x512_8_2560 cm _ ⟨8 + r.val, by omega⟩ k r ⟨k.val - 2560, by omega⟩ rfl (by show k.val = 2560 + (k.val - 2560); omega)

theorem xp_lo (cm bm : FVec Ideal S128x512 .f32) (x : FVec Ideal S128x2048 .f32) (L : List (View.Piece (Elt Ideal) S136x3072 .f32)) (r : Fin 8) (k : Fin 3072) :
    View.canon ((⟨Rect.unit ![8, 2560] ![128, 512] inb_S136x3072_S128x512_8_2560, cm⟩ : View.Piece (Elt Ideal) S136x3072 .f32)
      :: ⟨Rect.unit ![8, 2048] ![128, 512] inb_S136x3072_S128x512_8_2048, bm⟩ :: ⟨Rect.unit ![8, 0] ![128, 2048] inb_S136x3072_S128x2048_8_0, x⟩ :: L)
      (ix2 ⟨r.val, by omega⟩ k) = View.canon L (ix2 ⟨r.val, by omega⟩ k) := by
  have hr : r.val < 8 := r.isLt
  refine (canon_row (A := 136) (B := 3072) (a := 128) (b := 512) 8 2560 inb_S136x3072_S128x512_8_2560 cm _ ⟨r.val, by omega⟩ k hr).trans ?_
  refine (canon_row (A := 136) (B := 3072) (a := 128) (b := 512) 8 2048 inb_S136x3072_S128x512_8_2048 bm _ ⟨r.val, by omega⟩ k hr).trans ?_
  exact canon_row (A := 136) (B := 3072) (a := 128) (b := 2048) 8 0 inb_S136x3072_S128x2048_8_0 x _ ⟨r.val, by omega⟩ k hr

theorem xp_old (P : FVec Ideal S8x3072 .f32) (L : List (View.Piece (Elt Ideal) S136x3072 .f32)) (r : Fin 8) (k : Fin 3072) :
    View.canon ((⟨Rect.unit ![0, 0] ![8, 3072] inb_S136x3072_S8x3072_0_0, P⟩ : View.Piece (Elt Ideal) S136x3072 .f32) :: L) (ix2 ⟨r.val, by omega⟩ k) = P (ix2 r k) :=
  canon_hit (A := 136) (B := 3072) (a := 8) (b := 3072) 0 0 inb_S136x3072_S8x3072_0_0 P L ⟨r.val, by omega⟩ k r k (Nat.zero_add _).symm (Nat.zero_add _).symm

theorem xp_zero (P : FVec Ideal S136x3072 .f32) (L : List (View.Piece (Elt Ideal) S136x3072 .f32)) (r : Fin 136) (k : Fin 3072) :
    View.canon ((⟨Rect.unit ![0, 0] ![136, 3072] inb_S136x3072_S136x3072_0_0, P⟩ : View.Piece (Elt Ideal) S136x3072 .f32) :: L) (ix2 r k) = P (ix2 r k) :=
  canon_hit (A := 136) (B := 3072) (a := 136) (b := 3072) 0 0 inb_S136x3072_S136x3072_0_0 P L r k r k (Nat.zero_add _).symm (Nat.zero_add _).symm

theorem xe_eq {sig : RefSig} {κ : Kind} {sp : Space} (v : View sig κ sp S136x3072 .f32) (L : List (View.Piece (Elt Ideal) S136x3072 .f32)) (r : Fin 136) (k : Fin 3072) :
    (v.readCov (Val := Elt Ideal) L (Rect.unit (s := S136x3072) ![0, 0] ![136, 3072] inb_S136x3072_S136x3072_0_0).toLoadRect : FVec Ideal S136x3072 .f32) (ix2 r k) = View.canon L (ix2 r k) := by
  rw [View.readCov_eq_canon']
  refine congrArg (View.canon L) (funext fun a => Fin.ext ?_)
  match a with
  | 0 => show 0 + 1 * r.val = r.val; omega
  | 1 => show 0 + 1 * k.val = k.val; omega

/-- The four column pieces of the state. -/
theorem tiles (P0 P1 P2 P3 : FVec Ideal S128x512 .f32) (L : List (View.Piece (Elt Ideal) S128x2048 .f32)) (f : Fin 128 → Fin 2048 → EReal)
    (h0 : ∀ n (d : Fin 512), P0 (ix2 n d) = f n ⟨d.val, by omega⟩) (h1 : ∀ n (d : Fin 512), P1 (ix2 n d) = f n ⟨512 + d.val, by omega⟩)
    (h2 : ∀ n (d : Fin 512), P2 (ix2 n d) = f n ⟨1024 + d.val, by omega⟩) (h3 : ∀ n (d : Fin 512), P3 (ix2 n d) = f n ⟨1536 + d.val, by omega⟩)
    (n : Fin 128) (d : Fin 2048) :
    View.canon ((⟨Rect.unit ![0, 1536] ![128, 512] inb_S128x2048_S128x512_0_1536, P3⟩ : View.Piece (Elt Ideal) S128x2048 .f32)
      :: ⟨Rect.unit ![0, 1024] ![128, 512] inb_S128x2048_S128x512_0_1024, P2⟩ :: ⟨Rect.unit ![0, 512] ![128, 512] inb_S128x2048_S128x512_0_512, P1⟩
      :: ⟨Rect.unit ![0, 0] ![128, 512] inb_S128x2048_S128x512_0_0, P0⟩ :: L) (ix2 n d) = f n d := by
  by_cases c3 : 1536 ≤ d.val
  · refine (canon_hit (A := 128) (B := 2048) (a := 128) (b := 512) 0 1536 inb_S128x2048_S128x512_0_1536 P3 _ n d n ⟨d.val - 1536, by omega⟩ (Nat.zero_add _).symm (by show d.val = 1536 + (d.val - 1536); omega)).trans ((h3 n ⟨d.val - 1536, by omega⟩).trans ?_)
    exact congrArg (f n) (Fin.ext (by show 1536 + (d.val - 1536) = d.val; omega))
  refine (canon_col (A := 128) (B := 2048) (a := 128) (b := 512) 0 1536 inb_S128x2048_S128x512_0_1536 P3 _ n d (by omega)).trans ?_
  by_cases c2 : 1024 ≤ d.val
  · refine (canon_hit (A := 128) (B := 2048) (a := 128) (b := 512) 0 1024 inb_S128x2048_S128x512_0_1024 P2 _ n d n ⟨d.val - 1024, by omega⟩ (Nat.zero_add _).symm (by show d.val = 1024 + (d.val - 1024); omega)).trans ((h2 n ⟨d.val - 1024, by omega⟩).trans ?_)
    exact congrArg (f n) (Fin.ext (by show 1024 + (d.val - 1024) = d.val; omega))
  refine (canon_col (A := 128) (B := 2048) (a := 128) (b := 512) 0 1024 inb_S128x2048_S128x512_0_1024 P2 _ n d (by omega)).trans ?_
  by_cases c1 : 512 ≤ d.val
  · refine (canon_hit (A := 128) (B := 2048) (a := 128) (b := 512) 0 512 inb_S128x2048_S128x512_0_512 P1 _ n d n ⟨d.val - 512, by omega⟩ (Nat.zero_add _).symm (by show d.val = 512 + (d.val - 512); omega)).trans ((h1 n ⟨d.val - 512, by omega⟩).trans ?_)
    exact congrArg (f n) (Fin.ext (by show 512 + (d.val - 512) = d.val; omega))
  refine (canon_col (A := 128) (B := 2048) (a := 128) (b := 512) 0 512 inb_S128x2048_S128x512_0_512 P1 _ n d (by omega)).trans ?_
  exact (canon_hit (A := 128) (B := 2048) (a := 128) (b := 512) 0 0 inb_S128x2048_S128x512_0_0 P0 _ n d n ⟨d.val, by omega⟩ (Nat.zero_add _).symm (Nat.zero_add _).symm).trans (h0 n ⟨d.val, by omega⟩)

end Cert.KernelIdeal.Scan
end
-- ==== Proof.ScanChunk.lean ====
module

public import proofs.«01_k».proof.Proof.ScanPure

@[expose] public section

/-! One chunk of the scan: the body's new state is the recurrence's. -/

set_option backward.proofsInPublic true
set_option maxRecDepth 16384

noncomputable section

open Idealize.ShloMosaic
open Cert.Layer (row padded convAt stepAt cumAt chunkState)

namespace Cert.KernelIdeal.Scan
open Cert.KernelIdeal Cert.KernelIdeal.Gen

abbrev i1 : IVec S128x128 32 := iota .tc S128x128 32 [1] iota_S128x128_d1_w32
abbrev i0 : IVec S128x128 32 := iota .tc S128x128 32 [0] iota_S128x128_d0_w32

/-- The head of a column of the state, and its place in the head. -/
abbrev headOf (d : Fin 2048) : Fin 32 := ⟨d.val / 64, by omega⟩
abbrev placeOf (d : Fin 2048) : Fin 64 := ⟨d.val % 64, by omega⟩

/-- The body's decays. -/
abbrev dec (x : FVec Ideal S128x128 .f32) (b a : FVec Ideal S1x128 .f32) (e : FVec Ideal S128x2048 .bf16) : FVec Ideal S1x2048 .f32 :=
  k0_pay80 (F := Ideal) (k0_pay72 e) (k0_pay76 i1 i0 k0_pay66 x b a) (k0_pay78 i1 i0 k0_pay66 x b a) (k0_pay79 i1 i0 k0_pay66 x b a) (constant S8x2048 .f32 0x00000000#32)

section
variable (x : FVec Ideal S128x128 .f32) (b a : FVec Ideal S1x128 .f32) (e : FVec Ideal S128x2048 .bf16)
variable (D : Fin 4096 → Fin 32 → EReal) (DB A : Fin 32 → EReal) (k : Fin 32)
variable (hx : ∀ r h, x (ix2 r (lane h)) = D (row k r) h) (hb : ∀ h, b (ix2 0 (lane h)) = DB h) (ha : ∀ h, a (ix2 0 (lane h)) = -Ideal.exp (A h))
variable (he : ∀ (l : Fin 128) (d : Fin 2048), e (ix2 l d) = if l = lane (headOf d) then 1 else 0)
include hx hb

theorem step_row (r : Fin 128) (h : Fin 32) : k0_pay67 (F := Ideal) k0_pay66 x b (ix2 r (lane h)) = stepAt D DB (row k r) h := by
  rw [step_at, hx, hb]
  rfl

include ha

theorem acum_cum (s : Fin 128) (h : Fin 32) : acum x b a (ix2 s (lane h)) = cumAt (stepAt D DB) A k s h := by
  unfold acum cumAt
  rw [acum_at]
  refine Finset.sum_congr rfl fun q _ => ?_
  rw [step_row x b D DB k hx hb, ha]

include he

theorem weight_row (r : Fin 128) (d : Fin 2048) : k0_pay73 (F := Ideal) i1 i0 k0_pay66 x b a e (ix2 r d)
    = Ideal.exp (cumAt (stepAt D DB) A k 127 (headOf d) - cumAt (stepAt D DB) A k r (headOf d)) * stepAt D DB (row k r) (headOf d) := by
  rw [weight_at, Cert.Layer.sum_indicator _ _ (lane (headOf d)) (fun l => he l d), acum_cum x b a D DB A k hx hb ha, acum_cum x b a D DB A k hx hb ha,
    step_row x b D DB k hx hb]

theorem dec_row (d : Fin 2048) : dec x b a e (ix2 0 d) = Ideal.exp (cumAt (stepAt D DB) A k 127 (headOf d)) := by
  have hz := Cert.Layer.exp_sub_self _ (Cert.Layer.cumAt_nonpos (stepAt D DB) A (fun _ _ => Cert.Layer.softplus_nonneg _) k 127 (headOf d))
  unfold dec
  rw [decay_at, Cert.Layer.sum_indicator _ _ (lane (headOf d)) (fun l => he l d), Cert.Layer.sum_indicator _ _ (lane (headOf d)) (fun l => he l d),
    Cert.Layer.sum_indicator _ _ (lane (headOf d)) (fun l => he l d), acum_cum x b a D DB A k hx hb ha,
    hz, sub_zero, add_zero, add_zero]

end

/-- The state the body leaves, written with its own arrays. -/
def newState (v56 : FVec Ideal S128x2048 .f32) (v57 : FVec Ideal S128x512 .f32) (v104 : FVec Ideal S128x2048 .f32) (v123 : FVec Ideal S1x2048 .f32)
    (v128 : FVec Ideal S128x2048 .f32) (n : Fin 128) (d : Fin 2048) : EReal :=
  v128 (ix2 n d) * v123 (ix2 0 d) + ∑ s : Fin 128, v57 (ix2 s ⟨d.val / 512 * 128 + n.val, by omega⟩) * k0_pay81 (F := Ideal) v56 v104 (ix2 s d)

theorem new_tiles (v56 : FVec Ideal S128x2048 .f32) (v57 : FVec Ideal S128x512 .f32) (v104 : FVec Ideal S128x2048 .f32) (v102 : FVec Ideal S128x2048 .bf16)
    (v111 v114 v117 : FVec Ideal S8x128 .bf16) (z : FVec Ideal S8x2048 .f32)
    (v128 : FVec Ideal S128x2048 .f32) (L : List (View.Piece (Elt Ideal) S128x2048 .f32)) (n : Fin 128) (d : Fin 2048) :
    View.canon ((⟨Rect.unit ![0, 1536] ![128, 512] inb_S128x2048_S128x512_0_1536, k0_pay133 (F := Ideal) v57 (k0_pay80 v102 v111 v114 v117 z) (k0_pay81 v56 v104) v128⟩ : View.Piece (Elt Ideal) S128x2048 .f32)
      :: ⟨Rect.unit ![0, 1024] ![128, 512] inb_S128x2048_S128x512_0_1024, k0_pay117 (F := Ideal) (k0_pay80 v102 v111 v114 v117 z) (k0_pay81 v56 v104) v128 (k0_pay113 v57)⟩
      :: ⟨Rect.unit ![0, 512] ![128, 512] inb_S128x2048_S128x512_0_512, k0_pay106 (F := Ideal) (k0_pay105 v57 (k0_pay80 v102 v111 v114 v117 z) (k0_pay81 v56 v104) v128)⟩
      :: ⟨Rect.unit ![0, 0] ![128, 512] inb_S128x2048_S128x512_0_0, k0_pay88 (F := Ideal) v56 v57 v102 v104 v111 v114 v117 z v128⟩ :: L) (ix2 n d)
    = newState v56 v57 v104 (k0_pay80 (F := Ideal) v102 v111 v114 v117 z) v128 n d := by
  refine tiles _ _ _ _ L (newState v56 v57 v104 (k0_pay80 (F := Ideal) v102 v111 v114 v117 z) v128) (fun n d => ?_) (fun n d => ?_) (fun n d => ?_) (fun n d => ?_) n d
  · rw [st0_at]
    refine congrArg _ (Finset.sum_congr rfl fun s _ => ?_)
    exact congrArg (fun q => v57 (ix2 s q) * _) (Fin.ext (by show n.val = d.val / 512 * 128 + n.val; omega))
  · rw [st1_at]
    refine congrArg _ (Finset.sum_congr rfl fun s _ => ?_)
    exact congrArg (fun q => v57 (ix2 s q) * _) (Fin.ext (by show 128 + n.val = (512 + d.val) / 512 * 128 + n.val; omega))
  · rw [st2_at]
    refine congrArg _ (Finset.sum_congr rfl fun s _ => ?_)
    exact congrArg (fun q => v57 (ix2 s q) * _) (Fin.ext (by show 256 + n.val = (1024 + d.val) / 512 * 128 + n.val; omega))
  · rw [st3_at]
    refine congrArg _ (Finset.sum_congr rfl fun s _ => ?_)
    exact congrArg (fun q => v57 (ix2 s q) * _) (Fin.ext (by show 384 + n.val = (1536 + d.val) / 512 * 128 + n.val; omega))

/-- The body's new state is the recurrence's. -/
theorem new_state (xe : FVec Ideal S136x3072 .f32) (w0 w1 w2 w3 cb : FVec Ideal S1x3072 .f32) (x : FVec Ideal S128x128 .f32) (b a : FVec Ideal S1x128 .f32) (e : FVec Ideal S128x2048 .bf16)
    (v128 : FVec Ideal S128x2048 .f32)
    (X : Fin 4096 → Fin 3072 → EReal) (W : Fin 4 → Fin 3072 → EReal) (B : Fin 3072 → EReal)
    (D : Fin 4096 → Fin 32 → EReal) (DB A : Fin 32 → EReal) (k : Fin 32)
    (hxe : ∀ (i : Fin 131) (d : Fin 3072), xe (ix2 ⟨5 + i.val, by omega⟩ d) = padded X (k.val * 128 + i.val) d)
    (h0 : ∀ d, w0 (ix2 0 d) = W 0 d) (h1 : ∀ d, w1 (ix2 0 d) = W 1 d) (h2 : ∀ d, w2 (ix2 0 d) = W 2 d) (h3 : ∀ d, w3 (ix2 0 d) = W 3 d)
    (hcb : ∀ d, cb (ix2 0 d) = B d)
    (hx : ∀ r h, x (ix2 r (lane h)) = D (row k r) h) (hb : ∀ h, b (ix2 0 (lane h)) = DB h) (ha : ∀ h, a (ix2 0 (lane h)) = -Ideal.exp (A h))
    (he : ∀ (l : Fin 128) (d : Fin 2048), e (ix2 l d) = if l = lane (headOf d) then 1 else 0)
    (n : Fin 128) (d : Fin 2048) :
    newState (k0_pay63 (F := Ideal) xe w0 w1 w2 w3 cb) (k0_pay64 (F := Ideal) xe w0 w1 w2 w3 cb) (k0_pay73 (F := Ideal) i1 i0 k0_pay66 x b a e) (dec x b a e) v128 n d
      = v128 (ix2 n d) * Ideal.exp (cumAt (stepAt D DB) A k 127 (headOf d)) + chunkState (convAt X W B) (stepAt D DB) A k (headOf d) (placeOf d) n := by
  unfold newState chunkState
  rw [dec_row x b a e D DB A k hx hb ha he]
  refine congrArg _ (Finset.sum_congr rfl fun s _ => ?_)
  rw [xw_at, weight_row x b a e D DB A k hx hb ha he, xs_at, bm_at, conv_at xe w0 w1 w2 w3 cb X W B k hxe h0 h1 h2 h3 hcb, conv_at xe w0 w1 w2 w3 cb X W B k hxe h0 h1 h2 h3 hcb]
  have e1 : (⟨(headOf d).val * 64 + (placeOf d).val, by omega⟩ : Fin 3072) = ⟨d.val, by omega⟩ := Fin.ext (by simp only; omega)
  have e2 : (⟨2048 + ((headOf d).val / 8 * 128 + n.val), by omega⟩ : Fin 3072) = ⟨2048 + (d.val / 512 * 128 + n.val), by omega⟩ := Fin.ext (by simp only; omega)
  rw [e1, e2, mul_comm (convAt X W B (row k s) ⟨d.val, _⟩), mul_comm (convAt X W B (row k s) ⟨2048 + _, _⟩)]

/-! ## The rows the convolution reads -/

section
variable (x0 : FVec Ideal S128x2048 .f32) (x2 x3 : FVec Ideal S128x512 .f32) (X : Fin 4096 → Fin 3072 → EReal) (k : Fin 32)
variable (hx : ∀ r (j : Fin 2048), x0 (ix2 r j) = X (row k r) ⟨j.val, by omega⟩) (hbm : ∀ r (j : Fin 512), x2 (ix2 r j) = X (row k r) ⟨2048 + j.val, by omega⟩)
variable (hcm : ∀ r (j : Fin 512), x3 (ix2 r j) = X (row k r) ⟨2560 + j.val, by omega⟩)
include hx hbm hcm

theorem rows_hi (L : List (View.Piece (Elt Ideal) S136x3072 .f32)) (i : Fin 131) (hi : 3 ≤ i.val) (d : Fin 3072) :
    View.canon ((⟨Rect.unit ![8, 2560] ![128, 512] inb_S136x3072_S128x512_8_2560, k0_pay60 (F := Ideal) x3⟩ : View.Piece (Elt Ideal) S136x3072 .f32)
      :: ⟨Rect.unit ![8, 2048] ![128, 512] inb_S136x3072_S128x512_8_2048, k0_pay59 (F := Ideal) x2⟩ :: ⟨Rect.unit ![8, 0] ![128, 2048] inb_S136x3072_S128x2048_8_0, k0_pay58 (F := Ideal) x0⟩ :: L)
      (ix2 ⟨5 + i.val, by omega⟩ d) = padded X (k.val * 128 + i.val) d := by
  have e : (⟨5 + i.val, by omega⟩ : Fin 136) = ⟨8 + (⟨i.val - 3, by omega⟩ : Fin 128).val, by omega⟩ := Fin.ext (by simp only; omega)
  rw [e, xp_hi]
  unfold padded
  have hc : 3 ≤ k.val * 128 + i.val ∧ k.val * 128 + i.val < 4099 := ⟨by omega, by omega⟩
  rw [dif_pos hc]
  have er : (⟨k.val * 128 + i.val - 3, by omega⟩ : Fin 4096) = row k ⟨i.val - 3, by omega⟩ := Fin.ext (by simp only; omega)
  rw [er]
  by_cases h : d.val < 2048
  · rw [dif_pos h, pay58_at, hx]
  · by_cases h' : d.val < 2560
    · rw [dif_neg h, dif_pos h', pay59_at, hbm]
      exact congrArg (X _) (Fin.ext (by simp only; omega))
    · rw [dif_neg h, dif_neg h', pay60_at, hcm]
      exact congrArg (X _) (Fin.ext (by simp only; omega))

theorem rows_first (hk : k.val = 0) (i : Fin 131) (d : Fin 3072) :
    View.canon [(⟨Rect.unit ![8, 2560] ![128, 512] inb_S136x3072_S128x512_8_2560, k0_pay60 (F := Ideal) x3⟩ : View.Piece (Elt Ideal) S136x3072 .f32),
      ⟨Rect.unit ![8, 2048] ![128, 512] inb_S136x3072_S128x512_8_2048, k0_pay59 (F := Ideal) x2⟩, ⟨Rect.unit ![8, 0] ![128, 2048] inb_S136x3072_S128x2048_8_0, k0_pay58 (F := Ideal) x0⟩,
      ⟨Rect.unit ![0, 0] ![136, 3072] inb_S136x3072_S136x3072_0_0, k0_pay54 (F := Ideal)⟩]
      (ix2 ⟨5 + i.val, by omega⟩ d) = padded X (k.val * 128 + i.val) d := by
  by_cases hi : 3 ≤ i.val
  · exact rows_hi x0 x2 x3 X k hx hbm hcm _ i hi d
  refine (xp_lo _ _ _ _ (⟨5 + i.val, by omega⟩ : Fin 8) d).trans ?_
  rw [xp_zero, zero54]
  unfold padded
  rw [dif_neg (by omega)]

theorem rows_next (P : Vec Ideal S136x3072 .f32) (k' : Fin 32) (hk : k.val = k'.val + 1)
    (hP : ∀ (i : Fin 131) (d : Fin 3072), P (ix2 ⟨5 + i.val, by omega⟩ d) = padded X (k'.val * 128 + i.val) d) (i : Fin 131) (d : Fin 3072) :
    View.canon [(⟨Rect.unit ![8, 2560] ![128, 512] inb_S136x3072_S128x512_8_2560, k0_pay60 (F := Ideal) x3⟩ : View.Piece (Elt Ideal) S136x3072 .f32),
      ⟨Rect.unit ![8, 2048] ![128, 512] inb_S136x3072_S128x512_8_2048, k0_pay59 (F := Ideal) x2⟩, ⟨Rect.unit ![8, 0] ![128, 2048] inb_S136x3072_S128x2048_8_0, k0_pay58 (F := Ideal) x0⟩,
      ⟨Rect.unit ![0, 0] ![8, 3072] inb_S136x3072_S8x3072_0_0, k0_pay57 (F := Ideal) (View.ld P (Rect.unit ![128, 0] ![8, 3072] inb_S136x3072_S8x3072_128_0))⟩]
      (ix2 ⟨5 + i.val, by omega⟩ d) = padded X (k.val * 128 + i.val) d := by
  by_cases hi : 3 ≤ i.val
  · exact rows_hi x0 x2 x3 X k hx hbm hcm _ i hi d
  refine (xp_lo _ _ _ _ (⟨5 + i.val, by omega⟩ : Fin 8) d).trans ?_
  rw [xp_old, pay57_at]
  have e := hP ⟨128 + i.val, by omega⟩ d
  have e1 : (⟨5 + (128 + i.val), by omega⟩ : Fin 136) = ⟨128 + (5 + i.val), by omega⟩ := Fin.ext (by simp only; omega)
  simp only [e1] at e
  refine e.trans ?_
  exact congrArg (fun q => padded X q d) (by omega)

end

/-- A row of the convolution's weights. -/
theorem tap_at (w : Vec Ideal S4x3072 .f32) (d : Fin 3072) :
    (View.ld w (Rect.unit ![0, 0] ![1, 3072] inb_S4x3072_S1x3072_0_0) : FVec Ideal S1x3072 .f32) (ix2 0 d) = w (ix2 0 d)
    ∧ (View.ld w (Rect.unit ![1, 0] ![1, 3072] inb_S4x3072_S1x3072_1_0) : FVec Ideal S1x3072 .f32) (ix2 0 d) = w (ix2 1 d)
    ∧ (View.ld w (Rect.unit ![2, 0] ![1, 3072] inb_S4x3072_S1x3072_2_0) : FVec Ideal S1x3072 .f32) (ix2 0 d) = w (ix2 2 d)
    ∧ (View.ld w (Rect.unit ![3, 0] ![1, 3072] inb_S4x3072_S1x3072_3_0) : FVec Ideal S1x3072 .f32) (ix2 0 d) = w (ix2 3 d) := by
  refine ⟨?_, ?_, ?_, ?_⟩ <;> pointwise

end Cert.KernelIdeal.Scan
end
-- ==== Proof.ScanReads.lean ====
module

public import proofs.«01_k».proof.Proof.Gen.KernelIdeal.Frame
public import proofs.«01_k».proof.Proof.ScanChunk

@[expose] public section

/-! What the scan's blocks hold of the argument arrays. -/

set_option backward.proofsInPublic true
set_option maxRecDepth 16384

noncomputable section

open Idealize.ShloMosaic Idealize.ShloMosaic.TcCoe Idealize.SL.Sem
open Cert.Layer (row)

namespace Cert.KernelIdeal.Scan
open Cert.KernelIdeal Cert.KernelIdeal.Gen

/-- Which block each window is on: chunk `t % 32` of sequence `t / 32`. -/
theorem idx : ∀ t : Fin cfg0.N, win0_0.index t = ![t.val, 0] ∧ win0_2.index t = ![t.val, 12] ∧ win0_3.index t = ![t.val, 13]
    ∧ win0_4.index t = ![t.val, 20] ∧ win0_7.index t = ![0, 0] ∧ win0_8.index t = ![0, 0] ∧ win0_9.index t = ![0, 0] ∧ win0_10.index t = ![0, 0]
    ∧ win0_13.index t = ![0, 0] :=
  (by decide +kernel : ∀ t : Fin grid0.N, _)

variable (m : (ℓ : Loc nD τ sig) → Buf (Elt Ideal) ℓ)

abbrev seqOf (t : Fin cfg0.N) : Fin 4 := ⟨t.val / 32, by have : t.val < 128 := t.isLt; omega⟩
abbrev chunkOf (t : Fin cfg0.N) : Fin 32 := ⟨t.val % 32, by omega⟩
abbrev rowOf (t : Fin cfg0.N) (r : Fin 128) : Fin 16384 := ⟨t.val * 128 + r.val, by have : t.val < 128 := t.isLt; omega⟩

abbrev xbc (c : Dev nD) : FVec Ideal S4x4096x3072 .f32 := m ((c : Thread nD τ).loc main_arg1)

/-- The channels stand in the projected array beside columns this result does not read. -/
theorem columns (c : Dev nD) : V m c main_v6 = concatenate S16384x7168 1
    [⟨S16384x2048, shapeCast S16384x2048 (extractStridedSlice S4x4096x2048 ![0, 0, 0] (m ((c : Thread nD τ).loc main_arg1) : FVec Ideal S4x4096x3072 .f32) slices_S4x4096x3072_S4x4096x2048_0_0_0) shapeCasts_S4x4096x2048_S16384x2048⟩,
     ⟨S16384x2048, shapeCast S16384x2048 (m ((c : Thread nD τ).loc main_arg0) : FVec Ideal S4x4096x2048 .f32) shapeCasts_S4x4096x2048_S16384x2048⟩,
     ⟨S16384x2048, broadcastInDim S16384x2048 ![] bcast_S_S16384x2048 (constant (F := Ideal) S_ .f32 0x00000000#32)⟩,
     ⟨S16384x1024, shapeCast S16384x1024 (extractStridedSlice S4x4096x1024 ![0, 0, 2048] (m ((c : Thread nD τ).loc main_arg1) : FVec Ideal S4x4096x3072 .f32) slices_S4x4096x3072_S4x4096x1024_0_0_2048) shapeCasts_S4x4096x1024_S16384x1024⟩]
    concatenates_S16384x2048_S16384x2048_S16384x2048_S16384x1024_S16384x7168_d1 := rfl

theorem column_lo (p a b : FVec Ideal S16384x2048 .f32) (d : FVec Ideal S16384x1024 .f32) (r : Fin 16384) (k : Fin 2048) :
    concatenate S16384x7168 1 [⟨S16384x2048, p⟩, ⟨S16384x2048, a⟩, ⟨S16384x2048, b⟩, ⟨S16384x1024, d⟩]
      concatenates_S16384x2048_S16384x2048_S16384x2048_S16384x1024_S16384x7168_d1 (ix2 r (⟨k.val, by omega⟩ : Fin 7168)) = p (ix2 r k) := by
  pointwise

theorem column_hi (p a b : FVec Ideal S16384x2048 .f32) (d : FVec Ideal S16384x1024 .f32) (r : Fin 16384) (k : Fin 1024) :
    concatenate S16384x7168 1 [⟨S16384x2048, p⟩, ⟨S16384x2048, a⟩, ⟨S16384x2048, b⟩, ⟨S16384x1024, d⟩]
      concatenates_S16384x2048_S16384x2048_S16384x2048_S16384x1024_S16384x7168_d1 (ix2 r (⟨6144 + k.val, by omega⟩ : Fin 7168)) = d (ix2 r k) := by
  pointwise
  rw [dif_neg (by omega), dif_neg (by omega), dif_neg (by omega)]
  blk_ext

theorem slice_lo (x : FVec Ideal S4x4096x3072 .f32) (t : Fin cfg0.N) (r : Fin 128) (k : Fin 2048) :
    shapeCast S16384x2048 (extractStridedSlice S4x4096x2048 ![0, 0, 0] x slices_S4x4096x3072_S4x4096x2048_0_0_0) shapeCasts_S4x4096x2048_S16384x2048 (ix2 (rowOf t r) k)
      = x (ix3 (seqOf t) (row (chunkOf t) r) ⟨k.val, by omega⟩) := by
  have ht : t.val < 128 := t.isLt
  pointwise
  blk_ext

theorem slice_hi (x : FVec Ideal S4x4096x3072 .f32) (t : Fin cfg0.N) (r : Fin 128) (k : Fin 1024) :
    shapeCast S16384x1024 (extractStridedSlice S4x4096x1024 ![0, 0, 2048] x slices_S4x4096x3072_S4x4096x1024_0_0_2048) shapeCasts_S4x4096x1024_S16384x1024 (ix2 (rowOf t r) k)
      = x (ix3 (seqOf t) (row (chunkOf t) r) ⟨2048 + k.val, by omega⟩) := by
  have ht : t.val < 128 := t.isLt
  pointwise
  blk_ext

theorem rd2 (c : Dev nD) (t : Fin cfg0.N) (r : Fin 128) (k : Fin 512) : iblk m c 2 t (ix2 r k) =
    xbc m c (ix3 (seqOf t) (row (chunkOf t) r) ⟨2048 + k.val, by omega⟩) := by
  have ht : t.val < 128 := t.isLt
  have e : ((cfg0.win 2).blk t).view.emb (ix2 r k) = ix2 (rowOf t r) (⟨6144 + (⟨k.val, by omega⟩ : Fin 1024).val, by simp only; omega⟩ : Fin 7168) := by
    blk_ext [idx t]
  show V m c main_v6 (((cfg0.win 2).blk t).view.emb (ix2 r k)) = _
  refine (congrArg _ e).trans ?_
  rw [columns]
  refine (column_hi _ _ _ _ _ _).trans ?_
  exact slice_hi _ t r ⟨k.val, by omega⟩

theorem rd3 (c : Dev nD) (t : Fin cfg0.N) (r : Fin 128) (k : Fin 512) : iblk m c 3 t (ix2 r k) =
    xbc m c (ix3 (seqOf t) (row (chunkOf t) r) ⟨2560 + k.val, by omega⟩) := by
  have ht : t.val < 128 := t.isLt
  have e : ((cfg0.win 3).blk t).view.emb (ix2 r k) = ix2 (rowOf t r) (⟨6144 + (⟨512 + k.val, by omega⟩ : Fin 1024).val, by simp only; omega⟩ : Fin 7168) := by
    blk_ext [idx t]
  show V m c main_v6 (((cfg0.win 3).blk t).view.emb (ix2 r k)) = _
  refine (congrArg _ e).trans ?_
  rw [columns]
  refine (column_hi _ _ _ _ _ _).trans ?_
  refine (slice_hi _ t r ⟨512 + k.val, by omega⟩).trans ?_
  exact congrArg (fun q => xbc m c (ix3 _ _ q)) (Fin.ext (by simp only; omega))

theorem rd0 (c : Dev nD) (t : Fin cfg0.N) (r : Fin 128) (k : Fin 2048) : (X0_0 m c t : FVec Ideal S128x2048 .f32) (ix2 r k) =
    xbc m c (ix3 (seqOf t) (row (chunkOf t) r) ⟨k.val, by omega⟩) := by
  have ht : t.val < 128 := t.isLt
  refine (dif_pos (moved0_0 t (ix2 r k : S128x2048.Idx))).trans ?_
  show V m c main_v6 (((cfg0.win 0).blk t).view.emb _) = _
  refine Eq.trans (congrArg _ (?_ : _ = (ix2 (rowOf t r) (⟨k.val, by omega⟩ : Fin 7168) : S16384x7168.Idx))) ?_
  · blk_ext [idx t]
  rw [columns]
  refine (column_lo _ _ _ _ _ _).trans ?_
  exact slice_lo _ t r k

theorem columns10 (c : Dev nD) : V m c main_v10 = concatenate S16384x3072 1
    [⟨S16384x2632, broadcastInDim S16384x2632 ![] bcast_S_S16384x2632 (constant (F := Ideal) S_ .f32 0x00000000#32)⟩,
     ⟨S16384x32, shapeCast S16384x32 (m ((c : Thread nD τ).loc main_arg2) : FVec Ideal S4x4096x32 .f32) shapeCasts_S4x4096x32_S16384x32⟩,
     ⟨S16384x408, broadcastInDim S16384x408 ![] bcast_S_S16384x408 (constant (F := Ideal) S_ .f32 0x00000000#32)⟩]
    concatenates_S16384x2632_S16384x32_S16384x408_S16384x3072_d1 := rfl

theorem column_dt (p : FVec Ideal S16384x2632 .f32) (a : FVec Ideal S16384x32 .f32) (d : FVec Ideal S16384x408 .f32) (r : Fin 16384) (h : Fin 32) :
    concatenate S16384x3072 1 [⟨S16384x2632, p⟩, ⟨S16384x32, a⟩, ⟨S16384x408, d⟩]
      concatenates_S16384x2632_S16384x32_S16384x408_S16384x3072_d1 (ix2 r (⟨2632 + h.val, by omega⟩ : Fin 3072)) = a (ix2 r h) := by
  pointwise

theorem cast_dt (x : FVec Ideal S4x4096x32 .f32) (t : Fin cfg0.N) (r : Fin 128) (h : Fin 32) :
    shapeCast S16384x32 x shapeCasts_S4x4096x32_S16384x32 (ix2 (rowOf t r) h) = x (ix3 (seqOf t) (row (chunkOf t) r) h) := by
  have ht : t.val < 128 := t.isLt
  pointwise
  blk_ext

theorem rd4 (c : Dev nD) (t : Fin cfg0.N) (r : Fin 128) (h : Fin 32) : iblk m c 4 t (ix2 r (lane h)) =
    (m ((c : Thread nD τ).loc main_arg2) : FVec Ideal S4x4096x32 .f32) (ix3 (seqOf t) (row (chunkOf t) r) h) := by
  have ht : t.val < 128 := t.isLt
  have e : ((cfg0.win 4).blk t).view.emb (ix2 r (lane h)) = ix2 (rowOf t r) (⟨2632 + h.val, by omega⟩ : Fin 3072) := by
    blk_ext [idx t]
  show V m c main_v10 (((cfg0.win 4).blk t).view.emb (ix2 r (lane h))) = _
  refine (congrArg _ e).trans ?_
  rw [columns10]
  refine (column_dt _ _ _ _ _).trans ?_
  exact cast_dt _ t r h

theorem entry31 (c : Dev nD) : V m c main_v31 = shapeCast S4x3072 (broadcastInDim S1x4x3072 ![1, 2] bcast_S4x3072_S1x4x3072_1_2
    (m ((c : Thread nD τ).loc main_arg3) : FVec Ideal S4x3072 .f32)) shapeCasts_S1x4x3072_S4x3072 := rfl

theorem taps_cast (x : FVec Ideal S4x3072 .f32) (j : Fin 4) (d : Fin 3072) :
    shapeCast S4x3072 (broadcastInDim S1x4x3072 ![1, 2] bcast_S4x3072_S1x4x3072_1_2 x) shapeCasts_S1x4x3072_S4x3072 (ix2 j d) = x (ix2 j d) := by
  pointwise

theorem rd7 (c : Dev nD) (t : Fin cfg0.N) (j : Fin 4) (d : Fin 3072) : iblk m c 7 t (ix2 j d) =
    (m ((c : Thread nD τ).loc main_arg3) : FVec Ideal S4x3072 .f32) (ix2 j d) := by
  have e : ((cfg0.win 7).blk t).view.emb (ix2 j d) = ix2 j d := by
    blk_ext [idx t]
  show V m c main_v31 (((cfg0.win 7).blk t).view.emb (ix2 j d)) = _
  refine (congrArg _ e).trans ?_
  rw [entry31]
  exact taps_cast _ _ _

theorem entry33 (c : Dev nD) : V m c main_v33 = shapeCast S1x3072 (shapeCast S3072 (broadcastInDim S1x3072 ![1] bcast_S3072_S1x3072_1
    (m ((c : Thread nD τ).loc main_arg4) : FVec Ideal S3072 .f32)) shapeCasts_S1x3072_S3072) shapeCasts_S3072_S1x3072 := rfl

theorem bias_cast (x : FVec Ideal S3072 .f32) (d : Fin 3072) :
    shapeCast S1x3072 (shapeCast S3072 (broadcastInDim S1x3072 ![1] bcast_S3072_S1x3072_1 x) shapeCasts_S1x3072_S3072) shapeCasts_S3072_S1x3072 (ix2 0 d) = x (ix1 d) := by
  pointwise

theorem rd8 (c : Dev nD) (t : Fin cfg0.N) (d : Fin 3072) : iblk m c 8 t (ix2 0 d) =
    (m ((c : Thread nD τ).loc main_arg4) : FVec Ideal S3072 .f32) (ix1 d) := by
  have e : ((cfg0.win 8).blk t).view.emb (ix2 (0 : Fin 1) d) = ix2 (0 : Fin 1) d := by
    blk_ext [idx t]
  show V m c main_v33 (((cfg0.win 8).blk t).view.emb (ix2 (0 : Fin 1) d)) = _
  refine (congrArg _ e).trans ?_
  rw [entry33]
  exact bias_cast _ _

theorem entry36 (c : Dev nD) : V m c main_v36 = shapeCast S1x128 (pad S128 ![72] ![24] ![0] (shapeCast S32 (broadcastInDim S1x32 ![1] bcast_S32_S1x32_1 (m ((c : Thread nD τ).loc main_arg5) : FVec Ideal S32 .f32)) shapeCasts_S1x32_S32)
    (sitofp (F := Ideal) .f32 (constantI S_ 32 0#32)) pads_S32_S128_72240 h_S_) shapeCasts_S128_S1x128 := rfl

theorem pad_at (x : FVec Ideal S32 .f32) (z : FVec Ideal S_ .f32) (h : Fin 32) :
    shapeCast S1x128 (pad S128 ![72] ![24] ![0] x z pads_S32_S128_72240 h_S_) shapeCasts_S128_S1x128 (ix2 0 (lane h)) = x (ix1 h) := by
  pointwise

theorem heads_cast (x : FVec Ideal S32 .f32) (h : Fin 32) :
    shapeCast S32 (broadcastInDim S1x32 ![1] bcast_S32_S1x32_1 x) shapeCasts_S1x32_S32 (ix1 h) = x (ix1 h) := by
  pointwise

theorem neg_cast (x : FVec Ideal S32 .f32) (h : Fin 32) :
    Host.negf (Host.exp (shapeCast S32 (broadcastInDim S1x32 ![1] bcast_S32_S1x32_1 x) shapeCasts_S1x32_S32)) (ix1 h) = -Ideal.exp (x (ix1 h)) := by
  pointwise

theorem rd9 (c : Dev nD) (t : Fin cfg0.N) (h : Fin 32) : iblk m c 9 t (ix2 0 (lane h)) =
    (m ((c : Thread nD τ).loc main_arg5) : FVec Ideal S32 .f32) (ix1 h) := by
  have e : ((cfg0.win 9).blk t).view.emb (ix2 (0 : Fin 1) (lane h)) = ix2 (0 : Fin 1) (lane h) := by
    blk_ext [idx t]
  show V m c main_v36 (((cfg0.win 9).blk t).view.emb (ix2 (0 : Fin 1) (lane h))) = _
  refine (congrArg _ e).trans ?_
  rw [entry36]
  exact (pad_at _ _ h).trans (heads_cast _ h)

theorem entry38 (c : Dev nD) : V m c main_v38 = shapeCast S1x128 (pad S128 ![72] ![24] ![0] (Host.negf (Host.exp (shapeCast S32 (broadcastInDim S1x32 ![1] bcast_S32_S1x32_1
    (m ((c : Thread nD τ).loc main_arg6) : FVec Ideal S32 .f32)) shapeCasts_S1x32_S32)))
    (sitofp (F := Ideal) .f32 (constantI S_ 32 0#32)) pads_S32_S128_72240 h_S_) shapeCasts_S128_S1x128 := rfl

theorem rd10 (c : Dev nD) (t : Fin cfg0.N) (h : Fin 32) : (iblk m c 10 t : FVec Ideal S1x128 .f32) (ix2 0 (lane h)) =
    -Ideal.exp ((m ((c : Thread nD τ).loc main_arg6) : FVec Ideal S32 .f32) (ix1 h)) := by
  have e : ((cfg0.win 10).blk t).view.emb (ix2 (0 : Fin 1) (lane h)) = ix2 (0 : Fin 1) (lane h) := by
    blk_ext [idx t]
  show V m c main_v38 (((cfg0.win 10).blk t).view.emb (ix2 (0 : Fin 1) (lane h))) = _
  refine (congrArg _ e).trans ?_
  rw [entry38]
  exact (pad_at _ _ h).trans (neg_cast _ h)

/-- Every channel's head, counted from the first lane of the step sizes. -/
noncomputable def heads : IVec S2048 32 :=
  select (andi (cmpi .ne (signi (iotaInDim S2048 32 0)) (broadcastInDim S2048 ![] bcast_S_S2048 (signi (constantI S_ 32 64#32))))
      (cmpi .ne (Host.remsi (iotaInDim S2048 32 0) (broadcastInDim S2048 ![] bcast_S_S2048 (constantI S_ 32 64#32))) (broadcastInDim S2048 ![] bcast_S_S2048 (constantI S_ 32 0#32))))
    (subi (Host.divsi (iotaInDim S2048 32 0) (broadcastInDim S2048 ![] bcast_S_S2048 (constantI S_ 32 64#32))) (broadcastInDim S2048 ![] bcast_S_S2048 (constantI S_ 32 1#32)))
    (Host.divsi (iotaInDim S2048 32 0) (broadcastInDim S2048 ![] bcast_S_S2048 (constantI S_ 32 64#32)))

noncomputable def lanes : FVec Ideal S128x2048 .bf16 :=
  uitofp (F := Ideal) .bf16 (cmpi .eq (broadcastInDim S128x2048 ![0, 1] bcast_S128x1_S128x2048_0_1 (broadcastInDim S128x1 ![0] bcast_S128_S128x1_0 (iotaInDim S128 32 0)))
    (broadcastInDim S128x2048 ![0, 1] bcast_S1x2048_S128x2048_0_1 (addi (broadcastInDim S1x2048 ![1] bcast_S2048_S1x2048_1 heads) (broadcastInDim S1x2048 ![] bcast_S_S1x2048 (constantI S_ 32 72#32)))))

theorem entry30 (c : Dev nD) : V m c main_v30 = lanes := rfl

theorem heads_at (d : Fin 2048) : heads (ix1 d) = BitVec.ofNat 32 (d.val / 64) := by
  pointwise [heads]
  revert d
  decide +kernel

theorem lane_eq : ∀ (l : Fin 128) (h : Fin 32), IntOp.cmpi CmpIPredicate.eq (BitVec.ofNat 32 l.val) (IntOp.addi (BitVec.ofNat 32 h.val) 72#32)
    = if l = lane h then 1#1 else 0#1 := by
  decide +kernel

theorem lanes_at (l : Fin 128) (d : Fin 2048) : lanes (ix2 l d) = (if l = lane (headOf d) then 1 else 0 : EReal) := by
  pointwise [lanes]
  rw [heads_at]
  have e := lane_eq l (headOf d)
  simp only [headOf] at e ⊢
  rw [e]
  split
  · show (((1#1).toNat : ℝ) : EReal) = 1
    simp
  · show (((0#1).toNat : ℝ) : EReal) = 0
    simp

theorem rd13 (c : Dev nD) (t : Fin cfg0.N) (l : Fin 128) (d : Fin 2048) :
    (iblk m c 13 t : FVec Ideal S128x2048 .bf16) (ix2 l d) = (if l = lane (headOf d) then 1 else 0 : EReal) := by
  have e : ((cfg0.win 13).blk t).view.emb (ix2 l d) = ix2 l d := by
    blk_ext [idx t]
  show V m c main_v30 (((cfg0.win 13).blk t).view.emb (ix2 l d)) = _
  refine (congrArg _ e).trans ?_
  rw [entry30]
  exact lanes_at l d

end Cert.KernelIdeal.Scan
end
-- ==== Proof.ScanCases.lean ====
module

public import proofs.«01_k».proof.Proof.Gen.KernelIdeal.Frame
public import proofs.«01_k».proof.Proof.ScanChunk

@[expose] public section

/-! What each kind of grid point of the scan leaves behind, over its blocks. -/

set_option backward.proofsInPublic true
set_option maxRecDepth 16384

noncomputable section

open Idealize.ShloMosaic Idealize.ShloMosaic.TcCoe Idealize.SL.Sem

namespace Cert.KernelIdeal.Scan
open Cert.KernelIdeal Cert.KernelIdeal.Gen

theorem rowsA (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S1x1x3x3072 .f32) (harg7 : arg7.IsWhole) (arg8 : Memref sig .tc .vmem S1x1x2x64x128 .f32) (harg8 : arg8.IsWhole) (arg9 : Memref sig .tc .vmem S4x3072 .f32) (harg9 : arg9.IsWhole) (arg10 : Memref sig .tc .vmem S1x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S1x32x64x128 .f32) (harg17 : arg17.IsWhole) (arg18 : Memref sig .tc .vmem S136x3072 .f32) (harg18 : arg18.IsWhole) (arg19 : Memref sig .tc .vmem S128x128 .f32) (harg19 : arg19.IsWhole) (arg20 : Memref sig .tc .vmem S128x2048 .f32) (harg20 : arg20.IsWhole) (hc0 : cond0_0 i) (hc1 : ¬cond0_1 i) (hc2 : ¬cond0_2 i)
    (x0 : Vec Ideal S128x2048 .f32) (x1 : Vec Ideal S128x2048 .f32) (x2 : Vec Ideal S128x512 .f32) (x3 : Vec Ideal S128x512 .f32) (x4 : Vec Ideal S128x128 .f32) (x5 : Vec Ideal S1x1x3x3072 .f32) (x6 : Vec Ideal S1x1x2x64x128 .f32) (x7 : Vec Ideal S4x3072 .f32) (x8 : Vec Ideal S1x3072 .f32) (x9 : Vec Ideal S1x128 .f32) (x10 : Vec Ideal S1x128 .f32) (x11 : Vec Ideal S1x2048 .f32) (x12 : Vec Ideal S1x2048 .f32) (x13 : Vec Ideal S128x2048 .bf16) (n : Fin 136) (d : Fin 3072) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 (ix2 n d)
      = View.canon [(⟨Rect.unit ![8, 2560] ![128, 512] inb_S136x3072_S128x512_8_2560, k0_pay60 (F := Ideal) x3⟩ : View.Piece (Elt Ideal) S136x3072 .f32),
      ⟨Rect.unit ![8, 2048] ![128, 512] inb_S136x3072_S128x512_8_2048, k0_pay59 (F := Ideal) x2⟩, ⟨Rect.unit ![8, 0] ![128, 2048] inb_S136x3072_S128x2048_8_0, k0_pay58 (F := Ideal) x0⟩,
      ⟨Rect.unit ![0, 0] ![136, 3072] inb_S136x3072_S136x3072_0_0, k0_pay54 (F := Ideal)⟩] (ix2 n d) := by
  frame_out

theorem stateA (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S1x1x3x3072 .f32) (harg7 : arg7.IsWhole) (arg8 : Memref sig .tc .vmem S1x1x2x64x128 .f32) (harg8 : arg8.IsWhole) (arg9 : Memref sig .tc .vmem S4x3072 .f32) (harg9 : arg9.IsWhole) (arg10 : Memref sig .tc .vmem S1x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S1x32x64x128 .f32) (harg17 : arg17.IsWhole) (arg18 : Memref sig .tc .vmem S136x3072 .f32) (harg18 : arg18.IsWhole) (arg19 : Memref sig .tc .vmem S128x128 .f32) (harg19 : arg19.IsWhole) (arg20 : Memref sig .tc .vmem S128x2048 .f32) (harg20 : arg20.IsWhole) (hc0 : cond0_0 i) (hc1 : ¬cond0_1 i) (hc2 : ¬cond0_2 i)
    (x0 : Vec Ideal S128x2048 .f32) (x1 : Vec Ideal S128x2048 .f32) (x2 : Vec Ideal S128x512 .f32) (x3 : Vec Ideal S128x512 .f32) (x4 : Vec Ideal S128x128 .f32) (x5 : Vec Ideal S1x1x3x3072 .f32) (x6 : Vec Ideal S1x1x2x64x128 .f32) (x7 : Vec Ideal S4x3072 .f32) (x8 : Vec Ideal S1x3072 .f32) (x9 : Vec Ideal S1x128 .f32) (x10 : Vec Ideal S1x128 .f32) (x11 : Vec Ideal S1x2048 .f32) (x12 : Vec Ideal S1x2048 .f32) (x13 : Vec Ideal S128x2048 .bf16) :
    ∃ xe : FVec Ideal S136x3072 .f32, (∀ r k, xe (ix2 r k) = View.canon [(⟨Rect.unit ![8, 2560] ![128, 512] inb_S136x3072_S128x512_8_2560, k0_pay60 (F := Ideal) x3⟩ : View.Piece (Elt Ideal) S136x3072 .f32),
      ⟨Rect.unit ![8, 2048] ![128, 512] inb_S136x3072_S128x512_8_2048, k0_pay59 (F := Ideal) x2⟩, ⟨Rect.unit ![8, 0] ![128, 2048] inb_S136x3072_S128x2048_8_0, k0_pay58 (F := Ideal) x0⟩,
      ⟨Rect.unit ![0, 0] ![136, 3072] inb_S136x3072_S136x3072_0_0, k0_pay54 (F := Ideal)⟩] (ix2 r k))
      ∧ ∀ n d, sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 (ix2 n d)
        = newState (k0_pay63 (F := Ideal) xe (View.ld x7 (Rect.unit ![0, 0] ![1, 3072] inb_S4x3072_S1x3072_0_0)) (View.ld x7 (Rect.unit ![1, 0] ![1, 3072] inb_S4x3072_S1x3072_1_0)) (View.ld x7 (Rect.unit ![2, 0] ![1, 3072] inb_S4x3072_S1x3072_2_0)) (View.ld x7 (Rect.unit ![3, 0] ![1, 3072] inb_S4x3072_S1x3072_3_0)) x8) (k0_pay64 (F := Ideal) xe (View.ld x7 (Rect.unit ![0, 0] ![1, 3072] inb_S4x3072_S1x3072_0_0)) (View.ld x7 (Rect.unit ![1, 0] ![1, 3072] inb_S4x3072_S1x3072_1_0)) (View.ld x7 (Rect.unit ![2, 0] ![1, 3072] inb_S4x3072_S1x3072_2_0)) (View.ld x7 (Rect.unit ![3, 0] ![1, 3072] inb_S4x3072_S1x3072_3_0)) x8) (k0_pay73 (F := Ideal) i1 i0 k0_pay66 (k0_pay61 x4) x9 x10 x13) (dec (k0_pay61 x4) x9 x10 x13) k0_pay56 n d := by
  refine ⟨_, fun r k => xe_eq arg18.view _ r k, fun n d => ?_⟩
  frame_out
  exact new_tiles _ _ _ _ _ _ _ _ _ _ n d

theorem rowsB (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S1x1x3x3072 .f32) (harg7 : arg7.IsWhole) (arg8 : Memref sig .tc .vmem S1x1x2x64x128 .f32) (harg8 : arg8.IsWhole) (arg9 : Memref sig .tc .vmem S4x3072 .f32) (harg9 : arg9.IsWhole) (arg10 : Memref sig .tc .vmem S1x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S1x32x64x128 .f32) (harg17 : arg17.IsWhole) (arg18 : Memref sig .tc .vmem S136x3072 .f32) (harg18 : arg18.IsWhole) (arg19 : Memref sig .tc .vmem S128x128 .f32) (harg19 : arg19.IsWhole) (arg20 : Memref sig .tc .vmem S128x2048 .f32) (harg20 : arg20.IsWhole) (hc0 : ¬cond0_0 i) (hc1 : cond0_1 i) (hc2 : ¬cond0_2 i)
    (x0 : Vec Ideal S128x2048 .f32) (x1 : Vec Ideal S128x2048 .f32) (x2 : Vec Ideal S128x512 .f32) (x3 : Vec Ideal S128x512 .f32) (x4 : Vec Ideal S128x128 .f32) (x5 : Vec Ideal S1x1x3x3072 .f32) (x6 : Vec Ideal S1x1x2x64x128 .f32) (x7 : Vec Ideal S4x3072 .f32) (x8 : Vec Ideal S1x3072 .f32) (x9 : Vec Ideal S1x128 .f32) (x10 : Vec Ideal S1x128 .f32) (x11 : Vec Ideal S1x2048 .f32) (x12 : Vec Ideal S1x2048 .f32) (x13 : Vec Ideal S128x2048 .bf16) (xs0 : Vec Ideal S136x3072 .f32) (xs2 : Vec Ideal S128x2048 .f32) (n : Fin 136) (d : Fin 3072) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0 xs2 (ix2 n d)
      = View.canon [(⟨Rect.unit ![8, 2560] ![128, 512] inb_S136x3072_S128x512_8_2560, k0_pay60 (F := Ideal) x3⟩ : View.Piece (Elt Ideal) S136x3072 .f32),
      ⟨Rect.unit ![8, 2048] ![128, 512] inb_S136x3072_S128x512_8_2048, k0_pay59 (F := Ideal) x2⟩, ⟨Rect.unit ![8, 0] ![128, 2048] inb_S136x3072_S128x2048_8_0, k0_pay58 (F := Ideal) x0⟩,
      ⟨Rect.unit ![0, 0] ![8, 3072] inb_S136x3072_S8x3072_0_0, k0_pay57 (F := Ideal) (View.ld xs0 (Rect.unit ![128, 0] ![8, 3072] inb_S136x3072_S8x3072_128_0))⟩] (ix2 n d) := by
  frame_out

theorem stateB (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S1x1x3x3072 .f32) (harg7 : arg7.IsWhole) (arg8 : Memref sig .tc .vmem S1x1x2x64x128 .f32) (harg8 : arg8.IsWhole) (arg9 : Memref sig .tc .vmem S4x3072 .f32) (harg9 : arg9.IsWhole) (arg10 : Memref sig .tc .vmem S1x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S1x32x64x128 .f32) (harg17 : arg17.IsWhole) (arg18 : Memref sig .tc .vmem S136x3072 .f32) (harg18 : arg18.IsWhole) (arg19 : Memref sig .tc .vmem S128x128 .f32) (harg19 : arg19.IsWhole) (arg20 : Memref sig .tc .vmem S128x2048 .f32) (harg20 : arg20.IsWhole) (hc0 : ¬cond0_0 i) (hc1 : cond0_1 i) (hc2 : ¬cond0_2 i)
    (x0 : Vec Ideal S128x2048 .f32) (x1 : Vec Ideal S128x2048 .f32) (x2 : Vec Ideal S128x512 .f32) (x3 : Vec Ideal S128x512 .f32) (x4 : Vec Ideal S128x128 .f32) (x5 : Vec Ideal S1x1x3x3072 .f32) (x6 : Vec Ideal S1x1x2x64x128 .f32) (x7 : Vec Ideal S4x3072 .f32) (x8 : Vec Ideal S1x3072 .f32) (x9 : Vec Ideal S1x128 .f32) (x10 : Vec Ideal S1x128 .f32) (x11 : Vec Ideal S1x2048 .f32) (x12 : Vec Ideal S1x2048 .f32) (x13 : Vec Ideal S128x2048 .bf16) (xs0 : Vec Ideal S136x3072 .f32) (xs2 : Vec Ideal S128x2048 .f32) :
    ∃ xe : FVec Ideal S136x3072 .f32, (∀ r k, xe (ix2 r k) = View.canon [(⟨Rect.unit ![8, 2560] ![128, 512] inb_S136x3072_S128x512_8_2560, k0_pay60 (F := Ideal) x3⟩ : View.Piece (Elt Ideal) S136x3072 .f32),
      ⟨Rect.unit ![8, 2048] ![128, 512] inb_S136x3072_S128x512_8_2048, k0_pay59 (F := Ideal) x2⟩, ⟨Rect.unit ![8, 0] ![128, 2048] inb_S136x3072_S128x2048_8_0, k0_pay58 (F := Ideal) x0⟩,
      ⟨Rect.unit ![0, 0] ![8, 3072] inb_S136x3072_S8x3072_0_0, k0_pay57 (F := Ideal) (View.ld xs0 (Rect.unit ![128, 0] ![8, 3072] inb_S136x3072_S8x3072_128_0))⟩] (ix2 r k))
      ∧ ∀ n d, sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0 xs2 (ix2 n d)
        = newState (k0_pay63 (F := Ideal) xe (View.ld x7 (Rect.unit ![0, 0] ![1, 3072] inb_S4x3072_S1x3072_0_0)) (View.ld x7 (Rect.unit ![1, 0] ![1, 3072] inb_S4x3072_S1x3072_1_0)) (View.ld x7 (Rect.unit ![2, 0] ![1, 3072] inb_S4x3072_S1x3072_2_0)) (View.ld x7 (Rect.unit ![3, 0] ![1, 3072] inb_S4x3072_S1x3072_3_0)) x8) (k0_pay64 (F := Ideal) xe (View.ld x7 (Rect.unit ![0, 0] ![1, 3072] inb_S4x3072_S1x3072_0_0)) (View.ld x7 (Rect.unit ![1, 0] ![1, 3072] inb_S4x3072_S1x3072_1_0)) (View.ld x7 (Rect.unit ![2, 0] ![1, 3072] inb_S4x3072_S1x3072_2_0)) (View.ld x7 (Rect.unit ![3, 0] ![1, 3072] inb_S4x3072_S1x3072_3_0)) x8) (k0_pay73 (F := Ideal) i1 i0 k0_pay66 (k0_pay61 x4) x9 x10 x13) (dec (k0_pay61 x4) x9 x10 x13) xs2 n d := by
  refine ⟨_, fun r k => xe_eq arg18.view _ r k, fun n d => ?_⟩
  frame_out
  exact new_tiles _ _ _ _ _ _ _ _ _ _ n d

theorem rowsC (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S1x1x3x3072 .f32) (harg7 : arg7.IsWhole) (arg8 : Memref sig .tc .vmem S1x1x2x64x128 .f32) (harg8 : arg8.IsWhole) (arg9 : Memref sig .tc .vmem S4x3072 .f32) (harg9 : arg9.IsWhole) (arg10 : Memref sig .tc .vmem S1x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S1x32x64x128 .f32) (harg17 : arg17.IsWhole) (arg18 : Memref sig .tc .vmem S136x3072 .f32) (harg18 : arg18.IsWhole) (arg19 : Memref sig .tc .vmem S128x128 .f32) (harg19 : arg19.IsWhole) (arg20 : Memref sig .tc .vmem S128x2048 .f32) (harg20 : arg20.IsWhole) (hc0 : ¬cond0_0 i) (hc1 : cond0_1 i) (hc2 : cond0_2 i)
    (x0 : Vec Ideal S128x2048 .f32) (x1 : Vec Ideal S128x2048 .f32) (x2 : Vec Ideal S128x512 .f32) (x3 : Vec Ideal S128x512 .f32) (x4 : Vec Ideal S128x128 .f32) (x5 : Vec Ideal S1x1x3x3072 .f32) (x6 : Vec Ideal S1x1x2x64x128 .f32) (x7 : Vec Ideal S4x3072 .f32) (x8 : Vec Ideal S1x3072 .f32) (x9 : Vec Ideal S1x128 .f32) (x10 : Vec Ideal S1x128 .f32) (x11 : Vec Ideal S1x2048 .f32) (x12 : Vec Ideal S1x2048 .f32) (x13 : Vec Ideal S128x2048 .bf16) (xs0 : Vec Ideal S136x3072 .f32) (xs2 : Vec Ideal S128x2048 .f32) (n : Fin 136) (d : Fin 3072) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0 xs2 (ix2 n d)
      = View.canon [(⟨Rect.unit ![8, 2560] ![128, 512] inb_S136x3072_S128x512_8_2560, k0_pay60 (F := Ideal) x3⟩ : View.Piece (Elt Ideal) S136x3072 .f32),
      ⟨Rect.unit ![8, 2048] ![128, 512] inb_S136x3072_S128x512_8_2048, k0_pay59 (F := Ideal) x2⟩, ⟨Rect.unit ![8, 0] ![128, 2048] inb_S136x3072_S128x2048_8_0, k0_pay58 (F := Ideal) x0⟩,
      ⟨Rect.unit ![0, 0] ![8, 3072] inb_S136x3072_S8x3072_0_0, k0_pay57 (F := Ideal) (View.ld xs0 (Rect.unit ![128, 0] ![8, 3072] inb_S136x3072_S8x3072_128_0))⟩] (ix2 n d) := by
  frame_out

theorem stateC (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S1x1x3x3072 .f32) (harg7 : arg7.IsWhole) (arg8 : Memref sig .tc .vmem S1x1x2x64x128 .f32) (harg8 : arg8.IsWhole) (arg9 : Memref sig .tc .vmem S4x3072 .f32) (harg9 : arg9.IsWhole) (arg10 : Memref sig .tc .vmem S1x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S1x32x64x128 .f32) (harg17 : arg17.IsWhole) (arg18 : Memref sig .tc .vmem S136x3072 .f32) (harg18 : arg18.IsWhole) (arg19 : Memref sig .tc .vmem S128x128 .f32) (harg19 : arg19.IsWhole) (arg20 : Memref sig .tc .vmem S128x2048 .f32) (harg20 : arg20.IsWhole) (hc0 : ¬cond0_0 i) (hc1 : cond0_1 i) (hc2 : cond0_2 i)
    (x0 : Vec Ideal S128x2048 .f32) (x1 : Vec Ideal S128x2048 .f32) (x2 : Vec Ideal S128x512 .f32) (x3 : Vec Ideal S128x512 .f32) (x4 : Vec Ideal S128x128 .f32) (x5 : Vec Ideal S1x1x3x3072 .f32) (x6 : Vec Ideal S1x1x2x64x128 .f32) (x7 : Vec Ideal S4x3072 .f32) (x8 : Vec Ideal S1x3072 .f32) (x9 : Vec Ideal S1x128 .f32) (x10 : Vec Ideal S1x128 .f32) (x11 : Vec Ideal S1x2048 .f32) (x12 : Vec Ideal S1x2048 .f32) (x13 : Vec Ideal S128x2048 .bf16) (xs0 : Vec Ideal S136x3072 .f32) (xs2 : Vec Ideal S128x2048 .f32) :
    ∃ xe : FVec Ideal S136x3072 .f32, (∀ r k, xe (ix2 r k) = View.canon [(⟨Rect.unit ![8, 2560] ![128, 512] inb_S136x3072_S128x512_8_2560, k0_pay60 (F := Ideal) x3⟩ : View.Piece (Elt Ideal) S136x3072 .f32),
      ⟨Rect.unit ![8, 2048] ![128, 512] inb_S136x3072_S128x512_8_2048, k0_pay59 (F := Ideal) x2⟩, ⟨Rect.unit ![8, 0] ![128, 2048] inb_S136x3072_S128x2048_8_0, k0_pay58 (F := Ideal) x0⟩,
      ⟨Rect.unit ![0, 0] ![8, 3072] inb_S136x3072_S8x3072_0_0, k0_pay57 (F := Ideal) (View.ld xs0 (Rect.unit ![128, 0] ![8, 3072] inb_S136x3072_S8x3072_128_0))⟩] (ix2 r k))
      ∧ ∀ n d, sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0 xs2 (ix2 n d)
        = newState (k0_pay63 (F := Ideal) xe (View.ld x7 (Rect.unit ![0, 0] ![1, 3072] inb_S4x3072_S1x3072_0_0)) (View.ld x7 (Rect.unit ![1, 0] ![1, 3072] inb_S4x3072_S1x3072_1_0)) (View.ld x7 (Rect.unit ![2, 0] ![1, 3072] inb_S4x3072_S1x3072_2_0)) (View.ld x7 (Rect.unit ![3, 0] ![1, 3072] inb_S4x3072_S1x3072_3_0)) x8) (k0_pay64 (F := Ideal) xe (View.ld x7 (Rect.unit ![0, 0] ![1, 3072] inb_S4x3072_S1x3072_0_0)) (View.ld x7 (Rect.unit ![1, 0] ![1, 3072] inb_S4x3072_S1x3072_1_0)) (View.ld x7 (Rect.unit ![2, 0] ![1, 3072] inb_S4x3072_S1x3072_2_0)) (View.ld x7 (Rect.unit ![3, 0] ![1, 3072] inb_S4x3072_S1x3072_3_0)) x8) (k0_pay73 (F := Ideal) i1 i0 k0_pay66 (k0_pay61 x4) x9 x10 x13) (dec (k0_pay61 x4) x9 x10 x13) xs2 n d := by
  refine ⟨_, fun r k => xe_eq arg18.view _ r k, fun n d => ?_⟩
  frame_out
  exact new_tiles _ _ _ _ _ _ _ _ _ _ n d

end Cert.KernelIdeal.Scan
end
-- ==== Proof.ScanLast.lean ====
module

public import proofs.«01_k».proof.Proof.Gen.KernelIdeal.Frame
public import proofs.«01_k».proof.Proof.ScanCases

@[expose] public section

/-! What each kind of grid point of the scan leaves behind, over its blocks. -/

set_option backward.proofsInPublic true
set_option maxRecDepth 16384

noncomputable section

open Idealize.ShloMosaic Idealize.ShloMosaic.TcCoe Idealize.SL.Sem

namespace Cert.KernelIdeal.Scan
open Cert.KernelIdeal Cert.KernelIdeal.Gen

theorem out_step (o : ℕ) (inb : ∀ x, (![0, o, 0, 0] : Fin 4 → ℕ) x + (S1x1x64x128.size) x ≤ (S1x32x64x128).size x)
    (w : FVec Ideal S1x1x64x128 .f32) (L : List (View.Piece (Elt Ideal) S1x32x64x128 .f32)) (f : ℕ → Fin 64 → Fin 128 → EReal)
    (hw : ∀ p n, w (ix4 0 0 p n) = f o p n)
    (hL : ∀ h : Fin 32, h.val < o → ∀ p n, View.canon L (ix4 0 h p n) = f h.val p n) :
    ∀ h : Fin 32, h.val < o + 1 → ∀ p n,
      View.canon ((⟨Rect.unit (s := S1x32x64x128) ![0, o, 0, 0] S1x1x64x128.size inb, w⟩ : View.Piece (Elt Ideal) S1x32x64x128 .f32) :: L) (ix4 0 h p n) = f h.val p n := by
  intro h hh p n
  by_cases c : h.val < o
  · exact (View.canon_cons_of_not_mem _ _ (Rect.not_mem_set_of_axis _ _ (1 : Fin 4) o 1 rfl rfl rfl (Or.inl c))).trans (hL h c p n)
  · have ho : h.val = o := by omega
    have e : (Rect.unit (s := S1x32x64x128) ![0, o, 0, 0] S1x1x64x128.size inb).emb (ix4 0 0 p n : S1x1x64x128.Idx) = (ix4 0 h p n : S1x32x64x128.Idx) := by
      refine Rect.emb_eq_of_coords _ _ _ fun x => ?_
      match x with
      | 0 => rfl
      | 1 => show h.val = o + 1 * 0; omega
      | 2 => show p.val = 0 + 1 * p.val; omega
      | 3 => show n.val = 0 + 1 * n.val; omega
    rw [← e, ho, ← hw p n]
    exact View.canon_cons_emb (Rect.unit (s := S1x32x64x128) ![0, o, 0, 0] S1x1x64x128.size inb) w L (ix4 0 0 p n : S1x1x64x128.Idx)

theorem even_at (v : Vec Ideal S128x128 .f32) (p : Fin 64) (n : Fin 128) : k0_pay13 (F := Ideal) v (ix4 0 0 p n) = v (ix2 n ⟨p.val, by omega⟩) := by
  pointwise [k0_pay13, k0_pay12]

theorem odd_at (v : Vec Ideal S128x128 .f32) (p : Fin 64) (n : Fin 128) : k0_pay14 (F := Ideal) v (ix4 0 0 p n) = v (ix2 n ⟨64 + p.val, by omega⟩) := by
  pointwise [k0_pay14, k0_pay12]

/-- What the read of two heads' columns of the state holds. -/
theorem read_at {sig : RefSig} {κ : Kind} {sp : Space} (v : View sig κ sp S128x2048 .f32) (L : List (View.Piece (Elt Ideal) S128x2048 .f32)) (o : ℕ)
    (inb : ∀ x, (![0, o] : Fin 2 → ℕ) x + (![128, 128] : Fin 2 → ℕ) x ≤ S128x2048.size x) (n : Fin 128) (d : Fin 128) (k : Fin 2048) (hk : k.val = o + d.val) :
    (v.readCov (Val := Elt Ideal) L (Rect.unit (s := S128x2048) ![0, o] ![128, 128] inb).toLoadRect : FVec Ideal S128x128 .f32) (ix2 n d) = View.canon L (ix2 n k) := by
  rw [View.readCov_eq_canon']
  refine congrArg (View.canon L) (funext fun a => Fin.ext ?_)
  match a with
  | 0 => show 0 + 1 * n.val = n.val; omega
  | 1 => show o + 1 * d.val = k.val; omega

/-- The state's value at a head's place, by the head's number. -/
def stateOf (L : List (View.Piece (Elt Ideal) S128x2048 .f32)) (h : ℕ) (p : Fin 64) (n : Fin 128) : EReal :=
  if hh : h < 32 then (View.canon L (ix2 n (⟨h * 64 + p.val, by omega⟩ : Fin 2048)) : EReal) else 0

theorem even_head {sig : RefSig} {κ : Kind} {sp : Space} (v : View sig κ sp S128x2048 .f32) (L : List (View.Piece (Elt Ideal) S128x2048 .f32)) (h o : ℕ) (hh : h < 32) (ho : o = h * 64)
    (inb : ∀ x, (![0, o] : Fin 2 → ℕ) x + (![128, 128] : Fin 2 → ℕ) x ≤ S128x2048.size x) (p : Fin 64) (n : Fin 128) :
    k0_pay13 (F := Ideal) (v.readCov (Val := Elt Ideal) L (Rect.unit (s := S128x2048) ![0, o] ![128, 128] inb).toLoadRect) (ix4 0 0 p n) = stateOf L h p n := by
  subst ho
  rw [even_at, stateOf, dif_pos hh]
  exact read_at v L _ inb n _ _ rfl

theorem odd_head {sig : RefSig} {κ : Kind} {sp : Space} (v : View sig κ sp S128x2048 .f32) (L : List (View.Piece (Elt Ideal) S128x2048 .f32)) (h o : ℕ) (hh : h < 32) (ho : o + 64 = h * 64)
    (inb : ∀ x, (![0, o] : Fin 2 → ℕ) x + (![128, 128] : Fin 2 → ℕ) x ≤ S128x2048.size x) (p : Fin 64) (n : Fin 128) :
    k0_pay14 (F := Ideal) (v.readCov (Val := Elt Ideal) L (Rect.unit (s := S128x2048) ![0, o] ![128, 128] inb).toLoadRect) (ix4 0 0 p n) = stateOf L h p n := by
  rw [odd_at, stateOf, dif_pos hh]
  exact read_at v L _ inb n _ _ (by simp only; omega)

theorem lastC (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S1x1x3x3072 .f32) (harg7 : arg7.IsWhole) (arg8 : Memref sig .tc .vmem S1x1x2x64x128 .f32) (harg8 : arg8.IsWhole) (arg9 : Memref sig .tc .vmem S4x3072 .f32) (harg9 : arg9.IsWhole) (arg10 : Memref sig .tc .vmem S1x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S1x32x64x128 .f32) (harg17 : arg17.IsWhole) (arg18 : Memref sig .tc .vmem S136x3072 .f32) (harg18 : arg18.IsWhole) (arg19 : Memref sig .tc .vmem S128x128 .f32) (harg19 : arg19.IsWhole) (arg20 : Memref sig .tc .vmem S128x2048 .f32) (harg20 : arg20.IsWhole) (hc0 : ¬cond0_0 i) (hc1 : cond0_1 i) (hc2 : cond0_2 i)
    (x0 : Vec Ideal S128x2048 .f32) (x1 : Vec Ideal S128x2048 .f32) (x2 : Vec Ideal S128x512 .f32) (x3 : Vec Ideal S128x512 .f32) (x4 : Vec Ideal S128x128 .f32) (x5 : Vec Ideal S1x1x3x3072 .f32) (x6 : Vec Ideal S1x1x2x64x128 .f32) (x7 : Vec Ideal S4x3072 .f32) (x8 : Vec Ideal S1x3072 .f32) (x9 : Vec Ideal S1x128 .f32) (x10 : Vec Ideal S1x128 .f32) (x11 : Vec Ideal S1x2048 .f32) (x12 : Vec Ideal S1x2048 .f32) (x13 : Vec Ideal S128x2048 .bf16) (xs0 : Vec Ideal S136x3072 .f32) (xs2 : Vec Ideal S128x2048 .f32) (h : Fin 32) (p : Fin 64) (n : Fin 128) :
    out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0 xs2 (ix4 0 h p n) = sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0 xs2 (ix2 n ⟨h.val * 64 + p.val, by omega⟩) := by
  unfold out0_C_15 sout0_C_2
  frame_out
  generalize hL : ([_, _, _, _] : List (View.Piece (Elt Ideal) S128x2048 .f32)) = L
  refine ((out_step 31 _ _ _ _ (fun p n => odd_head _ L 31 1920 (by decide) rfl _ p n)
    (out_step 30 _ _ _ _ (fun p n => even_head _ L 30 1920 (by decide) rfl _ p n)
    (out_step 29 _ _ _ _ (fun p n => odd_head _ L 29 1792 (by decide) rfl _ p n)
    (out_step 28 _ _ _ _ (fun p n => even_head _ L 28 1792 (by decide) rfl _ p n)
    (out_step 27 _ _ _ _ (fun p n => odd_head _ L 27 1664 (by decide) rfl _ p n)
    (out_step 26 _ _ _ _ (fun p n => even_head _ L 26 1664 (by decide) rfl _ p n)
    (out_step 25 _ _ _ _ (fun p n => odd_head _ L 25 1536 (by decide) rfl _ p n)
    (out_step 24 _ _ _ _ (fun p n => even_head _ L 24 1536 (by decide) rfl _ p n)
    (out_step 23 _ _ _ _ (fun p n => odd_head _ L 23 1408 (by decide) rfl _ p n)
    (out_step 22 _ _ _ _ (fun p n => even_head _ L 22 1408 (by decide) rfl _ p n)
    (out_step 21 _ _ _ _ (fun p n => odd_head _ L 21 1280 (by decide) rfl _ p n)
    (out_step 20 _ _ _ _ (fun p n => even_head _ L 20 1280 (by decide) rfl _ p n)
    (out_step 19 _ _ _ _ (fun p n => odd_head _ L 19 1152 (by decide) rfl _ p n)
    (out_step 18 _ _ _ _ (fun p n => even_head _ L 18 1152 (by decide) rfl _ p n)
    (out_step 17 _ _ _ _ (fun p n => odd_head _ L 17 1024 (by decide) rfl _ p n)
    (out_step 16 _ _ _ _ (fun p n => even_head _ L 16 1024 (by decide) rfl _ p n)
    (out_step 15 _ _ _ _ (fun p n => odd_head _ L 15 896 (by decide) rfl _ p n)
    (out_step 14 _ _ _ _ (fun p n => even_head _ L 14 896 (by decide) rfl _ p n)
    (out_step 13 _ _ _ _ (fun p n => odd_head _ L 13 768 (by decide) rfl _ p n)
    (out_step 12 _ _ _ _ (fun p n => even_head _ L 12 768 (by decide) rfl _ p n)
    (out_step 11 _ _ _ _ (fun p n => odd_head _ L 11 640 (by decide) rfl _ p n)
    (out_step 10 _ _ _ _ (fun p n => even_head _ L 10 640 (by decide) rfl _ p n)
    (out_step 9 _ _ _ _ (fun p n => odd_head _ L 9 512 (by decide) rfl _ p n)
    (out_step 8 _ _ _ _ (fun p n => even_head _ L 8 512 (by decide) rfl _ p n)
    (out_step 7 _ _ _ _ (fun p n => odd_head _ L 7 384 (by decide) rfl _ p n)
    (out_step 6 _ _ _ _ (fun p n => even_head _ L 6 384 (by decide) rfl _ p n)
    (out_step 5 _ _ _ _ (fun p n => odd_head _ L 5 256 (by decide) rfl _ p n)
    (out_step 4 _ _ _ _ (fun p n => even_head _ L 4 256 (by decide) rfl _ p n)
    (out_step 3 _ _ _ _ (fun p n => odd_head _ L 3 128 (by decide) rfl _ p n)
    (out_step 2 _ _ _ _ (fun p n => even_head _ L 2 128 (by decide) rfl _ p n)
    (out_step 1 _ _ _ _ (fun p n => odd_head _ L 1 0 (by decide) rfl _ p n)
    (out_step 0 _ _ _ _ (fun p n => even_head _ L 0 0 (by decide) rfl _ p n)
    (fun _ hq => absurd hq (Nat.not_lt_zero _)))))))))))))))))))))))))))))))))) h h.isLt p n).trans ?_
  rw [stateOf, dif_pos h.isLt]

end Cert.KernelIdeal.Scan
end
-- ==== Proof.Scan.lean ====
module

public import proofs.«01_k».proof.Proof.Gen.KernelIdeal.Value
public import proofs.«01_k».proof.Proof.ScanReads
public import proofs.«01_k».proof.Proof.ScanLast

@[expose] public section

/-! The scan over its chunks: after every chunk the state is the recurrence's, and the last one is written out. -/

set_option backward.proofsInPublic true
set_option maxRecDepth 16384

noncomputable section

open Idealize.ShloMosaic Idealize.ShloMosaic.TcCoe Idealize.SL.Sem
open Cert.Layer

namespace Cert.KernelIdeal.Scan
open Cert.KernelIdeal Cert.KernelIdeal.Gen Cert.KernelIdeal.Value

theorem step_pure (xe : FVec Ideal S136x3072 .f32) (x4 : FVec Ideal S128x128 .f32) (x7 : Vec Ideal S4x3072 .f32) (x8 : FVec Ideal S1x3072 .f32) (x9 x10 : FVec Ideal S1x128 .f32)
    (x13 : FVec Ideal S128x2048 .bf16) (v : FVec Ideal S128x2048 .f32)
    (X : Fin 4096 → Fin 3072 → EReal) (W : Fin 4 → Fin 3072 → EReal) (B : Fin 3072 → EReal)
    (D : Fin 4096 → Fin 32 → EReal) (DB A : Fin 32 → EReal) (k : Fin 32)
    (hxe : ∀ (i : Fin 131) (d : Fin 3072), xe (ix2 ⟨5 + i.val, by omega⟩ d) = padded X (k.val * 128 + i.val) d)
    (h7 : ∀ j d, x7 (ix2 j d) = W j d) (h8 : ∀ d, x8 (ix2 0 d) = B d)
    (h4 : ∀ r h, x4 (ix2 r (lane h)) = D (row k r) h) (h9 : ∀ h, x9 (ix2 0 (lane h)) = DB h) (h10 : ∀ h, x10 (ix2 0 (lane h)) = -Ideal.exp (A h))
    (h13 : ∀ (l : Fin 128) (d : Fin 2048), x13 (ix2 l d) = if l = lane (headOf d) then 1 else 0)
    (hv : ∀ n d, v (ix2 n d) = stateAt (convAt X W B) (stepAt D DB) A (headOf d) (placeOf d) n k.val)
    (n : Fin 128) (d : Fin 2048) :
    newState (k0_pay63 (F := Ideal) xe (View.ld x7 (Rect.unit ![0, 0] ![1, 3072] inb_S4x3072_S1x3072_0_0)) (View.ld x7 (Rect.unit ![1, 0] ![1, 3072] inb_S4x3072_S1x3072_1_0)) (View.ld x7 (Rect.unit ![2, 0] ![1, 3072] inb_S4x3072_S1x3072_2_0)) (View.ld x7 (Rect.unit ![3, 0] ![1, 3072] inb_S4x3072_S1x3072_3_0)) x8) (k0_pay64 (F := Ideal) xe (View.ld x7 (Rect.unit ![0, 0] ![1, 3072] inb_S4x3072_S1x3072_0_0)) (View.ld x7 (Rect.unit ![1, 0] ![1, 3072] inb_S4x3072_S1x3072_1_0)) (View.ld x7 (Rect.unit ![2, 0] ![1, 3072] inb_S4x3072_S1x3072_2_0)) (View.ld x7 (Rect.unit ![3, 0] ![1, 3072] inb_S4x3072_S1x3072_3_0)) x8) (k0_pay73 (F := Ideal) i1 i0 k0_pay66 (k0_pay61 (F := Ideal) x4) x9 x10 x13) (dec (k0_pay61 (F := Ideal) x4) x9 x10 x13) v n d
      = stateAt (convAt X W B) (stepAt D DB) A (headOf d) (placeOf d) n (k.val + 1) := by
  rw [stateAt_succ, ← hv]
  exact new_state xe _ _ _ _ x8 (k0_pay61 (F := Ideal) x4) x9 x10 x13 v X W B D DB A k hxe (fun d => ((tap_at x7 d).1).trans (h7 0 d)) (fun d => ((tap_at x7 d).2.1).trans (h7 1 d))
    (fun d => ((tap_at x7 d).2.2.1).trans (h7 2 d)) (fun d => ((tap_at x7 d).2.2.2).trans (h7 3 d)) h8
    (fun r h => (pay61_at _ _ _).trans (h4 r h)) h9 h10 h13 n d

variable (m : (ℓ : Loc nD τ sig) → Buf (Elt Ideal) ℓ)

/-- The recurrence's operands, of one sequence. -/
abbrev xs (c : Dev nD) (b : Fin 4) : Fin 4096 → Fin 3072 → EReal := fun r d => xbc m c (ix3 b r d)
abbrev ws (c : Dev nD) : Fin 4 → Fin 3072 → EReal := fun j d => (m ((c : Thread nD τ).loc main_arg3) : FVec Ideal S4x3072 .f32) (ix2 j d)
abbrev bs (c : Dev nD) : Fin 3072 → EReal := fun d => (m ((c : Thread nD τ).loc main_arg4) : FVec Ideal S3072 .f32) (ix1 d)
abbrev ds (c : Dev nD) (b : Fin 4) : Fin 4096 → Fin 32 → EReal := fun r h => (m ((c : Thread nD τ).loc main_arg2) : FVec Ideal S4x4096x32 .f32) (ix3 b r h)
abbrev dbs (c : Dev nD) : Fin 32 → EReal := fun h => (m ((c : Thread nD τ).loc main_arg5) : FVec Ideal S32 .f32) (ix1 h)
abbrev als (c : Dev nD) : Fin 32 → EReal := fun h => (m ((c : Thread nD τ).loc main_arg6) : FVec Ideal S32 .f32) (ix1 h)
abbrev want (c : Dev nD) (b : Fin 4) (h : Fin 32) (p : Fin 64) (n : Fin 128) (k : ℕ) : EReal :=
  stateAt (convAt (xs m c b) (ws m c) (bs m c)) (stepAt (ds m c b) (dbs m c)) (als m c) h p n k

/-- The convolution's buffer and the state after a chunk. -/
def Inv (c : Dev nD) (t : Fin cfg0.N) : Prop :=
  (∀ (i : Fin 131) (d : Fin 3072), ((outsAt0 m c t.val t.isLt).2.2.1 : FVec Ideal S136x3072 .f32) (ix2 ⟨5 + i.val, by omega⟩ d) = padded (xs m c (seqOf t)) ((chunkOf t).val * 128 + i.val) d)
  ∧ ∀ (n : Fin 128) (d : Fin 2048), ((outsAt0 m c t.val t.isLt).2.2.2 : FVec Ideal S128x2048 .f32) (ix2 n d) = want m c (seqOf t) (headOf d) (placeOf d) n ((chunkOf t).val + 1)

/-! What a point of each kind leaves, by name. -/

theorem leftAr (c : Dev nD) (t : Fin cfg0.N) (h0 : t.val % 32 = 0) (h1 : ¬1 ≤ t.val % 32) (h2 : ¬t.val % 32 = 31) :
    (outsAt0 m c t.val t.isLt).2.2.1 = sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h0 h1 h2]

theorem leftAs (c : Dev nD) (t : Fin cfg0.N) (h0 : t.val % 32 = 0) (h1 : ¬1 ≤ t.val % 32) (h2 : ¬t.val % 32 = 31) :
    (outsAt0 m c t.val t.isLt).2.2.2 = sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h0 h1 h2]

theorem leftBr (c : Dev nD) (t : Fin cfg0.N) (h0 : ¬t.val % 32 = 0) (h1 : 1 ≤ t.val % 32) (h2 : ¬t.val % 32 = 31) :
    (outsAt0 m c t.val t.isLt).2.2.1 = sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1 h2]

theorem leftBs (c : Dev nD) (t : Fin cfg0.N) (h0 : ¬t.val % 32 = 0) (h1 : 1 ≤ t.val % 32) (h2 : ¬t.val % 32 = 31) :
    (outsAt0 m c t.val t.isLt).2.2.2 = sout0_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1 h2]

theorem leftCr (c : Dev nD) (t : Fin cfg0.N) (h0 : ¬t.val % 32 = 0) (h1 : 1 ≤ t.val % 32) (h2 : t.val % 32 = 31) :
    (outsAt0 m c t.val t.isLt).2.2.1 = sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) ((hcond0_2 t).mpr h2) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1 h2]

theorem leftCs (c : Dev nD) (t : Fin cfg0.N) (h0 : ¬t.val % 32 = 0) (h1 : 1 ≤ t.val % 32) (h2 : t.val % 32 = 31) :
    (outsAt0 m c t.val t.isLt).2.2.2 = sout0_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) ((hcond0_2 t).mpr h2) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1 h2]

theorem leftCo (c : Dev nD) (t : Fin cfg0.N) (h0 : ¬t.val % 32 = 0) (h1 : 1 ≤ t.val % 32) (h2 : t.val % 32 = 31) :
    (outsAt0 m c t.val t.isLt).2.1 = out0_C_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) ((hcond0_2 t).mpr h2) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1 h2]

set_option maxHeartbeats 400000 in
theorem invA (c : Dev nD) (t : Fin cfg0.N) (h0 : t.val % 32 = 0) (h1 : ¬1 ≤ t.val % 32) (h2 : ¬t.val % 32 = 31) : Inv m c t := by
  have rows := fun (i : Fin 131) (d : Fin 3072) => rows_first _ _ _ (xs m c (seqOf t)) (chunkOf t) (rd0 m c t) (rd2 m c t) (rd3 m c t) h0 i d
  refine ⟨fun i d => ?_, fun n d => ?_⟩
  · have e1 := leftAr m c t h0 h1 h2
    exact (congrFun e1 _).trans ((rowsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ d).trans (rows i d))
  · have e2 := leftAs m c t h0 h1 h2
    refine (congrFun e2 (ix2 n d)).trans ?_
    obtain ⟨xe, hxe, hst⟩ := stateA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    refine (hst n d).trans ?_
    exact step_pure xe _ _ _ _ _ _ _ (xs m c (seqOf t)) (ws m c) (bs m c) (ds m c (seqOf t)) (dbs m c) (als m c) (chunkOf t)
      (fun i d => (hxe _ d).trans (rows i d)) (rd7 m c t) (rd8 m c t) (rd4 m c t) (rd9 m c t) (rd10 m c t) (rd13 m c t)
      (fun n d => by rw [zero56, show (chunkOf t).val = 0 from h0]; rfl) n d

set_option maxHeartbeats 400000 in
theorem invB (c : Dev nD) (t : Fin cfg0.N) (h0 : ¬t.val % 32 = 0) (h1 : 1 ≤ t.val % 32) (h2 : ¬t.val % 32 = 31) (u : Fin cfg0.N) (hut : t.val = u.val + 1) (hu : Inv m c u) : Inv m c t := by
  have ht : t.val < 128 := t.isLt
  have hk : (chunkOf t).val = (chunkOf u).val + 1 := by show t.val % 32 = u.val % 32 + 1; omega
  have hs : seqOf t = seqOf u := Fin.ext (by show t.val / 32 = u.val / 32; omega)
  obtain ⟨hP, hV⟩ := hu
  obtain ⟨un, hun⟩ := u
  obtain rfl : un = t.val - 1 := by simp only at hut; omega
  rw [← hs] at hP hV
  have rows := fun (i : Fin 131) (d : Fin 3072) => rows_next _ _ _ (xs m c (seqOf t)) (chunkOf t) (rd0 m c t) (rd2 m c t) (rd3 m c t) _ _ hk hP i d
  refine ⟨fun i d => ?_, fun n d => ?_⟩
  · have e1 := leftBr m c t h0 h1 h2
    exact (congrFun e1 _).trans ((rowsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2 _ d).trans (rows i d))
  · have e2 := leftBs m c t h0 h1 h2
    refine (congrFun e2 (ix2 n d)).trans ?_
    obtain ⟨xe, hxe, hst⟩ := stateB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2
    refine (hst n d).trans ?_
    exact step_pure xe _ _ _ _ _ _ _ (xs m c (seqOf t)) (ws m c) (bs m c) (ds m c (seqOf t)) (dbs m c) (als m c) (chunkOf t)
      (fun i d => (hxe _ d).trans (rows i d)) (rd7 m c t) (rd8 m c t) (rd4 m c t) (rd9 m c t) (rd10 m c t) (rd13 m c t)
      (fun n d => (hV n d).trans (congrArg (want m c (seqOf t) (headOf d) (placeOf d) n) hk.symm)) n d

set_option maxHeartbeats 400000 in
theorem invC (c : Dev nD) (t : Fin cfg0.N) (h0 : ¬t.val % 32 = 0) (h1 : 1 ≤ t.val % 32) (h2 : t.val % 32 = 31) (u : Fin cfg0.N) (hut : t.val = u.val + 1) (hu : Inv m c u) : Inv m c t := by
  have ht : t.val < 128 := t.isLt
  have hk : (chunkOf t).val = (chunkOf u).val + 1 := by show t.val % 32 = u.val % 32 + 1; omega
  have hs : seqOf t = seqOf u := Fin.ext (by show t.val / 32 = u.val / 32; omega)
  obtain ⟨hP, hV⟩ := hu
  obtain ⟨un, hun⟩ := u
  obtain rfl : un = t.val - 1 := by simp only at hut; omega
  rw [← hs] at hP hV
  have rows := fun (i : Fin 131) (d : Fin 3072) => rows_next _ _ _ (xs m c (seqOf t)) (chunkOf t) (rd0 m c t) (rd2 m c t) (rd3 m c t) _ _ hk hP i d
  refine ⟨fun i d => ?_, fun n d => ?_⟩
  · have e1 := leftCr m c t h0 h1 h2
    exact (congrFun e1 _).trans ((rowsC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) ((hcond0_2 t).mpr h2) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2 _ d).trans (rows i d))
  · have e2 := leftCs m c t h0 h1 h2
    refine (congrFun e2 (ix2 n d)).trans ?_
    obtain ⟨xe, hxe, hst⟩ := stateC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) ((hcond0_2 t).mpr h2) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2
    refine (hst n d).trans ?_
    exact step_pure xe _ _ _ _ _ _ _ (xs m c (seqOf t)) (ws m c) (bs m c) (ds m c (seqOf t)) (dbs m c) (als m c) (chunkOf t)
      (fun i d => (hxe _ d).trans (rows i d)) (rd7 m c t) (rd8 m c t) (rd4 m c t) (rd9 m c t) (rd10 m c t) (rd13 m c t)
      (fun n d => (hV n d).trans (congrArg (want m c (seqOf t) (headOf d) (placeOf d) n) hk.symm)) n d

theorem inv (c : Dev nD) : ∀ (n : ℕ) (hn : n < cfg0.N), Inv m c ⟨n, hn⟩ := by
  intro n
  induction n with
  | zero => intro hn; exact invA m c _ (by show 0 % 32 = 0; decide) (by show ¬1 ≤ 0 % 32; decide) (by show ¬0 % 32 = 31; decide)
  | succ n ih =>
    intro hn
    have hu := ih (by omega)
    by_cases h0 : (n + 1) % 32 = 0
    · exact invA m c ⟨n + 1, hn⟩ h0 (by show ¬1 ≤ (n + 1) % 32; omega) (by show ¬(n + 1) % 32 = 31; omega)
    · by_cases h2 : (n + 1) % 32 = 31
      · exact invC m c ⟨n + 1, hn⟩ h0 (by show 1 ≤ (n + 1) % 32; omega) h2 ⟨n, _⟩ rfl hu
      · exact invB m c ⟨n + 1, hn⟩ h0 (by show 1 ≤ (n + 1) % 32; omega) h2 ⟨n, _⟩ rfl hu

set_option maxHeartbeats 400000 in
theorem at_last (c : Dev nD) (t : Fin cfg0.N) (h0 : ¬t.val % 32 = 0) (h1 : 1 ≤ t.val % 32) (h2 : t.val % 32 = 31) (h : Fin 32) (p : Fin 64) (n : Fin 128) :
    ((outsAt0 m c t.val t.isLt).2.1 : FVec Ideal S1x32x64x128 .f32) (ix4 0 h p n)
      = ((outsAt0 m c t.val t.isLt).2.2.2 : FVec Ideal S128x2048 .f32) (ix2 n (⟨h.val * 64 + p.val, by omega⟩ : Fin 2048)) := by
  have e := lastC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) ((hcond0_1 t).mpr h1) ((hcond0_2 t).mpr h2) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2 h p n
  have e1 := leftCo m c t h0 h1 h2
  have e2 := leftCs m c t h0 h1 h2
  refine (congrFun e1 (ix4 0 h p n)).trans (Eq.trans ?_ (congrFun e2 (ix2 n (⟨h.val * 64 + p.val, by omega⟩ : Fin 2048))).symm)
  exact e

/-- What the last chunk of a sequence writes out. -/
theorem written (c : Dev nD) (t : Fin cfg0.N) (h2 : t.val % 32 = 31) (h : Fin 32) (p : Fin 64) (n : Fin 128) :
    ((outsAt0 m c t.val t.isLt).2.1 : FVec Ideal S1x32x64x128 .f32) (ix4 0 h p n) = want m c (seqOf t) h p n 32 := by
  have h0 : ¬t.val % 32 = 0 := by omega
  have h1 : 1 ≤ t.val % 32 := by omega
  refine (at_last m c t h0 h1 h2 h p n).trans ?_
  refine ((inv m c t.val t.isLt).2 _ _).trans ?_
  have e1 : headOf (⟨h.val * 64 + p.val, by omega⟩ : Fin 2048) = h := Fin.ext (by show (h.val * 64 + p.val) / 64 = h.val; omega)
  have e2 : placeOf (⟨h.val * 64 + p.val, by omega⟩ : Fin 2048) = p := Fin.ext (by show (h.val * 64 + p.val) % 64 = p.val; omega)
  have e3 : (chunkOf t).val + 1 = 32 := by show t.val % 32 + 1 = 32; omega
  rw [e1, e2]
  exact congrArg (want m c (seqOf t) h p n) e3

/-- The array of final states. -/
theorem final (c : Dev nD) (b : Fin 4) (h : Fin 32) (p : Fin 64) (n : Fin 128) :
    (G15 m c : FVec Ideal S4x32x64x128 .f32) (ix4 b h p n) = want m c b h p n 32 := by
  have ht : 32 * b.val + 31 < cfg0.N := by show 32 * b.val + 31 < 128; omega
  have hp : pt15Of (ix4 b h p n) = 32 * b.val + 31 := by
    show 32 * (1 * (b.val / 1 - 0) + 1 * (h.val / 32 - 0) + 1 * (p.val / 64 - 0) + 1 * (n.val / 128 - 0)) + 31 = 32 * b.val + 31
    omega
  have hl : loc15Of (ix4 b h p n) = ix4 0 h p n := funext fun a => Fin.ext (by
    match a with
    | 0 => show b.val % 1 = 0; omega
    | 1 => show h.val % 32 = h.val; omega
    | 2 => show p.val % 64 = p.val; omega
    | 3 => show n.val % 128 = n.val; omega)
  refine (dif_pos (hp ▸ ht)).trans ?_
  refine (congrArg (fun q => (q.2.1 : FVec Ideal S1x32x64x128 .f32) (loc15Of (ix4 b h p n))) (outsAt0_sweep m c (pt15Of (ix4 b h p n)) (hp ▸ ht)).symm).trans ?_
  rw [hl]
  have key : ∀ (k : ℕ) (hk : k < cfg0.N), k = 32 * b.val + 31 → ((outsAt0 m c k hk).2.1 : FVec Ideal S1x32x64x128 .f32) (ix4 0 h p n) = want m c b h p n 32 := by
    intro k hk e
    subst e
    refine (written m c ⟨_, hk⟩ (by show (32 * b.val + 31) % 32 = 31; omega) h p n).trans ?_
    have e : seqOf ⟨32 * b.val + 31, hk⟩ = b := Fin.ext (by show (32 * b.val + 31) / 32 = b.val; omega)
    rw [e]
  exact key _ _ hp

end Cert.KernelIdeal.Scan
end
-- ==== Proof.RScan.lean ====
module

public import proofs.«01_k».proof.Proof.Gen.ReferenceIdeal.Run
public import Idealize.ShloMosaic.Lib.Pipeline.ValueKit
public import Idealize.ShloMosaic.Lib.Pointwise
public import proofs.«01_k».proof.Proof.Recurrence

@[expose] public section

/-! The plain chunked scan, stage by stage: what each stage's array holds, and the entry of its loop over chunks. -/

set_option maxRecDepth 16384

noncomputable section

open Idealize.ShloMosaic Idealize.ShloMosaic.TcCoe Idealize.SL.Sem
open Idealize.ShloMosaic.StableHlo Idealize.ShloMosaic.Tactic

namespace Cert.ReferenceIdeal.Scan
open Cert.ReferenceIdeal Cert.ReferenceIdeal.Gen Cert.ReferenceIdeal.Value

/-- The input padded with three rows of zeros in front. -/
def padT (x : FVec Ideal S4x4096x3072 .f32) : FVec Ideal S4x4099x3072 .f32 :=
  concatenate S4x4099x3072 1 [⟨S4x3x3072, broadcastInDim S4x3x3072 ![] bcast_S_S4x3x3072 (constant S_ .f32 0x00000000#32)⟩, ⟨S4x4096x3072, x⟩] concatenates_S4x3x3072_S4x4096x3072_S4x4099x3072_d1

/-- One tap's weight over all rows. -/
def tapT (v : FVec Ideal S1x3072 .f32) : FVec Ideal S4x4096x3072 .f32 :=
  broadcastInDim S4x4096x3072 ![0, 1, 2] bcast_S1x1x3072_S4x4096x3072_0_1_2 (broadcastInDim S1x1x3072 ![2] bcast_S3072_S1x1x3072_2 (shapeCast S3072 v shapeCasts_S1x3072_S3072))

/-- The causal convolution before its activation. -/
def preT (x : FVec Ideal S4x4096x3072 .f32) (w : FVec Ideal S4x3072 .f32) (b : FVec Ideal S3072 .f32) : FVec Ideal S4x4096x3072 .f32 :=
  addf (broadcastInDim S4x4096x3072 ![0, 1, 2] bcast_S1x1x3072_S4x4096x3072_0_1_2 (broadcastInDim S1x1x3072 ![2] bcast_S3072_S1x1x3072_2 b))
    (addf (addf (addf (addf (broadcastInDim S4x4096x3072 ![] bcast_S_S4x4096x3072 (constant S_ .f32 0x00000000#32))
      (mulf (extractStridedSlice S4x4096x3072 ![0, 0, 0] (padT x) slices_S4x4099x3072_S4x4096x3072_0_0_0) (tapT (extractStridedSlice S1x3072 ![0, 0] w slices_S4x3072_S1x3072_0_0))))
      (mulf (extractStridedSlice S4x4096x3072 ![0, 1, 0] (padT x) slices_S4x4099x3072_S4x4096x3072_0_1_0) (tapT (extractStridedSlice S1x3072 ![1, 0] w slices_S4x3072_S1x3072_1_0))))
      (mulf (extractStridedSlice S4x4096x3072 ![0, 2, 0] (padT x) slices_S4x4099x3072_S4x4096x3072_0_2_0) (tapT (extractStridedSlice S1x3072 ![2, 0] w slices_S4x3072_S1x3072_2_0))))
      (mulf (extractStridedSlice S4x4096x3072 ![0, 3, 0] (padT x) slices_S4x4099x3072_S4x4096x3072_0_3_0) (tapT (extractStridedSlice S1x3072 ![3, 0] w slices_S4x3072_S1x3072_3_0))))

/-- The convolution with its activation. -/
def convT (v : FVec Ideal S4x4096x3072 .f32) : FVec Ideal S4x4096x3072 .f32 :=
  mulf v (Host.divf (broadcastInDim S4x4096x3072 ![] bcast_S_S4x4096x3072 (constant S_ .f32 0x3F800000#32))
    (addf (broadcastInDim S4x4096x3072 ![] bcast_S_S4x4096x3072 (constant S_ .f32 0x3F800000#32)) (Host.exp (Host.negf v))))

/-- The inner channels of the convolution, by heads and chunks. -/
def xT (v : FVec Ideal S4x4096x3072 .f32) : FVec Ideal S4x32x128x32x64 .f32 :=
  shapeCast S4x32x128x32x64 (shapeCast S4x4096x32x64 (extractStridedSlice S4x4096x2048 ![0, 0, 0] v slices_S4x4096x3072_S4x4096x2048_0_0_0) shapeCasts_S4x4096x2048_S4x4096x32x64) shapeCasts_S4x4096x32x64_S4x32x128x32x64

/-- The input projections of the convolution, repeated over the heads of a group, by chunks. -/
def bT (v : FVec Ideal S4x4096x3072 .f32) : FVec Ideal S4x32x128x32x128 .f32 :=
  shapeCast S4x32x128x32x128 (shapeCast S4x4096x32x128 (broadcastInDim S4x4096x4x8x128 ![0, 1, 2, 4] bcast_S4x4096x4x128_S4x4096x4x8x128_0_1_2_4
    (shapeCast S4x4096x4x128 (extractStridedSlice S4x4096x512 ![0, 0, 2048] v slices_S4x4096x3072_S4x4096x512_0_0_2048) shapeCasts_S4x4096x512_S4x4096x4x128)) shapeCasts_S4x4096x4x8x128_S4x4096x32x128) shapeCasts_S4x4096x32x128_S4x32x128x32x128

/-- The zero array the step sizes are compared with. -/
def zT : FVec Ideal S4x4096x32 .f32 := broadcastInDim S4x4096x32 ![] bcast_S_S4x4096x32 (constant S_ .f32 0x00000000#32)

/-- The step sizes before the softplus. -/
def dPreT (d : FVec Ideal S4x4096x32 .f32) (b : FVec Ideal S32 .f32) : FVec Ideal S4x4096x32 .f32 :=
  addf d (broadcastInDim S4x4096x32 ![0, 1, 2] bcast_S1x1x32_S4x4096x32_0_1_2 (broadcastInDim S1x1x32 ![2] bcast_S32_S1x1x32_2 b))

/-- The step sizes. -/
def dT (v : FVec Ideal S4x4096x32 .f32) : FVec Ideal S4x32x128x32 .f32 :=
  shapeCast S4x32x128x32 (select (cmpf .une (subf v zT) (subf v zT)) (addf v zT)
    (addf (maximumf v zT) (Host.log1p (Host.exp (Host.negf (Host.absf (subf v zT))))))) shapeCasts_S4x4096x32_S4x32x128x32

/-- The logarithms of the decays. -/
def laT (d : FVec Ideal S4x32x128x32 .f32) (a : FVec Ideal S32 .f32) : FVec Ideal S4x32x128x32 .f32 :=
  mulf d (broadcastInDim S4x32x128x32 ![0, 1, 2, 3] bcast_S1x1x1x32_S4x32x128x32_0_1_2_3 (broadcastInDim S1x1x1x32 ![3] bcast_S32_S1x1x1x32_3 (Host.negf (Host.exp a))))

/-- Their running sums inside each chunk. -/
def cumT (v : FVec Ideal S4x32x128x32 .f32) : FVec Ideal S4x32x128x32 .f32 :=
  Host.reduceWindowAdd ![1, 1, 128, 1] ![1, 1, 1, 1] ![0, 0, 127, 0] ![0, 0, 0, 0] v (broadcastInDim S_ ![] bcast_S_S_ (constant S_ .f32 0x00000000#32)) reduceWindows_S4x32x128x32_S4x32x128x32_w1s1p0_0_w1s1p0_0_w128s1p127_0_w1s1p0_0 h_S_

/-- Each chunk's own contribution to the state, by chunk. -/
def stT (x : FVec Ideal S4x32x128x32x64 .f32) (bb : FVec Ideal S4x32x128x32x128 .f32) (d a : FVec Ideal S4x32x128x32 .f32) : FVec Ideal S32x4x32x64x128 .f32 :=
  transpose S32x4x32x64x128 [1, 0, 2, 3, 4] (Host.dotGeneral (F := Ideal) dot_S4x32x128x32x64_S4x32x128x32x128_S4x32x32x64x128_2_2_4_4_013_013 none
    (mulf (broadcastInDim S4x32x128x32x64 ![0, 1, 2, 3, 4] bcast_S4x32x128x32x1_S4x32x128x32x64_0_1_2_3_4 (broadcastInDim S4x32x128x32x1 ![0, 1, 2, 3] bcast_S4x32x128x32_S4x32x128x32x1_0_1_2_3
      (mulf (Host.exp (subf (broadcastInDim S4x32x128x32 ![0, 1, 2, 3] bcast_S4x32x1x32_S4x32x128x32_0_1_2_3 (extractStridedSlice S4x32x1x32 ![0, 0, 127, 0] a slices_S4x32x128x32_S4x32x1x32_0_0_127_0)) a)) d))) x) bb)
    transposes_S4x32x32x64x128_S32x4x32x64x128_1_0_2_3_4

/-- Each chunk's decay of the state, by chunk. -/
def decT (a : FVec Ideal S4x32x128x32 .f32) : FVec Ideal S32x4x32 .f32 :=
  transpose S32x4x32 [1, 0, 2] (Host.exp (shapeCast S4x32x32 (extractStridedSlice S4x32x1x32 ![0, 0, 127, 0] a slices_S4x32x128x32_S4x32x1x32_0_0_127_0) shapeCasts_S4x32x1x32_S4x32x32)) transposes_S4x32x32_S32x4x32_1_0_2

variable (m : (ℓ : Loc nD τ sig) → Buf (Elt Ideal) ℓ)

/-- The convolution of the arguments. -/
def cvA (c : Dev nD) : FVec Ideal S4x4096x3072 .f32 :=
  convT (preT (m ((c.tc : Thread nD τ).loc main_arg1)) (m ((c.tc : Thread nD τ).loc main_arg3)) (m ((c.tc : Thread nD τ).loc main_arg4)))

/-- The step sizes of the arguments. -/
def dA (c : Dev nD) : FVec Ideal S4x32x128x32 .f32 :=
  dT (dPreT (m ((c.tc : Thread nD τ).loc main_arg2)) (m ((c.tc : Thread nD τ).loc main_arg5)))

/-- The running sums of the arguments. -/
def cumA (c : Dev nD) : FVec Ideal S4x32x128x32 .f32 := cumT (laT (dA m c) (m ((c.tc : Thread nD τ).loc main_arg6)))

set_option maxHeartbeats 2000000 in
theorem entry_dec (c : Dev nD) : entryContents preI m c (Proc.devRef .tc main_v69_1) = decT (cumA m c) := by
  simp only [entryContents, afterL_cons, afterL_nil]
  after_reads_simp
  rfl

set_option maxHeartbeats 2000000 in
theorem entry_st (c : Dev nD) : entryContents preI m c (Proc.devRef .tc main_v69_0) = stT (xT (cvA m c)) (bT (cvA m c)) (dA m c) (cumA m c) := by
  simp only [entryContents, afterL_cons, afterL_nil]
  after_reads_simp
  rfl

theorem entry_h (c : Dev nD) : entryContents preI m c (Proc.devRef .tc main_v69_3) = broadcastInDim S4x32x64x128 ![] bcast_S_S4x32x64x128 (constant (F := Ideal) S_ .f32 0x00000000#32) := by
  simp only [entryContents, afterL_cons, afterL_nil]
  after_reads_simp
  rfl

/-! ## The stages at an index -/

theorem padT_at (x : FVec Ideal S4x4096x3072 .f32) (b : Fin 4) (j : Fin 4099) (k : Fin 3072) :
    padT x (ix3 b j k) = Cert.Layer.padded (fun r d => x (ix3 b r d)) j.val k := by
  have e : padT x (ix3 b j k) = if h : j.val < 3 then 0 else x (ix3 b ⟨j.val - 3, by omega⟩ k) := by
    pointwise [padT]
  rw [e]
  unfold Cert.Layer.padded
  by_cases h : j.val < 3
  · rw [dif_pos h, dif_neg (by omega)]
  · rw [dif_neg h, dif_pos (by omega)]

theorem conv_at (x : FVec Ideal S4x4096x3072 .f32) (w : FVec Ideal S4x3072 .f32) (v : FVec Ideal S3072 .f32) (b : Fin 4) (r : Fin 4096) (k : Fin 3072) :
    convT (preT x w v) (ix3 b r k) = Cert.Layer.convAt (fun r d => x (ix3 b r d)) (fun i d => w (ix2 i d)) (fun d => v (ix1 d)) r k := by
  have e : ∀ v : FVec Ideal S4x4096x3072 .f32, convT v (ix3 b r k) = v (ix3 b r k) * Ideal.logistic (v (ix3 b r k)) := by
    intro v
    pointwise [convT]
    rfl
  have e' : preT x w v (ix3 b r k) = v (ix1 k) + (padT x (ix3 b ⟨r.val, by omega⟩ k) * w (ix2 0 k) + padT x (ix3 b ⟨1 + r.val, by omega⟩ k) * w (ix2 1 k)
      + padT x (ix3 b ⟨2 + r.val, by omega⟩ k) * w (ix2 2 k) + padT x (ix3 b ⟨3 + r.val, by omega⟩ k) * w (ix2 3 k)) := by
    pointwise [preT, tapT]
  rw [e, e']
  simp only [padT_at]
  rfl

theorem x_at (v : FVec Ideal S4x4096x3072 .f32) (b : Fin 4) (c : Fin 32) (s : Fin 128) (h : Fin 32) (p : Fin 64) :
    xT v (ix5 b c s h p) = v (ix3 b (Cert.Layer.row c s) ⟨h.val * 64 + p.val, by omega⟩) := by
  pointwise [xT]

theorem b_at (v : FVec Ideal S4x4096x3072 .f32) (b : Fin 4) (c : Fin 32) (s : Fin 128) (h : Fin 32) (n : Fin 128) :
    bT v (ix5 b c s h n) = v (ix3 b (Cert.Layer.row c s) ⟨2048 + (h.val / 8 * 128 + n.val), by omega⟩) := by
  pointwise [bT]

theorem d_at (d : FVec Ideal S4x4096x32 .f32) (v : FVec Ideal S32 .f32) (b : Fin 4) (c : Fin 32) (s : Fin 128) (h : Fin 32) :
    dT (dPreT d v) (ix4 b c s h) = Cert.Layer.stepAt (fun r h => d (ix3 b r h)) (fun h => v (ix1 h)) (Cert.Layer.row c s) h := by
  have e : ∀ v : FVec Ideal S4x4096x32 .f32, dT v (ix4 b c s h) = Cert.Layer.softplus (v (ix3 b (Cert.Layer.row c s) h)) := by
    intro v
    pointwise [dT, zT]
    rw [if_neg (by simp)]
    rfl
  rw [e]
  have e' : dPreT d v (ix3 b (Cert.Layer.row c s) h) = d (ix3 b (Cert.Layer.row c s) h) + v (ix1 h) := by
    pointwise [dPreT]
  rw [e']
  rfl

theorem la_at (v : FVec Ideal S4x32x128x32 .f32) (a : FVec Ideal S32 .f32) (b : Fin 4) (c : Fin 32) (s : Fin 128) (h : Fin 32) :
    laT v a (ix4 b c s h) = v (ix4 b c s h) * -Ideal.exp (a (ix1 h)) := by
  pointwise [laT]

/-- Where position `q` of the window that ends at row `s` lies, on each axis, before the padding is taken off. -/
def spot (b : Fin 4) (c : Fin 32) (s : Fin 128) (h : Fin 32) (q : (⟨4, ![1, 1, 128, 1]⟩ : Shape).Idx) (a : Fin 4) : ℕ :=
  (ix4 b c s h a).val * (![1, 1, 1, 1] : Fin 4 → ℕ) a + (q a).val

/-- What position `q` of that window adds. -/
def term (v : FVec Ideal S4x32x128x32 .f32) (b : Fin 4) (c : Fin 32) (s : Fin 128) (h : Fin 32) (q : (⟨4, ![1, 1, 128, 1]⟩ : Shape).Idx) : EReal :=
  if hin : ∀ a : Fin 4, (![0, 0, 127, 0] : Fin 4 → ℕ) a ≤ spot b c s h q a ∧ spot b c s h q a - (![0, 0, 127, 0] : Fin 4 → ℕ) a < S4x32x128x32.size a
    then v (fun a => ⟨spot b c s h q a - (![0, 0, 127, 0] : Fin 4 → ℕ) a, (hin a).2⟩) else 0

theorem term_at (v : FVec Ideal S4x32x128x32 .f32) (b : Fin 4) (c : Fin 32) (s : Fin 128) (h : Fin 32) (n : Fin 128) :
    term v b c s h (ix4 0 0 n 0) = if _h : 127 ≤ s.val + n.val then v (ix4 b c ⟨s.val + n.val - 127, by omega⟩ h) else 0 := by
  have e0 : spot b c s h (ix4 0 0 n 0) 0 = b.val := by show b.val * 1 + 0 = _; omega
  have e1 : spot b c s h (ix4 0 0 n 0) 1 = c.val := by show c.val * 1 + 0 = _; omega
  have e2 : spot b c s h (ix4 0 0 n 0) 2 = s.val + n.val := by show s.val * 1 + n.val = _; omega
  have e3 : spot b c s h (ix4 0 0 n 0) 3 = h.val := by show h.val * 1 + 0 = _; omega
  unfold term
  by_cases g : 127 ≤ s.val + n.val
  · have hin : ∀ a : Fin 4, (![0, 0, 127, 0] : Fin 4 → ℕ) a ≤ spot b c s h (ix4 0 0 n 0) a ∧ spot b c s h (ix4 0 0 n 0) a - (![0, 0, 127, 0] : Fin 4 → ℕ) a < S4x32x128x32.size a := by
      intro a
      match a with
      | 0 => rw [e0]; exact ⟨Nat.zero_le _, by show b.val - 0 < 4; omega⟩
      | 1 => rw [e1]; exact ⟨Nat.zero_le _, by show c.val - 0 < 32; omega⟩
      | 2 => rw [e2]; exact ⟨g, by show s.val + n.val - 127 < 128; omega⟩
      | 3 => rw [e3]; exact ⟨Nat.zero_le _, by show h.val - 0 < 32; omega⟩
    rw [dif_pos hin, dif_pos g]
    refine congrArg v (funext fun a => Fin.ext ?_)
    match a with
    | 0 => show spot b c s h (ix4 0 0 n 0) 0 - 0 = b.val; rw [e0]; rfl
    | 1 => show spot b c s h (ix4 0 0 n 0) 1 - 0 = c.val; rw [e1]; rfl
    | 2 => show spot b c s h (ix4 0 0 n 0) 2 - 127 = s.val + n.val - 127; rw [e2]
    | 3 => show spot b c s h (ix4 0 0 n 0) 3 - 0 = h.val; rw [e3]; rfl
  · rw [dif_neg g, dif_neg]
    intro hin
    have := (hin 2).1
    rw [e2] at this
    exact g this

theorem cum_at (v : FVec Ideal S4x32x128x32 .f32) (b : Fin 4) (c : Fin 32) (s : Fin 128) (h : Fin 32) :
    cumT v (ix4 b c s h) = ∑ q : Fin 128, if q.val ≤ s.val then v (ix4 b c q h) else 0 := by
  rw [← Cert.Layer.window_sum (fun q => v (ix4 b c q h)) s]
  have z : (broadcastInDim S_ ![] bcast_S_S_ (constant (F := Ideal) S_ .f32 0x00000000#32)) (Shape.Idx.first h_S_) = (0 : EReal) := by
    pointwise
  unfold cumT Host.reduceWindowAdd
  rw [z, Ideal.hostReduceWindowAdd_def]
  refine (Cert.Layer.window_fold ![1, 1, 128, 1] ![1, 1, 1, 1] ![0, 0, 127, 0] ![0, 0, 0, 0] reduceWindows_S4x32x128x32_S4x32x128x32_w1s1p0_0_w1s1p0_0_w128s1p127_0_w1s1p0_0 v (ix4 b c s h)
    (term v b c s h) (fun q hin => dif_pos hin) (fun q hin => dif_neg hin)).trans ?_
  rw [sum_idx4]
  simp only [Finset.univ_unique, Finset.sum_singleton]
  exact Finset.sum_congr rfl fun n _ => term_at v b c s h n

theorem st_at (x : FVec Ideal S4x32x128x32x64 .f32) (bb : FVec Ideal S4x32x128x32x128 .f32) (d a : FVec Ideal S4x32x128x32 .f32) (b : Fin 4) (c : Fin 32) (h : Fin 32) (p : Fin 64) (n : Fin 128) :
    stT x bb d a (ix5 c b h p n) = ∑ s : Fin 128, Ideal.exp (a (ix4 b c 127 h) - a (ix4 b c s h)) * d (ix4 b c s h) * x (ix5 b c s h p) * bb (ix5 b c s h n) := by
  pointwise [stT]

theorem dec_at (a : FVec Ideal S4x32x128x32 .f32) (b : Fin 4) (c : Fin 32) (h : Fin 32) : decT a (ix3 c b h) = Ideal.exp (a (ix4 b c 127 h)) := by
  pointwise [decT]

end Cert.ReferenceIdeal.Scan

end
-- ==== Proof.RState.lean ====
module

public import proofs.«01_k».proof.Proof.RScan
public import Idealize.ShloMosaic.Lib.DynamicIndex

@[expose] public section

/-! The plain scan's loop over chunks leaves the state of the recurrence. -/

set_option maxRecDepth 16384

noncomputable section

open Idealize.ShloMosaic Idealize.ShloMosaic.TcCoe Idealize.SL.Sem
open Idealize.ShloMosaic.StableHlo Idealize.ShloMosaic.Tactic

namespace Cert.ReferenceIdeal.Scan
open Cert.ReferenceIdeal Cert.ReferenceIdeal.Gen Cert.ReferenceIdeal.Value

/-- A chunk's decays taken out by its number. -/
def decSlice (d : FVec Ideal S32x4x32 .f32) (start : Fin 3 → Int) : FVec Ideal S4x32 .f32 :=
  shapeCast S4x32 (Host.dynamicSlice S1x4x32 d start sliceFits_S32x4x32_S1x4x32) shapeCasts_S1x4x32_S4x32

/-- A chunk's contribution taken out by its number. -/
def stSlice (s : FVec Ideal S32x4x32x64x128 .f32) (start : Fin 5 → Int) : FVec Ideal S4x32x64x128 .f32 :=
  shapeCast S4x32x64x128 (Host.dynamicSlice S1x4x32x64x128 s start sliceFits_S32x4x32x64x128_S1x4x32x64x128) shapeCasts_S1x4x32x64x128_S4x32x64x128

theorem decSlice_at (d : FVec Ideal S32x4x32 .f32) (start : Fin 3 → Int) (k : Fin 32) (h0 : start 0 = k.val) (h1 : start 1 = 0) (h2 : start 2 = 0)
    (b : Fin 4) (h : Fin 32) : decSlice d start (ix2 b h) = d (ix3 k b h) := by
  have e : Host.dynamicSlice S1x4x32 d start sliceFits_S32x4x32_S1x4x32 = extractStridedSlice S1x4x32 ![k.val, 0, 0] d ⟨rfl, fun a => by
      match a with
      | 0 => show k.val + 1 ≤ 32; omega
      | 1 => show 0 + 4 ≤ 4; omega
      | 2 => show 0 + 32 ≤ 32; omega⟩ :=
    Host.dynamicSlice_eq_extractStridedSlice _ _ _ _ _ _ fun a => by
      match a with
      | 0 => exact h0
      | 1 => exact h1
      | 2 => exact h2
  unfold decSlice
  rw [e]
  pointwise

theorem stSlice_at (s : FVec Ideal S32x4x32x64x128 .f32) (start : Fin 5 → Int) (k : Fin 32) (h0 : start 0 = k.val) (h1 : start 1 = 0) (h2 : start 2 = 0)
    (h3 : start 3 = 0) (h4 : start 4 = 0)
    (b : Fin 4) (h : Fin 32) (p : Fin 64) (n : Fin 128) : stSlice s start (ix4 b h p n) = s (ix5 k b h p n) := by
  have e : Host.dynamicSlice S1x4x32x64x128 s start sliceFits_S32x4x32x64x128_S1x4x32x64x128 = extractStridedSlice S1x4x32x64x128 ![k.val, 0, 0, 0, 0] s ⟨rfl, fun a => by
      match a with
      | 0 => show k.val + 1 ≤ 32; omega
      | 1 => show 0 + 4 ≤ 4; omega
      | 2 => show 0 + 32 ≤ 32; omega
      | 3 => show 0 + 64 ≤ 64; omega
      | 4 => show 0 + 128 ≤ 128; omega⟩ :=
    Host.dynamicSlice_eq_extractStridedSlice _ _ _ _ _ _ fun a => by
      match a with
      | 0 => exact h0
      | 1 => exact h1
      | 2 => exact h2
      | 3 => exact h3
      | 4 => exact h4
  unfold stSlice
  rw [e]
  pointwise

/-- One trip of the loop on the state. -/
def tripT (hc : FVec Ideal S4x32x64x128 .f32) (d : FVec Ideal S4x32 .f32) (s : FVec Ideal S4x32x64x128 .f32) : FVec Ideal S4x32x64x128 .f32 :=
  addf (mulf hc (broadcastInDim S4x32x64x128 ![0, 1, 2, 3] bcast_S4x32x1x1_S4x32x64x128_0_1_2_3 (broadcastInDim S4x32x1x1 ![0, 1] bcast_S4x32_S4x32x1x1_0_1 d))) s

theorem tripT_at (hc : FVec Ideal S4x32x64x128 .f32) (d : FVec Ideal S4x32 .f32) (s : FVec Ideal S4x32x64x128 .f32) (b : Fin 4) (h : Fin 32) (p : Fin 64) (n : Fin 128) :
    tripT hc d s (ix4 b h p n) = hc (ix4 b h p n) * d (ix2 b h) + s (ix4 b h p n) := by
  pointwise [tripT]

theorem step_eq (V : Valuation τ sig (Elt Ideal)) : step_main_v69_3 V = tripT (V (Proc.devRef .tc main_v69_3))
    (decSlice (V (Proc.devRef .tc main_v69_1)) (fun k => (((![V (Proc.devRef .tc main_v69_2), constantI S_ 32 0#32, constantI S_ 32 0#32] : Fin 3 → (⟨S_, .i32⟩ : BufTy).Contents (Elt Ideal))) k (Shape.Idx.first h_S_)).toInt))
    (stSlice (V (Proc.devRef .tc main_v69_0)) (fun k => (((![V (Proc.devRef .tc main_v69_2), constantI S_ 32 0#32, constantI S_ 32 0#32, constantI S_ 32 0#32, constantI S_ 32 0#32] : Fin 5 → (⟨S_, .i32⟩ : BufTy).Contents (Elt Ideal))) k (Shape.Idx.first h_S_)).toInt)) := rfl

variable (m : (ℓ : Loc nD τ sig) → Buf (Elt Ideal) ℓ)

theorem iter_0 (c : Dev nD) (k : ℕ) : (STEP^[k] (entryContents preI m c)) (Proc.devRef .tc main_v69_0) = entryContents preI m c (Proc.devRef .tc main_v69_0) := by
  induction k with
  | zero => rfl
  | succ k ih => rw [Function.iterate_succ_apply', STEP_main_v69_0, ih]

theorem iter_1 (c : Dev nD) (k : ℕ) : (STEP^[k] (entryContents preI m c)) (Proc.devRef .tc main_v69_1) = entryContents preI m c (Proc.devRef .tc main_v69_1) := by
  induction k with
  | zero => rfl
  | succ k ih => rw [Function.iterate_succ_apply', STEP_main_v69_1, ih]

theorem entry_c (c : Dev nD) : entryContents preI m c (Proc.devRef .tc main_v69_2) = constantI S_ 32 0#32 := by
  simp only [entryContents, afterL_cons, afterL_nil]
  after_reads_simp
  rfl

theorem iter_2 (c : Dev nD) (k : ℕ) : (STEP^[k] (entryContents preI m c)) (Proc.devRef .tc main_v69_2) = constantI S_ 32 (BitVec.ofNat 32 k) := by
  induction k with
  | zero => exact entry_c m c
  | succ k ih =>
    rw [Function.iterate_succ_apply', STEP_main_v69_2]
    unfold step_main_v69_2
    rw [ih]
    funext i
    show BitVec.ofNat 32 k + 1#32 = BitVec.ofNat 32 (k + 1)
    rw [BitVec.ofNat_add]

theorem toInt_small (k : Fin 32) : (BitVec.ofNat 32 k.val).toInt = k.val := by
  revert k; decide

/-- The convolution at every row. -/
def cv (c : Dev nD) (b : Fin 4) (r : Fin 4096) (d : Fin 3072) : EReal :=
  Cert.Layer.convAt (fun r d => (m ((c.tc : Thread nD τ).loc main_arg1) : FVec Ideal S4x4096x3072 .f32) (ix3 b r d))
    (fun j d => (m ((c.tc : Thread nD τ).loc main_arg3) : FVec Ideal S4x3072 .f32) (ix2 j d))
    (fun d => (m ((c.tc : Thread nD τ).loc main_arg4) : FVec Ideal S3072 .f32) (ix1 d)) r d

/-- The step size at every row. -/
def dl (c : Dev nD) (b : Fin 4) (r : Fin 4096) (h : Fin 32) : EReal :=
  Cert.Layer.stepAt (fun r h => (m ((c.tc : Thread nD τ).loc main_arg2) : FVec Ideal S4x4096x32 .f32) (ix3 b r h))
    (fun h => (m ((c.tc : Thread nD τ).loc main_arg5) : FVec Ideal S32 .f32) (ix1 h)) r h

/-- The decay parameters. -/
def al (c : Dev nD) (h : Fin 32) : EReal := (m ((c.tc : Thread nD τ).loc main_arg6) : FVec Ideal S32 .f32) (ix1 h)

theorem cvA_at (c : Dev nD) (b : Fin 4) (r : Fin 4096) (d : Fin 3072) : cvA m c (ix3 b r d) = cv m c b r d := conv_at _ _ _ _ _ _

theorem dA_at (c : Dev nD) (b : Fin 4) (k : Fin 32) (s : Fin 128) (h : Fin 32) : dA m c (ix4 b k s h) = dl m c b (Cert.Layer.row k s) h := d_at _ _ _ _ _ _

theorem cumA_at (c : Dev nD) (b : Fin 4) (k : Fin 32) (s : Fin 128) (h : Fin 32) :
    cumA m c (ix4 b k s h) = Cert.Layer.cumAt (dl m c b) (al m c) k s h := by
  unfold cumA Cert.Layer.cumAt
  rw [cum_at]
  refine Finset.sum_congr rfl fun q _ => ?_
  rw [la_at, dA_at]
  rfl

theorem decA_at (c : Dev nD) (b : Fin 4) (k : Fin 32) (h : Fin 32) :
    decT (cumA m c) (ix3 k b h) = Ideal.exp (Cert.Layer.cumAt (dl m c b) (al m c) k 127 h) := by
  rw [dec_at, cumA_at]

theorem stA_at (c : Dev nD) (b : Fin 4) (k : Fin 32) (h : Fin 32) (p : Fin 64) (n : Fin 128) :
    stT (xT (cvA m c)) (bT (cvA m c)) (dA m c) (cumA m c) (ix5 k b h p n) = Cert.Layer.chunkState (cv m c b) (dl m c b) (al m c) k h p n := by
  rw [st_at]
  unfold Cert.Layer.chunkState
  refine Finset.sum_congr rfl fun s _ => ?_
  rw [x_at, b_at, cumA_at, cumA_at, dA_at, cvA_at, cvA_at]

theorem iter_3 (c : Dev nD) (b : Fin 4) (h : Fin 32) (p : Fin 64) (n : Fin 128) (k : ℕ) (hk : k ≤ 32) :
    ((STEP^[k] (entryContents preI m c)) (Proc.devRef .tc main_v69_3) : FVec Ideal S4x32x64x128 .f32) (ix4 b h p n)
      = Cert.Layer.stateAt (cv m c b) (dl m c b) (al m c) h p n k := by
  induction k with
  | zero =>
    show (entryContents preI m c (Proc.devRef .tc main_v69_3) : FVec Ideal S4x32x64x128 .f32) (ix4 b h p n) = _
    rw [entry_h]
    pointwise
    rfl
  | succ k ih =>
    rw [Function.iterate_succ_apply', STEP_main_v69_3, step_eq, tripT_at, ih (by omega), iter_0, iter_1, iter_2, entry_dec, entry_st]
    rw [decSlice_at _ _ ⟨k, by omega⟩ (toInt_small ⟨k, by omega⟩) rfl rfl, stSlice_at _ _ ⟨k, by omega⟩ (toInt_small ⟨k, by omega⟩) rfl rfl rfl rfl, decA_at, stA_at]
    exact (Cert.Layer.stateAt_succ _ _ _ _ _ _ ⟨k, by omega⟩).symm

/-- The loop leaves the state of the recurrence after all the chunks. -/
theorem state (c : Dev nD) (b : Fin 4) (h : Fin 32) (p : Fin 64) (n : Fin 128) :
    ((STEP^[32] (entryContents preI m c)) (Proc.devRef .tc main_v69_3) : FVec Ideal S4x32x64x128 .f32) (ix4 b h p n)
      = Cert.Layer.stateAt (cv m c b) (dl m c b) (al m c) h p n 32 := iter_3 m c b h p n 32 (le_refl _)

end Cert.ReferenceIdeal.Scan

end
-- ==== Proof.Ssd.lean ====
/- The recurrence of the prompt: the states the call leaves are the reference's. -/
module

public import proofs.«01_k».proof.Defs
public import proofs.«01_k».proof.Proof.Gen.Kernel.Frame
public import proofs.«01_k».proof.Proof.Scan
public import proofs.«01_k».proof.Proof.RState
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.SsdClaims

theorem frame_p : Cert.quiescent_Kernel := fun m g _ => Cert.Kernel.Gen.frame m g

theorem frame_pi : Cert.quiescent_KernelIdeal := fun m g _ => Cert.KernelIdeal.Gen.frame m g

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal := trivial

/-- The two programs are given the same arguments. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

theorem states (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (same : Same m m' c) :
    Cert.ReferenceIdeal.Value.STEP^[32] (StableHlo.entryContents Cert.ReferenceIdeal.Value.preI m' c) (Proc.tc.devRef Cert.ReferenceIdeal.main_v69_3)
      = Cert.KernelIdeal.Value.G15 m c := by
  obtain ⟨h1, h2, h3, h4, h5, h6⟩ := same
  have key : ∀ (b : Fin 4) (h : Fin 32) (p : Fin 64) (n : Fin 128),
      (Cert.ReferenceIdeal.Value.STEP^[32] (StableHlo.entryContents Cert.ReferenceIdeal.Value.preI m' c) (Proc.tc.devRef Cert.ReferenceIdeal.main_v69_3)
        : FVec Ideal Cert.KernelIdeal.S4x32x64x128 .f32) (ix4 b h p n) = (Cert.KernelIdeal.Value.G15 m c : FVec Ideal Cert.KernelIdeal.S4x32x64x128 .f32) (ix4 b h p n) := by
    intro b h p n
    have e1 : Cert.ReferenceIdeal.Scan.cv m' c b
        = Cert.Layer.convAt (Cert.KernelIdeal.Scan.xs m c b) (Cert.KernelIdeal.Scan.ws m c) (Cert.KernelIdeal.Scan.bs m c) :=
      congr (congr (congrArg Cert.Layer.convAt (funext fun r => funext fun d => congrFun h1 (ix3 b r d))) (funext fun j => funext fun d => congrFun h3 (ix2 j d)))
        (funext fun d => congrFun h4 (ix1 d))
    have e2 : Cert.ReferenceIdeal.Scan.dl m' c b = Cert.Layer.stepAt (Cert.KernelIdeal.Scan.ds m c b) (Cert.KernelIdeal.Scan.dbs m c) :=
      congr (congrArg Cert.Layer.stepAt (funext fun r => funext fun q => congrFun h2 (ix3 b r q))) (funext fun q => congrFun h5 (ix1 q))
    have e3 : Cert.ReferenceIdeal.Scan.al m' c = Cert.KernelIdeal.Scan.als m c := funext fun q => congrFun h6 (ix1 q)
    refine (Cert.ReferenceIdeal.Scan.state m' c b h p n).trans (Eq.trans ?_ (Cert.KernelIdeal.Scan.final m c b h p n).symm)
    rw [e1, e2, e3]
  have all : ∀ i : Cert.KernelIdeal.S4x32x64x128.Idx,
      (Cert.ReferenceIdeal.Value.STEP^[32] (StableHlo.entryContents Cert.ReferenceIdeal.Value.preI m' c) (Proc.tc.devRef Cert.ReferenceIdeal.main_v69_3)
        : FVec Ideal Cert.KernelIdeal.S4x32x64x128 .f32) i = (Cert.KernelIdeal.Value.G15 m c : FVec Ideal Cert.KernelIdeal.S4x32x64x128 .f32) i := by
    intro i
    idx_vars i
    exact key _ _ _ _
  exact funext all

set_option maxRecDepth 10000 in
/-- The final states of every head of every sequence are the recurrence's. -/
theorem algebraic : Cert.algebraic_KernelIdeal_ReferenceIdeal := by
  pair_intro
  · run_from Cert.KernelIdeal.Value.run m g
  · have hsame : ∀ c, Same m m' c := fun c => ⟨(hagree c).2.1, (hagree c).2.2.1, (hagree c).2.2.2.1, (hagree c).2.2.2.2.1, (hagree c).2.2.2.2.2.1, (hagree c).2.2.2.2.2.2.1⟩
    clear hagree
    run_from Cert.ReferenceIdeal.Value.run m' g'
    exact states m m' c (hsame c)

end Cert.SsdClaims
end
-- ==== Proof.lean ====
/-
  The claim: each kernel call of the layer taken here, read over the extended reals, computes what the plain
  formulas of the layer compute. The mathematics is in the modules imported; here the runs are joined to it.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Closing
public import proofs.«01_k».proof.Proof.Gen.Kernel3.Frame
public import proofs.«01_k».proof.Proof.Gen.Kernel3Ideal.Value
public import proofs.«01_k».proof.Proof.Gen.Reference3Ideal.Run
public import proofs.«01_k».proof.Proof.Mixer
public import proofs.«01_k».proof.Proof.Gen.Kernel4.Frame
public import proofs.«01_k».proof.Proof.Gen.Kernel4Ideal.Value
public import proofs.«01_k».proof.Proof.Gen.Reference4Ideal.Run
public import proofs.«01_k».proof.Proof.Projection
public import proofs.«01_k».proof.Proof.Gen.Kernel5.Frame
public import proofs.«01_k».proof.Proof.Gen.Kernel5Ideal.Value
public import proofs.«01_k».proof.Proof.Gen.Reference5Ideal.Run
public import proofs.«01_k».proof.Proof.Merge
public import proofs.«01_k».proof.Proof.Gen.Kernel6.Frame
public import proofs.«01_k».proof.Proof.Gen.Kernel6Ideal.Value
public import proofs.«01_k».proof.Proof.Gen.Reference6Ideal.Run
public import proofs.«01_k».proof.Proof.ClosingSample
public import proofs.«01_k».proof.Proof.Gen.Kernel7.Frame
public import proofs.«01_k».proof.Proof.Gen.Kernel7Ideal.Frame
public import proofs.«01_k».proof.Proof.Gen.Reference7Ideal.Run
public import proofs.«01_k».proof.Proof.Tail
public import proofs.«01_k».proof.Proof.Gen.Kernel8.Frame
public import proofs.«01_k».proof.Proof.Gen.Kernel8Ideal.Frame
public import proofs.«01_k».proof.Proof.Gen.Reference8Ideal.Run
public import proofs.«01_k».proof.Proof.TailSample
public import proofs.«01_k».proof.Proof.Gen.Kernel9.Frame
public import proofs.«01_k».proof.Proof.Gen.Kernel9Ideal.Value
public import proofs.«01_k».proof.Proof.Gen.Reference9Ideal.Run
public import proofs.«01_k».proof.Proof.Keys
public import proofs.«01_k».proof.Proof.Ssd
public import Idealize.ShloMosaic.Lib.Claim

@[expose] public section

noncomputable section

namespace Cert.Proof

open Idealize.ShloMosaic Idealize.SL.Sem

/-! ## The feed-forward with the closing norm -/

theorem frame_Kernel2 : Cert.quiescent_Kernel2 := fun m g _ => Cert.Kernel2.Gen.frame m g

theorem frame_Kernel2Ideal : Cert.quiescent_Kernel2Ideal := fun m g _ => Cert.Kernel2Ideal.Gen.frame m g

theorem frame_Reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem preserves_Kernel2 : Cert.preserves_Kernel2_Kernel2Ideal := trivial

set_option maxRecDepth 10000 in
/-- The array the kernel leaves is the one the reference computes. -/
theorem algebraic_Kernel2 : Cert.algebraic_Kernel2Ideal_Reference2Ideal := by
  pair_intro
  · run_from Cert.Kernel2Ideal.Value.run_blocks m g
  · have hsame : ∀ c, Cert.Kernel2Ideal.Mixer.Same m m' c := fun c => hagree c
    clear hagree
    run_from Cert.Reference2Ideal.Value.run m' g'
    exact (Cert.Kernel2Ideal.Mixer.final m m' c (hsame c)).symm

/-! ## The feed-forward -/

theorem frame_Kernel3 : Cert.quiescent_Kernel3 := fun m g _ => Cert.Kernel3.Gen.frame m g

theorem frame_Kernel3Ideal : Cert.quiescent_Kernel3Ideal := fun m g _ => Cert.Kernel3Ideal.Gen.frame m g

theorem frame_Reference3Ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem preserves_Kernel3 : Cert.preserves_Kernel3_Kernel3Ideal := trivial

set_option maxRecDepth 10000 in
/-- The array the kernel leaves is the one the reference computes. -/
theorem algebraic_Kernel3 : Cert.algebraic_Kernel3Ideal_Reference3Ideal := by
  pair_intro
  · run_from Cert.Kernel3Ideal.Value.run_blocks m g
  · have hsame : ∀ c, Cert.Kernel3Ideal.Mixer.Same m m' c := fun c => hagree c
    clear hagree
    run_from Cert.Reference3Ideal.Value.run m' g'
    exact (Cert.Kernel3Ideal.Mixer.final m m' c (hsame c)).symm

/-! ## The input projection -/

theorem frame_Kernel4 : Cert.quiescent_Kernel4 := fun m g _ => Cert.Kernel4.Gen.frame m g

theorem frame_Kernel4Ideal : Cert.quiescent_Kernel4Ideal := fun m g _ => Cert.Kernel4Ideal.Gen.frame m g

theorem frame_Reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem preserves_Kernel4 : Cert.preserves_Kernel4_Kernel4Ideal := trivial

set_option maxRecDepth 10000 in
/-- The array the kernel leaves is the one the reference computes. -/
theorem algebraic_Kernel4 : Cert.algebraic_Kernel4Ideal_Reference4Ideal := by
  pair_intro
  · run_from Cert.Kernel4Ideal.Value.run_blocks m g
  · have hsame : ∀ c, Cert.Kernel4Ideal.Projection.Same m m' c := fun c => hagree c
    clear hagree
    run_from Cert.Reference4Ideal.Value.run m' g'
    exact (Cert.Kernel4Ideal.Projection.final m m' c (hsame c)).symm

/-! ## The merge of the branches -/

theorem frame_Kernel5 : Cert.quiescent_Kernel5 := fun m g _ => Cert.Kernel5.Gen.frame m g

theorem frame_Kernel5Ideal : Cert.quiescent_Kernel5Ideal := fun m g _ => Cert.Kernel5Ideal.Gen.frame m g

theorem frame_Reference5Ideal : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem preserves_Kernel5 : Cert.preserves_Kernel5_Kernel5Ideal := trivial

set_option maxRecDepth 10000 in
/-- The array the kernel leaves is the one the reference computes. -/
theorem algebraic_Kernel5 : Cert.algebraic_Kernel5Ideal_Reference5Ideal := by
  pair_intro
  · run_from Cert.Kernel5Ideal.Value.run_blocks m g
  · have hsame : ∀ c, Cert.Kernel5Ideal.Merge.Same m m' c := fun c => hagree c
    clear hagree
    run_from Cert.Reference5Ideal.Value.run m' g'
    exact (Cert.Kernel5Ideal.Merge.final m m' c (hsame c)).symm

/-! ## The feed-forward that closes a sampled step -/

theorem frame_Kernel6 : Cert.quiescent_Kernel6 := fun m g _ => Cert.Kernel6.Gen.frame m g

theorem frame_Kernel6Ideal : Cert.quiescent_Kernel6Ideal := fun m g _ => Cert.Kernel6Ideal.Gen.frame m g

theorem frame_Reference6Ideal : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem preserves_Kernel6 : Cert.preserves_Kernel6_Kernel6Ideal := trivial

set_option maxRecDepth 10000 in
/-- The array the kernel leaves is the one the reference computes. -/
theorem algebraic_Kernel6 : Cert.algebraic_Kernel6Ideal_Reference6Ideal := by
  pair_intro
  · run_from Cert.Kernel6Ideal.Value.run_blocks m g
  · have hsame : ∀ c, Cert.Kernel6Ideal.Mixer.Same m m' c := fun c => hagree c
    clear hagree
    run_from Cert.Reference6Ideal.Value.run m' g'
    exact (Cert.Kernel6Ideal.Mixer.final m m' c (hsame c)).symm

/-! ## The channels kept from a prompt -/

theorem frame_Kernel7 : Cert.quiescent_Kernel7 := fun m g _ => Cert.Kernel7.Gen.frame m g

theorem frame_Kernel7Ideal : Cert.quiescent_Kernel7Ideal := fun m g _ => Cert.Kernel7Ideal.Gen.frame m g

theorem frame_Reference7Ideal : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem preserves_Kernel7 : Cert.preserves_Kernel7_Kernel7Ideal := trivial

set_option maxRecDepth 10000 in
/-- The array the kernel leaves is the one the reference computes. -/
theorem algebraic_Kernel7 : Cert.algebraic_Kernel7Ideal_Reference7Ideal := by
  pair_intro
  · run_from Cert.Kernel7Ideal.Gen.run_main m g
    · exact Cert.Kernel7Ideal.Gen.W_main_arg0 m _ c
    · exact Cert.Kernel7Ideal.Gen.W_main_arg1 m _ c
    · exact Cert.Kernel7Ideal.Gen.W_main_arg2 m _ c
    · exact Cert.Kernel7Ideal.Gen.W_main_arg3 m _ c
    · exact Cert.Kernel7Ideal.Gen.W_main_arg4 m _ c
  · have hsame : ∀ c, Cert.Kernel7Ideal.Tail.Same m m' c := fun c => hagree c
    clear hagree
    run_from Cert.Reference7Ideal.Value.run m' g'
    exact ((Cert.Kernel7Ideal.Tail.tail_eq m c).trans (Cert.Kernel7Ideal.Tail.final m m' c (hsame c))).symm

/-! ## The channels kept from a sampled step -/

theorem frame_Kernel8 : Cert.quiescent_Kernel8 := fun m g _ => Cert.Kernel8.Gen.frame m g

theorem frame_Kernel8Ideal : Cert.quiescent_Kernel8Ideal := fun m g _ => Cert.Kernel8Ideal.Gen.frame m g

theorem frame_Reference8Ideal : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem preserves_Kernel8 : Cert.preserves_Kernel8_Kernel8Ideal := trivial

set_option maxRecDepth 10000 in
/-- The array the kernel leaves is the one the reference computes. -/
theorem algebraic_Kernel8 : Cert.algebraic_Kernel8Ideal_Reference8Ideal := by
  pair_intro
  · run_from Cert.Kernel8Ideal.Gen.run_main m g
    · exact Cert.Kernel8Ideal.Gen.W_main_arg0 m _ c
    · exact Cert.Kernel8Ideal.Gen.W_main_arg1 m _ c
    · exact Cert.Kernel8Ideal.Gen.W_main_arg2 m _ c
    · exact Cert.Kernel8Ideal.Gen.W_main_arg3 m _ c
    · exact Cert.Kernel8Ideal.Gen.W_main_arg4 m _ c
    · exact Cert.Kernel8Ideal.Gen.W_main_arg5 m _ c
  · have hsame : ∀ c, Cert.Kernel8Ideal.Tail.Same m m' c := fun c => hagree c
    clear hagree
    run_from Cert.Reference8Ideal.Value.run m' g'
    exact ((Cert.Kernel8Ideal.Tail.tail_eq m c).trans (Cert.Kernel8Ideal.Tail.final m m' c (hsame c))).symm

/-! ## The keys and values of a prompt -/

theorem frame_Kernel9 : Cert.quiescent_Kernel9 := fun m g _ => Cert.Kernel9.Gen.frame m g

theorem frame_Kernel9Ideal : Cert.quiescent_Kernel9Ideal := fun m g _ => Cert.Kernel9Ideal.Gen.frame m g

theorem frame_Reference9Ideal : Cert.quiescent_Reference9Ideal := fun m g _ =>
  (θ_run Cert.Reference9Ideal.defs _ _).mono (fun r h => ⟨fun c => (h c).2.2, sem_eq_zero_of_no_sems (by decide) r.2⟩)
    (Cert.Reference9Ideal.Value.run (F := Ideal) m g)

theorem preserves_Kernel9 : Cert.preserves_Kernel9_Kernel9Ideal := trivial

set_option maxRecDepth 10000 in
/-- The array the kernel leaves is the one the reference computes. -/
theorem algebraic_Kernel9 : Cert.algebraic_Kernel9Ideal_Reference9Ideal := by
  pair_intro
  · run_from Cert.Kernel9Ideal.Value.run_blocks m g
  · have hsame : ∀ c, Cert.Kernel9Ideal.Keys.Same m m' c := fun c => hagree c
    clear hagree
    run_from Cert.Reference9Ideal.Value.run m' g'
    · exact (Cert.Kernel9Ideal.Keys.final_keys m m' c (hsame c)).symm
    · exact (Cert.Kernel9Ideal.Keys.final_values m m' c (hsame c)).symm

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.SsdClaims.frame_p,
    Cert.SsdClaims.frame_pi,
    Cert.SsdClaims.frame_ri,
    frame_Kernel2,
    frame_Kernel2Ideal,
    frame_Reference2Ideal,
    frame_Kernel3,
    frame_Kernel3Ideal,
    frame_Reference3Ideal,
    frame_Kernel4,
    frame_Kernel4Ideal,
    frame_Reference4Ideal,
    frame_Kernel5,
    frame_Kernel5Ideal,
    frame_Reference5Ideal,
    frame_Kernel6,
    frame_Kernel6Ideal,
    frame_Reference6Ideal,
    frame_Kernel7,
    frame_Kernel7Ideal,
    frame_Reference7Ideal,
    frame_Kernel8,
    frame_Kernel8Ideal,
    frame_Reference8Ideal,
    frame_Kernel9,
    frame_Kernel9Ideal,
    frame_Reference9Ideal,
    Cert.SsdClaims.preserves,
    Cert.SsdClaims.algebraic,
    preserves_Kernel2,
    algebraic_Kernel2,
    preserves_Kernel3,
    algebraic_Kernel3,
    preserves_Kernel4,
    algebraic_Kernel4,
    preserves_Kernel5,
    algebraic_Kernel5,
    preserves_Kernel6,
    algebraic_Kernel6,
    preserves_Kernel7,
    algebraic_Kernel7,
    preserves_Kernel8,
    algebraic_Kernel8,
    preserves_Kernel9,
    algebraic_Kernel9⟩

end Cert.Proof

end
